-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v18)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v18) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v42) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v79)) (v1 : (c : Dev Cert.Kernel4Ideal.nD) → Buf (Elt Ideal) ((c.tc : Thread Cert.Kernel4Ideal.nD Cert.Kernel4Ideal.τ).loc Cert.Kernel4Ideal.main_v80)) (v2 : (c : Dev Cert.Kernel4Ideal.nD) → Buf (Elt Ideal) ((c.tc : Thread Cert.Kernel4Ideal.nD Cert.Kernel4Ideal.τ).loc Cert.Kernel4Ideal.main_v81)) (v3 : (c : Dev Cert.Kernel4Ideal.nD) → Buf (Elt Ideal) ((c.tc : Thread Cert.Kernel4Ideal.nD Cert.Kernel4Ideal.τ).loc Cert.Kernel4Ideal.main_v82)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v79) = v0 c
          ∧ r.2.mem ((c.tc : Thread Cert.Kernel4Ideal.nD Cert.Kernel4Ideal.τ).loc Cert.Kernel4Ideal.main_v80) = v1 c
          ∧ r.2.mem ((c.tc : Thread Cert.Kernel4Ideal.nD Cert.Kernel4Ideal.τ).loc Cert.Kernel4Ideal.main_v81) = v2 c
          ∧ r.2.mem ((c.tc : Thread Cert.Kernel4Ideal.nD Cert.Kernel4Ideal.τ).loc Cert.Kernel4Ideal.main_v82) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v46) = v0 c
          ∧ r.2.mem ((c.tc : Thread Cert.Reference4Ideal.nD Cert.Reference4Ideal.τ).loc Cert.Reference4Ideal.main_v80) = v1 c
          ∧ r.2.mem ((c.tc : Thread Cert.Reference4Ideal.nD Cert.Reference4Ideal.τ).loc Cert.Reference4Ideal.main_v6) = v2 c
          ∧ r.2.mem ((c.tc : Thread Cert.Reference4Ideal.nD Cert.Reference4Ideal.τ).loc Cert.Reference4Ideal.main_v11) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v41)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v41) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v41) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  IdealRules.named_const.Statement Cert.Kernel6Ideal.κ "mask" .f32 0xF149F2CA#32 ⊥

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v25)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v25) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v30) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v16)) (v1 : (c : Dev Cert.Kernel7Ideal.nD) → Buf (Elt Ideal) ((c.tc : Thread Cert.Kernel7Ideal.nD Cert.Kernel7Ideal.τ).loc Cert.Kernel7Ideal.main_indices)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v16) = v0 c
          ∧ r.2.mem ((c.tc : Thread Cert.Kernel7Ideal.nD Cert.Kernel7Ideal.τ).loc Cert.Kernel7Ideal.main_indices) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v14) = v0 c
          ∧ r.2.mem ((c.tc : Thread Cert.Reference7Ideal.nD Cert.Reference7Ideal.τ).loc Cert.Reference7Ideal.main_indices) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_finite6 : Cert.Pre_finite6.Facts) (hPre_finite7 : Cert.Pre_finite7.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal_pre_finite7 (hKernel7Ideal := hKernel7Ideal) (hReference7Ideal := hReference7Ideal) (hPre_finite7 := hPre_finite7)
-- ==== Pre_finite.lean ====
abbrev S8x4096x4x64 : Shape := ⟨4, ![8, 4096, 4, 64]⟩
abbrev S_ : Shape := ⟨0, ![]⟩

class Facts : Prop where
  bcast_S_S8x4096x4x64 : S_.BroadcastsInDim S8x4096x4x64 (![] : Fin 0 → Fin S8x4096x4x64.rank)
  reducesTo_S8x4096x4x64_S_d0_1_2_3 : S8x4096x4x64.ReducesTo [0, 1, 2, 3] S_
  h_S_ : 0 < S_.numel

variable [Facts]

def fn {F : FTy → Type} [FloatOps F] (main_arg0 : FVec F S8x4096x4x64 .f32) (main_arg1 : FVec F S8x4096x4x64 .f32) (main_arg2 : FVec F S8x4096x4x64 .f32) : IVec S_ 1 :=
  let main_v0 : FVec F S8x4096x4x64 .f32 := Host.absf main_arg0
  let main_cst : FVec F S_ .f32 := constant S_ .f32 0x7F800000#32
  let main_v1 : FVec F S8x4096x4x64 .f32 := broadcastInDim S8x4096x4x64 ![] bcast_S_S8x4096x4x64 main_cst
  let main_v2 : IVec S8x4096x4x64 1 := cmpf .olt main_v0 main_v1
  let main_c : IVec S_ 1 := constantI S_ 1 1#1
  let main_v3 : IVec S_ 1 := (fun x v => Host.reduce IntOp.andi x v reducesTo_S8x4096x4x64_S_d0_1_2_3 h_S_) main_v2 main_c
  let main_v4 : FVec F S8x4096x4x64 .f32 := Host.absf main_arg1
  let main_cst_0 : FVec F S_ .f32 := constant S_ .f32 0x7F800000#32
  let main_v5 : FVec F S8x4096x4x64 .f32 := broadcastInDim S8x4096x4x64 ![] bcast_S_S8x4096x4x64 main_cst_0
  let main_v6 : IVec S8x4096x4x64 1 := cmpf .olt main_v4 main_v5
  let main_c_1 : IVec S_ 1 := constantI S_ 1 1#1
  let main_v7 : IVec S_ 1 := (fun x v => Host.reduce IntOp.andi x v reducesTo_S8x4096x4x64_S_d0_1_2_3 h_S_) main_v6 main_c_1
  let main_v8 : IVec S_ 1 := andi main_v3 main_v7
  let main_v9 : FVec F S8x4096x4x64 .f32 := Host.absf main_arg2
  let main_cst_2 : FVec F S_ .f32 := constant S_ .f32 0x7F800000#32
  let main_v10 : FVec F S8x4096x4x64 .f32 := broadcastInDim S8x4096x4x64 ![] bcast_S_S8x4096x4x64 main_cst_2
  let main_v11 : IVec S8x4096x4x64 1 := cmpf .olt main_v9 main_v10
  let main_c_3 : IVec S_ 1 := constantI S_ 1 1#1
  let main_v12 : IVec S_ 1 := (fun x v => Host.reduce IntOp.andi x v reducesTo_S8x4096x4x64_S_d0_1_2_3 h_S_) main_v11 main_c_3
  let main_v13 : IVec S_ 1 := andi main_v8 main_v12
  main_v13
-- ==== Pre_finite6.lean ====
abbrev S8x4096x6x64 : Shape := ⟨4, ![8, 4096, 6, 64]⟩
abbrev S8x4096x6 : Shape := ⟨3, ![8, 4096, 6]⟩
abbrev S_ : Shape := ⟨0, ![]⟩

class Facts : Prop where
  bcast_S_S8x4096x6x64 : S_.BroadcastsInDim S8x4096x6x64 (![] : Fin 0 → Fin S8x4096x6x64.rank)
  reducesTo_S8x4096x6x64_S_d0_1_2_3 : S8x4096x6x64.ReducesTo [0, 1, 2, 3] S_
  h_S_ : 0 < S_.numel
  bcast_S_S8x4096x6 : S_.BroadcastsInDim S8x4096x6 (![] : Fin 0 → Fin S8x4096x6.rank)
  reducesTo_S8x4096x6_S_d0_1_2 : S8x4096x6.ReducesTo [0, 1, 2] S_

variable [Facts]

def fn_part1 {F : FTy → Type} [FloatOps F] (main_v13 : IVec S_ 1) (main_v16 : IVec S8x4096x6 1) : IVec S_ 1 :=
  let main_c_5 : IVec S_ 1 := constantI S_ 1 1#1
  let main_v17 : IVec S_ 1 := (fun x v => Host.reduce IntOp.andi x v reducesTo_S8x4096x6_S_d0_1_2 h_S_) main_v16 main_c_5
  let main_v18 : IVec S_ 1 := andi main_v13 main_v17
  main_v18

def fn {F : FTy → Type} [FloatOps F] (main_arg0 : FVec F S8x4096x6x64 .f32) (main_arg1 : FVec F S8x4096x6x64 .f32) (main_arg2 : FVec F S8x4096x6x64 .f32) (main_arg3 : FVec F S8x4096x6 .f32) : IVec S_ 1 :=
  let main_v0 : FVec F S8x4096x6x64 .f32 := Host.absf main_arg0
  let main_cst : FVec F S_ .f32 := constant S_ .f32 0x7F800000#32
  let main_v1 : FVec F S8x4096x6x64 .f32 := broadcastInDim S8x4096x6x64 ![] bcast_S_S8x4096x6x64 main_cst
  let main_v2 : IVec S8x4096x6x64 1 := cmpf .olt main_v0 main_v1
  let main_c : IVec S_ 1 := constantI S_ 1 1#1
  let main_v3 : IVec S_ 1 := (fun x v => Host.reduce IntOp.andi x v reducesTo_S8x4096x6x64_S_d0_1_2_3 h_S_) main_v2 main_c
  let main_v4 : FVec F S8x4096x6x64 .f32 := Host.absf main_arg1
  let main_cst_0 : FVec F S_ .f32 := constant S_ .f32 0x7F800000#32
  let main_v5 : FVec F S8x4096x6x64 .f32 := broadcastInDim S8x4096x6x64 ![] bcast_S_S8x4096x6x64 main_cst_0
  let main_v6 : IVec S8x4096x6x64 1 := cmpf .olt main_v4 main_v5
  let main_c_1 : IVec S_ 1 := constantI S_ 1 1#1
  let main_v7 : IVec S_ 1 := (fun x v => Host.reduce IntOp.andi x v reducesTo_S8x4096x6x64_S_d0_1_2_3 h_S_) main_v6 main_c_1
  let main_v8 : IVec S_ 1 := andi main_v3 main_v7
  let main_v9 : FVec F S8x4096x6x64 .f32 := Host.absf main_arg2
  let main_cst_2 : FVec F S_ .f32 := constant S_ .f32 0x7F800000#32
  let main_v10 : FVec F S8x4096x6x64 .f32 := broadcastInDim S8x4096x6x64 ![] bcast_S_S8x4096x6x64 main_cst_2
  let main_v11 : IVec S8x4096x6x64 1 := cmpf .olt main_v9 main_v10
  let main_c_3 : IVec S_ 1 := constantI S_ 1 1#1
  let main_v12 : IVec S_ 1 := (fun x v => Host.reduce IntOp.andi x v reducesTo_S8x4096x6x64_S_d0_1_2_3 h_S_) main_v11 main_c_3
  let main_v13 : IVec S_ 1 := andi main_v8 main_v12
  let main_v14 : FVec F S8x4096x6 .f32 := Host.absf main_arg3
  let main_cst_4 : FVec F S_ .f32 := constant S_ .f32 0x7F800000#32
  let main_v15 : FVec F S8x4096x6 .f32 := broadcastInDim S8x4096x6 ![] bcast_S_S8x4096x6 main_cst_4
  let main_v16 : IVec S8x4096x6 1 := cmpf .olt main_v14 main_v15
  fn_part1 (F := F) main_v13 main_v16
-- ==== Pre_finite7.lean ====
abbrev S32768x1024 : Shape := ⟨2, ![32768, 1024]⟩
abbrev S1024x8 : Shape := ⟨2, ![1024, 8]⟩
abbrev S8 : Shape := ⟨1, ![8]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024x8 : S_.BroadcastsInDim S1024x8 (![] : Fin 0 → Fin S1024x8.rank)
  reducesTo_S1024x8_S_d0_1 : S1024x8.ReducesTo [0, 1] S_

variable [Facts]

def fn {F : FTy → Type} [FloatOps F] (main_arg0 : FVec F S32768x1024 .f32) (main_arg1 : FVec F S1024x8 .f32) (main_arg2 : FVec F S8 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S1024x8 .f32 := Host.absf main_arg1
  let main_cst_0 : FVec F S_ .f32 := constant S_ .f32 0x7F800000#32
  let main_v5 : FVec F S1024x8 .f32 := broadcastInDim S1024x8 ![] bcast_S_S1024x8 main_cst_0
  let main_v6 : IVec S1024x8 1 := cmpf .olt main_v4 main_v5
  let main_c_1 : IVec S_ 1 := constantI S_ 1 1#1
  let main_v7 : IVec S_ 1 := (fun x v => Host.reduce IntOp.andi x v reducesTo_S1024x8_S_d0_1 h_S_) main_v6 main_c_1
  let main_v8 : IVec S_ 1 := andi main_v3 main_v7
  main_v8
-- ==== Kernel.lean ====
abbrev S8x4096x4x64 : Shape := ⟨4, ![8, 4096, 4, 64]⟩
abbrev S_ : Shape := ⟨0, ![]⟩
abbrev S8x4x4096x64 : Shape := ⟨4, ![8, 4, 4096, 64]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S512x256 : Shape := ⟨2, ![512, 256]⟩
abbrev S1x1x1024x64 : Shape := ⟨4, ![1, 1, 1024, 64]⟩
abbrev S1x1x4096x64 : Shape := ⟨4, ![1, 1, 4096, 64]⟩
abbrev S1024x64 : Shape := ⟨2, ![1024, 64]⟩
abbrev S1024x1 : Shape := ⟨2, ![1024, 1]⟩
abbrev S1x1x256x64 : Shape := ⟨4, ![1, 1, 256, 64]⟩
abbrev S256x64 : Shape := ⟨2, ![256, 64]⟩
abbrev S1024x256 : Shape := ⟨2, ![1024, 256]⟩
abbrev S1024x512 : Shape := ⟨2, ![1024, 512]⟩

abbrev nBuf : Space → Nat
  | .hbm => 22
  | .vmem => 9
  | .smem => 0
  | _ => 0

abbrev bufTy : (tb : Table) → Fin (tcTables nBuf tb) → BufTy
  | .hbm, ⟨0, _⟩ => ⟨S8x4096x4x64, .f32⟩
  | .hbm, ⟨1, _⟩ => ⟨S8x4096x4x64, .f32⟩
  | .hbm, ⟨2, _⟩ => ⟨S8x4096x4x64, .f32⟩
  | .hbm, ⟨3, _⟩ => ⟨S_, .f32⟩
  | .hbm, ⟨4, _⟩ => ⟨S8x4096x4x64, .f32⟩
  | .hbm, ⟨5, _⟩ => ⟨S8x4096x4x64, .f32⟩
  | .hbm, ⟨6, _⟩ => ⟨S8x4x4096x64, .f32⟩
  | .hbm, ⟨7, _⟩ => ⟨S8x4x4096x64, .bf16⟩
  | .hbm, ⟨8, _⟩ => ⟨S8x4x4096x64, .f32⟩
  | .hbm, ⟨9, _⟩ => ⟨S8x4x4096x64, .bf16⟩
  | .hbm, ⟨10, _⟩ => ⟨S8x4x4096x64, .f32⟩
  | .hbm, ⟨11, _⟩ => ⟨S8x4x4096x64, .bf16⟩
  | .hbm, ⟨12, _⟩ => ⟨S256, .i32⟩
  | .hbm, ⟨13, _⟩ => ⟨S256x1, .i32⟩
  | .hbm, ⟨14, _⟩ => ⟨S256, .i32⟩
  | .hbm, ⟨15, _⟩ => ⟨S1x256, .i32⟩
  | .hbm, ⟨16, _⟩ => ⟨S256x256, .i32⟩
  | .hbm, ⟨17, _⟩ => ⟨S256x256, .i32⟩
  | .hbm, ⟨18, _⟩ => ⟨S256x256, .i1⟩
  | .hbm, ⟨19, _⟩ => ⟨S512x256, .i1⟩
  | .hbm, ⟨20, _⟩ => ⟨S512x256, .bf16⟩
  | .hbm, ⟨21, _⟩ => ⟨S8x4x4096x64, .f32⟩
  | .local _ .vmem, ⟨0, _⟩ => ⟨S1x1x1024x64, .bf16⟩
  | .local _ .vmem, ⟨1, _⟩ => ⟨S1x1x1024x64, .bf16⟩
  | .local _ .vmem, ⟨2, _⟩ => ⟨S1x1x4096x64, .bf16⟩
  | .local _ .vmem, ⟨3, _⟩ => ⟨S1x1x4096x64, .bf16⟩
  | .local _ .vmem, ⟨4, _⟩ => ⟨S1x1x4096x64, .bf16⟩
  | .local _ .vmem, ⟨5, _⟩ => ⟨S1x1x4096x64, .bf16⟩
  | .local _ .vmem, ⟨6, _⟩ => ⟨S512x256, .bf16⟩
  | .local _ .vmem, ⟨7, _⟩ => ⟨S1x1x1024x64, .f32⟩
  | .local _ .vmem, ⟨8, _⟩ => ⟨S1x1x1024x64, .f32⟩
  | _, _ => ⟨S8x4096x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![8, 4, 4], ![false, false, false]⟩

def k0_mult1 (i : grid0.Coords) : BitVec 32 :=
  let arg2 : BitVec 32 := BitVec.ofNat 32 (i 2).val
  let c4_i32 : BitVec 32 := 4#32
  let v4 : BitVec 32 := Scalar.muli arg2 c4_i32
  let c3_i32 : BitVec 32 := 3#32
  let v5 : BitVec 32 := Scalar.addi v4 c3_i32
  let c256_i32 : BitVec 32 := 256#32
  let v6 : BitVec 32 := Scalar.muli v5 c256_i32
  v6
def k0_off1 (i : grid0.Coords) (c3_i32 : BitVec 32) : Fin 4 → Nat :=
  let c0_4 : Index := 0#32
  let c0_5 : Index := 0#32
  let arg2 : BitVec 32 := BitVec.ofNat 32 (i 2).val
  let c4_i32 : BitVec 32 := 4#32
  let v4 : BitVec 32 := Scalar.muli arg2 c4_i32
  let v5 : BitVec 32 := Scalar.addi v4 c3_i32
  let c256_i32 : BitVec 32 := 256#32
  let v6 : BitVec 32 := Scalar.muli v5 c256_i32
  let v7 : BitVec 32 := v6
  let v8 : Index := Scalar.indexCast v7
  let c0_6 : Index := 0#32
  ![0, 0, v8.toNat, 0]
def k0_mult2 (i : grid0.Coords) : BitVec 32 :=
  let arg2 : BitVec 32 := BitVec.ofNat 32 (i 2).val
  let c4_i32 : BitVec 32 := 4#32
  let v4 : BitVec 32 := Scalar.muli arg2 c4_i32
  let c3_i32 : BitVec 32 := 3#32
  let v5 : BitVec 32 := Scalar.addi v4 c3_i32
  let c256_i32_7 : BitVec 32 := 256#32
  let v11 : BitVec 32 := Scalar.muli v5 c256_i32_7
  v11
def k0_mult3 (i : grid0.Coords) : BitVec 32 :=
  let arg2 : BitVec 32 := BitVec.ofNat 32 (i 2).val
  let c4_i32_22 : BitVec 32 := 4#32
  let v57 : BitVec 32 := Scalar.muli arg2 c4_i32_22
  let c2_i32 : BitVec 32 := 2#32
  let v58 : BitVec 32 := Scalar.addi v57 c2_i32
  let c256_i32_23 : BitVec 32 := 256#32
  let v59 : BitVec 32 := Scalar.muli v58 c256_i32_23
  v59
def k0_mult4 (i : grid0.Coords) : BitVec 32 :=
  let arg2 : BitVec 32 := BitVec.ofNat 32 (i 2).val
  let c4_i32_22 : BitVec 32 := 4#32
  let v57 : BitVec 32 := Scalar.muli arg2 c4_i32_22
  let c2_i32 : BitVec 32 := 2#32
  let v58 : BitVec 32 := Scalar.addi v57 c2_i32
  let c256_i32_27 : BitVec 32 := 256#32
  let v64 : BitVec 32 := Scalar.muli v58 c256_i32_27
  v64
def k0_mult5 (i : grid0.Coords) : BitVec 32 :=
  let arg2 : BitVec 32 := BitVec.ofNat 32 (i 2).val
  let c4_i32_42 : BitVec 32 := 4#32
  let v110 : BitVec 32 := Scalar.muli arg2 c4_i32_42
  let c1_i32 : BitVec 32 := 1#32
  let v111 : BitVec 32 := Scalar.addi v110 c1_i32
  let c256_i32_43 : BitVec 32 := 256#32
  let v112 : BitVec 32 := Scalar.muli v111 c256_i32_43
  v112
def k0_mult6 (i : grid0.Coords) : BitVec 32 :=
  let arg2 : BitVec 32 := BitVec.ofNat 32 (i 2).val
  let c4_i32_42 : BitVec 32 := 4#32
  let v110 : BitVec 32 := Scalar.muli arg2 c4_i32_42
  let c1_i32 : BitVec 32 := 1#32
  let v111 : BitVec 32 := Scalar.addi v110 c1_i32
  let c256_i32_47 : BitVec 32 := 256#32
  let v117 : BitVec 32 := Scalar.muli v111 c256_i32_47
  v117
def k0_mult7 (i : grid0.Coords) : BitVec 32 :=
  let arg2 : BitVec 32 := BitVec.ofNat 32 (i 2).val
  let c4_i32_63 : BitVec 32 := 4#32
  let v163 : BitVec 32 := Scalar.muli arg2 c4_i32_63
  let c0_i32 : BitVec 32 := 0#32
  let v164 : BitVec 32 := Scalar.addi v163 c0_i32
  let c256_i32_64 : BitVec 32 := 256#32
  let v165 : BitVec 32 := Scalar.muli v164 c256_i32_64
  v165
def k0_mult8 (i : grid0.Coords) : BitVec 32 :=
  let arg2 : BitVec 32 := BitVec.ofNat 32 (i 2).val
  let c4_i32_63 : BitVec 32 := 4#32
  let v163 : BitVec 32 := Scalar.muli arg2 c4_i32_63
  let c0_i32 : BitVec 32 := 0#32
  let v164 : BitVec 32 := Scalar.addi v163 c0_i32
  let c256_i32_68 : BitVec 32 := 256#32
  let v170 : BitVec 32 := Scalar.muli v164 c256_i32_68
  v170
@[reducible] def k0_t1_loop (i : grid0.Coords) : Scf.Loop 32 :=
  let c0_i32_85 : BitVec 32 := 0#32
  let arg2 : BitVec 32 := BitVec.ofNat 32 (i 2).val
  let c4_i32_84 : BitVec 32 := 4#32
  let v216 : BitVec 32 := Scalar.muli arg2 c4_i32_84
  let v217 : BitVec 32 := Scalar.subi v216 c0_i32_85
  let c1_i32_86 : BitVec 32 := 1#32
  let v219 : BitVec 32 := Scalar.divsi v217 c1_i32_86
  let v220 : BitVec 32 := Scalar.muli v219 c1_i32_86
  let v221 : BitVec 32 := Scalar.addi c0_i32_85 v220
  let c1_i32_87 : BitVec 32 := 1#32
  ⟨c0_i32_85, v221, c1_i32_87⟩
def k0_mult9 (i : grid0.Coords) (k0_t1 : Fin (k0_t1_loop i).trips) : BitVec 32 :=
  let arg2 : BitVec 32 := BitVec.ofNat 32 (i 2).val
  let c4_i32_93 : BitVec 32 := 4#32
  let v227 : BitVec 32 := Scalar.muli arg2 c4_i32_93
  let c1_i32_94 : BitVec 32 := 1#32
  let v228 : BitVec 32 := Scalar.subi v227 c1_i32_94
  let c0_i32_85 : BitVec 32 := 0#32
  let c1_i32_87 : BitVec 32 := 1#32
  let arg8 : BitVec 32 := Scf.iv c0_i32_85 c1_i32_87 k0_t1
  let v229 : BitVec 32 := Scalar.subi v228 arg8
  let c256_i32_95 : BitVec 32 := 256#32
  let v230 : BitVec 32 := Scalar.muli v229 c256_i32_95
  v230
def k0_off2 (i : grid0.Coords) (k0_t1 : Fin (k0_t1_loop i).trips) : Fin 4 → Nat :=
  let c0_96 : Index := 0#32
  let c0_97 : Index := 0#32
  let arg2 : BitVec 32 := BitVec.ofNat 32 (i 2).val
  let c4_i32_93 : BitVec 32 := 4#32
  let v227 : BitVec 32 := Scalar.muli arg2 c4_i32_93
  let c1_i32_94 : BitVec 32 := 1#32
  let v228 : BitVec 32 := Scalar.subi v227 c1_i32_94
  let c0_i32_85 : BitVec 32 := 0#32
  let c1_i32_87 : BitVec 32 := 1#32
  let arg8 : BitVec 32 := Scf.iv c0_i32_85 c1_i32_87 k0_t1
  let v229 : BitVec 32 := Scalar.subi v228 arg8
  let c256_i32_95 : BitVec 32 := 256#32
  let v230 : BitVec 32 := Scalar.muli v229 c256_i32_95
  let v231 : BitVec 32 := v230
  let v232 : Index := Scalar.indexCast v231
  let c0_98 : Index := 0#32
  ![0, 0, v232.toNat, 0]
def k0_mult10 (i : grid0.Coords) (k0_t1 : Fin (k0_t1_loop i).trips) : BitVec 32 :=
  let arg2 : BitVec 32 := BitVec.ofNat 32 (i 2).val
  let c4_i32_93 : BitVec 32 := 4#32
  let v227 : BitVec 32 := Scalar.muli arg2 c4_i32_93
  let c1_i32_94 : BitVec 32 := 1#32
  let v228 : BitVec 32 := Scalar.subi v227 c1_i32_94
  let c0_i32_85 : BitVec 32 := 0#32
  let c1_i32_87 : BitVec 32 := 1#32
  let arg8 : BitVec 32 := Scf.iv c0_i32_85 c1_i32_87 k0_t1
  let v229 : BitVec 32 := Scalar.subi v228 arg8
  let c256_i32_99 : BitVec 32 := 256#32
  let v235 : BitVec 32 := Scalar.muli v229 c256_i32_99
  v235
@[reducible] def k0_t2_loop (i : grid0.Coords) : Scf.Loop 32 :=
  let c0_i32_85 : BitVec 32 := 0#32
  let arg2 : BitVec 32 := BitVec.ofNat 32 (i 2).val
  let c4_i32_84 : BitVec 32 := 4#32
  let v216 : BitVec 32 := Scalar.muli arg2 c4_i32_84
  let v217 : BitVec 32 := Scalar.subi v216 c0_i32_85
  let c1_i32_86 : BitVec 32 := 1#32
  let v219 : BitVec 32 := Scalar.divsi v217 c1_i32_86
  let v220 : BitVec 32 := Scalar.muli v219 c1_i32_86
  let v221 : BitVec 32 := Scalar.addi c0_i32_85 v220
  let v218 : BitVec 32 := Scalar.addi c0_i32_85 v217
  let c1_i32_88 : BitVec 32 := 1#32
  ⟨v221, v218, c1_i32_88⟩
def k0_mult11 (i : grid0.Coords) (k0_t2 : Fin (k0_t2_loop i).trips) : BitVec 32 :=
  let arg2 : BitVec 32 := BitVec.ofNat 32 (i 2).val
  let c4_i32_93 : BitVec 32 := 4#32
  let v227 : BitVec 32 := Scalar.muli arg2 c4_i32_93
  let c1_i32_94 : BitVec 32 := 1#32
  let v228 : BitVec 32 := Scalar.subi v227 c1_i32_94
  let c0_i32_85 : BitVec 32 := 0#32
  let c4_i32_84 : BitVec 32 := 4#32
  let v216 : BitVec 32 := Scalar.muli arg2 c4_i32_84
  let v217 : BitVec 32 := Scalar.subi v216 c0_i32_85
  let c1_i32_86 : BitVec 32 := 1#32
  let v219 : BitVec 32 := Scalar.divsi v217 c1_i32_86
  let v220 : BitVec 32 := Scalar.muli v219 c1_i32_86
  let v221 : BitVec 32 := Scalar.addi c0_i32_85 v220
  let c1_i32_88 : BitVec 32 := 1#32
  let arg8 : BitVec 32 := Scf.iv v221 c1_i32_88 k0_t2
  let v229 : BitVec 32 := Scalar.subi v228 arg8
  let c256_i32_95 : BitVec 32 := 256#32
  let v230 : BitVec 32 := Scalar.muli v229 c256_i32_95
  v230
def k0_off3 (i : grid0.Coords) (k0_t2 : Fin (k0_t2_loop i).trips) : Fin 4 → Nat :=
  let c0_96 : Index := 0#32
  let c0_97 : Index := 0#32
  let arg2 : BitVec 32 := BitVec.ofNat 32 (i 2).val
  let c4_i32_93 : BitVec 32 := 4#32
  let v227 : BitVec 32 := Scalar.muli arg2 c4_i32_93
  let c1_i32_94 : BitVec 32 := 1#32
  let v228 : BitVec 32 := Scalar.subi v227 c1_i32_94
  let c0_i32_85 : BitVec 32 := 0#32
  let c4_i32_84 : BitVec 32 := 4#32
  let v216 : BitVec 32 := Scalar.muli arg2 c4_i32_84
  let v217 : BitVec 32 := Scalar.subi v216 c0_i32_85
  let c1_i32_86 : BitVec 32 := 1#32
  let v219 : BitVec 32 := Scalar.divsi v217 c1_i32_86
  let v220 : BitVec 32 := Scalar.muli v219 c1_i32_86
  let v221 : BitVec 32 := Scalar.addi c0_i32_85 v220
  let c1_i32_88 : BitVec 32 := 1#32
  let arg8 : BitVec 32 := Scf.iv v221 c1_i32_88 k0_t2
  let v229 : BitVec 32 := Scalar.subi v228 arg8
  let c256_i32_95 : BitVec 32 := 256#32
  let v230 : BitVec 32 := Scalar.muli v229 c256_i32_95
  let v231 : BitVec 32 := v230
  let v232 : Index := Scalar.indexCast v231
  let c0_98 : Index := 0#32
  ![0, 0, v232.toNat, 0]
def k0_mult12 (i : grid0.Coords) (k0_t2 : Fin (k0_t2_loop i).trips) : BitVec 32 :=
  let arg2 : BitVec 32 := BitVec.ofNat 32 (i 2).val
  let c4_i32_93 : BitVec 32 := 4#32
  let v227 : BitVec 32 := Scalar.muli arg2 c4_i32_93
  let c1_i32_94 : BitVec 32 := 1#32
  let v228 : BitVec 32 := Scalar.subi v227 c1_i32_94
  let c0_i32_85 : BitVec 32 := 0#32
  let c4_i32_84 : BitVec 32 := 4#32
  let v216 : BitVec 32 := Scalar.muli arg2 c4_i32_84
  let v217 : BitVec 32 := Scalar.subi v216 c0_i32_85
  let c1_i32_86 : BitVec 32 := 1#32
  let v219 : BitVec 32 := Scalar.divsi v217 c1_i32_86
  let v220 : BitVec 32 := Scalar.muli v219 c1_i32_86
  let v221 : BitVec 32 := Scalar.addi c0_i32_85 v220
  let c1_i32_88 : BitVec 32 := 1#32
  let arg8 : BitVec 32 := Scf.iv v221 c1_i32_88 k0_t2
  let v229 : BitVec 32 := Scalar.subi v228 arg8
  let c256_i32_99 : BitVec 32 := 256#32
  let v235 : BitVec 32 := Scalar.muli v229 c256_i32_99
  v235
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x4096x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x4096x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x1x1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S8x4096x4x64 : Shape := ⟨4, ![8, 4096, 4, 64]⟩
abbrev S4096 : Shape := ⟨1, ![4096]⟩
abbrev S8x4x4096x4096 : Shape := ⟨4, ![8, 4, 4096, 4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S8x4x4096x64 : Shape := ⟨4, ![8, 4, 4096, 64]⟩

abbrev nBuf : Space → Nat
  | .hbm => 63
  | .vmem => 0
  | .smem => 0
  | _ => 0

abbrev bufTy : (tb : Table) → Fin (tcTables nBuf tb) → BufTy
  | .hbm, ⟨0, _⟩ => ⟨S8x4096x4x64, .f32⟩
  | .hbm, ⟨1, _⟩ => ⟨S8x4096x4x64, .f32⟩
  | .hbm, ⟨2, _⟩ => ⟨S8x4096x4x64, .f32⟩
  | .hbm, ⟨3, _⟩ => ⟨S4096, .i32⟩
  | .hbm, ⟨4, _⟩ => ⟨S8x4x4096x4096, .f32⟩
  | .hbm, ⟨5, _⟩ => ⟨S_, .f32⟩
  | .hbm, ⟨6, _⟩ => ⟨S8x4x4096x4096, .f32⟩
  | .hbm, ⟨7, _⟩ => ⟨S8x4x4096x4096, .f32⟩
  | .hbm, ⟨8, _⟩ => ⟨S1x4096, .i32⟩
  | .hbm, ⟨9, _⟩ => ⟨S4096x1, .i32⟩
  | .hbm, ⟨10, _⟩ => ⟨S4096x4096, .i32⟩
  | .hbm, ⟨11, _⟩ => ⟨S4096x4096, .i32⟩
  | .hbm, ⟨12, _⟩ => ⟨S4096x4096, .i1⟩
  | .hbm, ⟨13, _⟩ => ⟨S8x4x4096x4096, .f32⟩
  | .hbm, ⟨14, _⟩ => ⟨S8x4x4096x4096, .f32⟩
  | .hbm, ⟨15, _⟩ => ⟨S_, .f32⟩
  | .hbm, ⟨16, _⟩ => ⟨S8x4x4096x4096, .f32⟩
  | .hbm, ⟨17, _⟩ => ⟨S8x4x4096x4096, .f32⟩
  | .hbm, ⟨18, _⟩ => ⟨S8x4x4096x4096, .f32⟩
  | .hbm, ⟨19, _⟩ => ⟨S8x4x4096x4096, .f32⟩
  | .hbm, ⟨20, _⟩ => ⟨S8x4x4096x4096, .i1⟩
  | .hbm, ⟨21, _⟩ => ⟨S8x4x4096x4096, .f32⟩
  | .hbm, ⟨22, _⟩ => ⟨S8x4x4096x4096, .f32⟩
  | .hbm, ⟨23, _⟩ => ⟨S8x4x4096x4096, .f32⟩
  | .hbm, ⟨24, _⟩ => ⟨S8x4x4096x4096, .f32⟩
  | .hbm, ⟨25, _⟩ => ⟨S8x4x4096x4096, .f32⟩
  | .hbm, ⟨26, _⟩ => ⟨S8x4x4096x4096, .f32⟩
  | .hbm, ⟨27, _⟩ => ⟨S8x4x4096x4096, .f32⟩
  | .hbm, ⟨28, _⟩ => ⟨S8x4x4096x4096, .f32⟩
  | .hbm, ⟨29, _⟩ => ⟨S8x4x4096x4096, .f32⟩
  | .hbm, ⟨30, _⟩ => ⟨S_, .f32⟩
  | .hbm, ⟨31, _⟩ => ⟨S_, .f32⟩
  | .hbm, ⟨32, _⟩ => ⟨S8x4x4096x4096, .i1⟩
  | .hbm, ⟨33, _⟩ => ⟨S8x4x4096x4096, .f32⟩
  | .hbm, ⟨34, _⟩ => ⟨S8x4x4096x4096, .f32⟩
  | .hbm, ⟨35, _⟩ => ⟨S_, .f32⟩
  | .hbm, ⟨36, _⟩ => ⟨S_, .f32⟩
  | .hbm, ⟨37, _⟩ => ⟨S8x4x4096x4096, .f32⟩
  | .hbm, ⟨38, _⟩ => ⟨S8x4x4096x4096, .f32⟩
  | .hbm, ⟨39, _⟩ => ⟨S8x4x4096x4096, .f32⟩
  | .hbm, ⟨40, _⟩ => ⟨S_, .f32⟩
  | .hbm, ⟨41, _⟩ => ⟨S8x4x4096x4096, .f32⟩
  | .hbm, ⟨42, _⟩ => ⟨S8x4x4096x4096, .f32⟩
  | .hbm, ⟨43, _⟩ => ⟨S8x4x4096x4096, .f32⟩
  | .hbm, ⟨44, _⟩ => ⟨S8x4x4096x4096, .f32⟩
  | .hbm, ⟨45, _⟩ => ⟨S8x4x4096x4096, .i1⟩
  | .hbm, ⟨46, _⟩ => ⟨S8x4x4096x4096, .f32⟩
  | .hbm, ⟨47, _⟩ => ⟨S8x4x4096x4096, .f32⟩
  | .hbm, ⟨48, _⟩ => ⟨S8x4x4096x4096, .f32⟩
  | .hbm, ⟨49, _⟩ => ⟨S8x4x4096x4096, .f32⟩
  | .hbm, ⟨50, _⟩ => ⟨S8x4x4096x4096, .f32⟩
  | .hbm, ⟨51, _⟩ => ⟨S8x4x4096x4096, .f32⟩
  | .hbm, ⟨52, _⟩ => ⟨S8x4x4096x4096, .f32⟩
  | .hbm, ⟨53, _⟩ => ⟨S8x4x4096x4096, .f32⟩
  | .hbm, ⟨54, _⟩ => ⟨S8x4x4096x4096, .f32⟩
  | .hbm, ⟨55, _⟩ => ⟨S8x4x4096x4096, .f32⟩
  | .hbm, ⟨56, _⟩ => ⟨S8x4x4096x4096, .f32⟩
  | .hbm, ⟨57, _⟩ => ⟨S_, .f32⟩
  | .hbm, ⟨58, _⟩ => ⟨S_, .f32⟩
  | .hbm, ⟨59, _⟩ => ⟨S8x4x4096x4096, .i1⟩
  | .hbm, ⟨60, _⟩ => ⟨S8x4x4096x4096, .f32⟩
  | .hbm, ⟨61, _⟩ => ⟨S8x4x4096x4096, .f32⟩
  | .hbm, ⟨62, _⟩ => ⟨S8x4x4096x64, .f32⟩
  | _, _ => ⟨S8x4096x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_v0 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_v1 : Ref sig .tc := ⟨.hbm, 28, rfl⟩
abbrev main_v10 : Ref sig .tc := ⟨.hbm, 29, rfl⟩
abbrev main_cst_0 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v11 : Ref sig .tc := ⟨.hbm, 34, rfl⟩
abbrev main_call2_cst : Ref sig .tc := ⟨.hbm, 35, rfl⟩
abbrev main_call2_v0 : Ref sig .tc := ⟨.hbm, 36, rfl⟩
abbrev main_v12 : Ref sig .tc := ⟨.hbm, 37, rfl⟩
abbrev main_v13 : Ref sig .tc := ⟨.hbm, 38, rfl⟩
abbrev main_call3_v0 : Ref sig .tc := ⟨.hbm, 39, rfl⟩
abbrev main_call3_call0_cst : Ref sig .tc := ⟨.hbm, 40, rfl⟩
abbrev main_call3_call0_v0 : Ref sig .tc := ⟨.hbm, 41, rfl⟩
abbrev main_call3_call0_v1 : Ref sig .tc := ⟨.hbm, 42, rfl⟩
abbrev main_call3_call0_v2 : Ref sig .tc := ⟨.hbm, 43, rfl⟩
abbrev main_call3_call0_v3 : Ref sig .tc := ⟨.hbm, 44, rfl⟩
abbrev main_call3_call0_v4 : Ref sig .tc := ⟨.hbm, 45, rfl⟩
abbrev main_call3_call0_v5 : Ref sig .tc := ⟨.hbm, 46, rfl⟩
abbrev main_call3_call0_v6 : Ref sig .tc := ⟨.hbm, 47, rfl⟩
abbrev main_call3_call0_v7 : Ref sig .tc := ⟨.hbm, 48, rfl⟩
abbrev main_call3_call0_v8 : Ref sig .tc := ⟨.hbm, 49, rfl⟩
abbrev main_call3_call0_v9 : Ref sig .tc := ⟨.hbm, 50, rfl⟩
abbrev main_call3_call0_v10 : Ref sig .tc := ⟨.hbm, 51, rfl⟩
abbrev main_call3_call0_v11 : Ref sig .tc := ⟨.hbm, 52, rfl⟩
abbrev main_call3_v1 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_cst_1 : Ref sig .tc := ⟨.hbm, 57, rfl⟩
abbrev main_call4_v0 : Ref sig .tc := ⟨.hbm, 58, rfl⟩
abbrev main_call4_v1 : Ref sig .tc := ⟨.hbm, 59, rfl⟩
abbrev main_call4_v2 : Ref sig .tc := ⟨.hbm, 60, rfl⟩
abbrev main_v17 : Ref sig .tc := ⟨.hbm, 61, rfl⟩
abbrev main_v18 : Ref sig .tc := ⟨.hbm, 62, rfl⟩

abbrev nD : Nat := 1
abbrev τ : Topo := Topo.v7x

variable {F : FTy → Type} [FloatOps F]
-- ==== Kernel2.lean ====
abbrev S32768x1024 : Shape := ⟨2, ![32768, 1024]⟩
abbrev S1x1024x2816 : Shape := ⟨3, ![1, 1024, 2816]⟩
abbrev S1x2816x1024 : Shape := ⟨3, ![1, 2816, 1024]⟩
abbrev S_ : Shape := ⟨0, ![]⟩
abbrev S64 : Shape := ⟨1, ![64]⟩
abbrev S512x1024 : Shape := ⟨2, ![512, 1024]⟩
abbrev S1 : Shape := ⟨1, ![1]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 9
  | .vmem => 7
  | .smem => 1
  | _ => 0

abbrev bufTy : (tb : Table) → Fin (tcTables nBuf tb) → BufTy
  | .hbm, ⟨0, _⟩ => ⟨S32768x1024, .f32⟩
  | .hbm, ⟨1, _⟩ => ⟨S1x1024x2816, .f32⟩
  | .hbm, ⟨2, _⟩ => ⟨S1x1024x2816, .f32⟩
  | .hbm, ⟨3, _⟩ => ⟨S1x2816x1024, .f32⟩
  | .hbm, ⟨4, _⟩ => ⟨S1x1024x2816, .bf16⟩
  | .hbm, ⟨5, _⟩ => ⟨S1x1024x2816, .bf16⟩
  | .hbm, ⟨6, _⟩ => ⟨S1x2816x1024, .bf16⟩
  | .hbm, ⟨7, _⟩ => ⟨S_, .i32⟩
  | .hbm, ⟨8, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024x2816, .bf16⟩
  | .local _ .vmem, ⟨3, _⟩ => ⟨S1x1024x2816, .bf16⟩
  | .local _ .vmem, ⟨4, _⟩ => ⟨S1x2816x1024, .bf16⟩
  | .local _ .vmem, ⟨5, _⟩ => ⟨S512x1024, .f32⟩
  | .local _ .vmem, ⟨6, _⟩ => ⟨S512x1024, .f32⟩
  | .local _ .smem, ⟨0, _⟩ => ⟨S64, .i32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v4 : Ref sig .tc := ⟨.hbm, 8, rfl⟩
abbrev main_v3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

abbrev pre0 : Pipeline.Prefetch sig := ⟨1, ![main_v3.idx], fun | 0 => main_v3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S64) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S64) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S64) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S32768x1024 : Shape := ⟨2, ![32768, 1024]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S2816x1024 : Shape := ⟨2, ![2816, 1024]⟩
abbrev S32768x2816 : Shape := ⟨2, ![32768, 2816]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024x2816, .f32⟩
  | .hbm, ⟨2, _⟩ => ⟨S1x1024x2816, .f32⟩
  | .hbm, ⟨3, _⟩ => ⟨S1x2816x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S32768x2816, .f32⟩
  | .hbm, ⟨8, _⟩ => ⟨S32768x2816, .f32⟩
  | .hbm, ⟨9, _⟩ => ⟨S32768x2816, .f32⟩
  | .hbm, ⟨10, _⟩ => ⟨S_, .f32⟩
  | .hbm, ⟨11, _⟩ => ⟨S32768x2816, .f32⟩
  | .hbm, ⟨12, _⟩ => ⟨S32768x2816, .f32⟩
  | .hbm, ⟨13, _⟩ => ⟨S_, .f32⟩
  | .hbm, ⟨14, _⟩ => ⟨S32768x2816, .f32⟩
  | .hbm, ⟨15, _⟩ => ⟨S32768x2816, .f32⟩
  | .hbm, ⟨16, _⟩ => ⟨S32768x2816, .f32⟩
  | .hbm, ⟨17, _⟩ => ⟨S32768x2816, .f32⟩
  | .hbm, ⟨18, _⟩ => ⟨S32768x2816, .f32⟩
  | .hbm, ⟨19, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩

abbrev nD : Nat := 1
abbrev τ : Topo := Topo.v7x

variable {F : FTy → Type} [FloatOps F]
-- ==== Kernel3.lean ====
abbrev S67584x1024 : Shape := ⟨2, ![67584, 1024]⟩
abbrev S8 : Shape := ⟨1, ![8]⟩
abbrev S1x8x1024x2816 : Shape := ⟨4, ![1, 8, 1024, 2816]⟩
abbrev S1x8x2816x1024 : Shape := ⟨4, ![1, 8, 2816, 1024]⟩
abbrev S8x1024x2816 : Shape := ⟨3, ![8, 1024, 2816]⟩
abbrev S8x2816x1024 : Shape := ⟨3, ![8, 2816, 1024]⟩
abbrev S1x8 : Shape := ⟨2, ![1, 8]⟩
abbrev S264 : Shape := ⟨1, ![264]⟩
abbrev S_ : Shape := ⟨0, ![]⟩
abbrev S264x1 : Shape := ⟨2, ![264, 1]⟩
abbrev S264x8 : Shape := ⟨2, ![264, 8]⟩
abbrev S256x1024 : Shape := ⟨2, ![256, 1024]⟩
abbrev S1x1024x2816 : Shape := ⟨3, ![1, 1024, 2816]⟩
abbrev S1 : Shape := ⟨1, ![1]⟩
abbrev S1x2816x1024 : Shape := ⟨3, ![1, 2816, 1024]⟩
abbrev S1x1024x256 : Shape := ⟨3, ![1, 1024, 256]⟩
abbrev S1024x256 : Shape := ⟨2, ![1024, 256]⟩
abbrev S256x256 : Shape := ⟨2, ![256, 256]⟩
abbrev S1x256x1024 : Shape := ⟨3, ![1, 256, 1024]⟩

abbrev nBuf : Space → Nat
  | .hbm => 26
  | .vmem => 7
  | .smem => 1
  | _ => 0

abbrev bufTy : (tb : Table) → Fin (tcTables nBuf tb) → BufTy
  | .hbm, ⟨0, _⟩ => ⟨S67584x1024, .f32⟩
  | .hbm, ⟨1, _⟩ => ⟨S8, .i32⟩
  | .hbm, ⟨2, _⟩ => ⟨S1x8x1024x2816, .f32⟩
  | .hbm, ⟨3, _⟩ => ⟨S1x8x1024x2816, .f32⟩
  | .hbm, ⟨4, _⟩ => ⟨S1x8x2816x1024, .f32⟩
  | .hbm, ⟨5, _⟩ => ⟨S8x1024x2816, .f32⟩
  | .hbm, ⟨6, _⟩ => ⟨S8x1024x2816, .bf16⟩
  | .hbm, ⟨7, _⟩ => ⟨S8x1024x2816, .f32⟩
  | .hbm, ⟨8, _⟩ => ⟨S8x1024x2816, .bf16⟩
  | .hbm, ⟨9, _⟩ => ⟨S8x2816x1024, .f32⟩
  | .hbm, ⟨10, _⟩ => ⟨S8x2816x1024, .bf16⟩
  | .hbm, ⟨11, _⟩ => ⟨S1x8, .i32⟩
  | .hbm, ⟨12, _⟩ => ⟨S264, .i32⟩
  | .hbm, ⟨13, _⟩ => ⟨S_, .i32⟩
  | .hbm, ⟨14, _⟩ => ⟨S264, .i32⟩
  | .hbm, ⟨15, _⟩ => ⟨S264, .i32⟩
  | .hbm, ⟨16, _⟩ => ⟨S264x1, .i32⟩
  | .hbm, ⟨17, _⟩ => ⟨S264x8, .i32⟩
  | .hbm, ⟨18, _⟩ => ⟨S264x8, .i32⟩
  | .hbm, ⟨19, _⟩ => ⟨S264x8, .i1⟩
  | .hbm, ⟨20, _⟩ => ⟨S264x8, .i32⟩
  | .hbm, ⟨21, _⟩ => ⟨S_, .i32⟩
  | .hbm, ⟨22, _⟩ => ⟨S264, .i32⟩
  | .hbm, ⟨23, _⟩ => ⟨S_, .i32⟩
  | .hbm, ⟨24, _⟩ => ⟨S264, .i32⟩
  | .hbm, ⟨25, _⟩ => ⟨S67584x1024, .f32⟩
  | .local _ .vmem, ⟨0, _⟩ => ⟨S256x1024, .f32⟩
  | .local _ .vmem, ⟨1, _⟩ => ⟨S256x1024, .f32⟩
  | .local _ .vmem, ⟨2, _⟩ => ⟨S1x1024x2816, .bf16⟩
  | .local _ .vmem, ⟨3, _⟩ => ⟨S1x1024x2816, .bf16⟩
  | .local _ .vmem, ⟨4, _⟩ => ⟨S1x2816x1024, .bf16⟩
  | .local _ .vmem, ⟨5, _⟩ => ⟨S256x1024, .f32⟩
  | .local _ .vmem, ⟨6, _⟩ => ⟨S256x1024, .f32⟩
  | .local _ .smem, ⟨0, _⟩ => ⟨S264, .i32⟩
  | _, _ => ⟨S67584x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_0 : Ref sig .tc := ⟨.hbm, 21, rfl⟩
abbrev main_v15 : Ref sig .tc := ⟨.hbm, 22, rfl⟩
abbrev main_c_1 : Ref sig .tc := ⟨.hbm, 23, rfl⟩
abbrev main_v16 : Ref sig .tc := ⟨.hbm, 24, rfl⟩
abbrev main_v18 : Ref sig .tc := ⟨.hbm, 25, rfl⟩
abbrev main_v17 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![264], ![false]⟩

abbrev pre0 : Pipeline.Prefetch sig := ⟨1, ![main_v17.idx], fun | 0 => main_v17.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S264.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S264) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S264.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S264) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S264.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S264) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S67584x1024 : Shape := ⟨2, ![67584, 1024]⟩
abbrev S8 : Shape := ⟨1, ![8]⟩
abbrev S1x8x1024x2816 : Shape := ⟨4, ![1, 8, 1024, 2816]⟩
abbrev S1x8x2816x1024 : Shape := ⟨4, ![1, 8, 2816, 1024]⟩
abbrev S8x1024x2816 : Shape := ⟨3, ![8, 1024, 2816]⟩
abbrev S8x2816x1024 : Shape := ⟨3, ![8, 2816, 1024]⟩
abbrev S1x8 : Shape := ⟨2, ![1, 8]⟩
abbrev S264 : Shape := ⟨1, ![264]⟩
abbrev S_ : Shape := ⟨0, ![]⟩
abbrev S264x1 : Shape := ⟨2, ![264, 1]⟩
abbrev S264x8 : Shape := ⟨2, ![264, 8]⟩
abbrev S264x256x1024 : Shape := ⟨3, ![264, 256, 1024]⟩
abbrev S264x1024x2816 : Shape := ⟨3, ![264, 1024, 2816]⟩
abbrev S264x256x2816 : Shape := ⟨3, ![264, 256, 2816]⟩
abbrev S264x2816x1024 : Shape := ⟨3, ![264, 2816, 1024]⟩

abbrev nBuf : Space → Nat
  | .hbm => 65
  | .vmem => 0
  | .smem => 0
  | _ => 0

abbrev bufTy : (tb : Table) → Fin (tcTables nBuf tb) → BufTy
  | .hbm, ⟨0, _⟩ => ⟨S67584x1024, .f32⟩
  | .hbm, ⟨1, _⟩ => ⟨S8, .i32⟩
  | .hbm, ⟨2, _⟩ => ⟨S1x8x1024x2816, .f32⟩
  | .hbm, ⟨3, _⟩ => ⟨S1x8x1024x2816, .f32⟩
  | .hbm, ⟨4, _⟩ => ⟨S1x8x2816x1024, .f32⟩
  | .hbm, ⟨5, _⟩ => ⟨S8x1024x2816, .f32⟩
  | .hbm, ⟨6, _⟩ => ⟨S8x1024x2816, .f32⟩
  | .hbm, ⟨7, _⟩ => ⟨S8x2816x1024, .f32⟩
  | .hbm, ⟨8, _⟩ => ⟨S1x8, .i32⟩
  | .hbm, ⟨9, _⟩ => ⟨S264, .i32⟩
  | .hbm, ⟨10, _⟩ => ⟨S_, .i32⟩
  | .hbm, ⟨11, _⟩ => ⟨S264, .i32⟩
  | .hbm, ⟨12, _⟩ => ⟨S264, .i32⟩
  | .hbm, ⟨13, _⟩ => ⟨S264x1, .i32⟩
  | .hbm, ⟨14, _⟩ => ⟨S264x8, .i32⟩
  | .hbm, ⟨15, _⟩ => ⟨S264x8, .i32⟩
  | .hbm, ⟨16, _⟩ => ⟨S264x8, .i1⟩
  | .hbm, ⟨17, _⟩ => ⟨S264x8, .i32⟩
  | .hbm, ⟨18, _⟩ => ⟨S_, .i32⟩
  | .hbm, ⟨19, _⟩ => ⟨S264, .i32⟩
  | .hbm, ⟨20, _⟩ => ⟨S_, .i32⟩
  | .hbm, ⟨21, _⟩ => ⟨S264, .i32⟩
  | .hbm, ⟨22, _⟩ => ⟨S264, .i32⟩
  | .hbm, ⟨23, _⟩ => ⟨S264x256x1024, .f32⟩
  | .hbm, ⟨24, _⟩ => ⟨S_, .i32⟩
  | .hbm, ⟨25, _⟩ => ⟨S264, .i32⟩
  | .hbm, ⟨26, _⟩ => ⟨S264, .i1⟩
  | .hbm, ⟨27, _⟩ => ⟨S_, .i32⟩
  | .hbm, ⟨28, _⟩ => ⟨S264, .i32⟩
  | .hbm, ⟨29, _⟩ => ⟨S264, .i32⟩
  | .hbm, ⟨30, _⟩ => ⟨S264, .i32⟩
  | .hbm, ⟨31, _⟩ => ⟨S264x1, .i32⟩
  | .hbm, ⟨32, _⟩ => ⟨S264x1024x2816, .f32⟩
  | .hbm, ⟨33, _⟩ => ⟨S264x256x2816, .f32⟩
  | .hbm, ⟨34, _⟩ => ⟨S264x256x2816, .f32⟩
  | .hbm, ⟨35, _⟩ => ⟨S264x256x2816, .f32⟩
  | .hbm, ⟨36, _⟩ => ⟨S_, .f32⟩
  | .hbm, ⟨37, _⟩ => ⟨S264x256x2816, .f32⟩
  | .hbm, ⟨38, _⟩ => ⟨S264x256x2816, .f32⟩
  | .hbm, ⟨39, _⟩ => ⟨S_, .f32⟩
  | .hbm, ⟨40, _⟩ => ⟨S264x256x2816, .f32⟩
  | .hbm, ⟨41, _⟩ => ⟨S264x256x2816, .f32⟩
  | .hbm, ⟨42, _⟩ => ⟨S264x256x2816, .f32⟩
  | .hbm, ⟨43, _⟩ => ⟨S_, .i32⟩
  | .hbm, ⟨44, _⟩ => ⟨S264, .i32⟩
  | .hbm, ⟨45, _⟩ => ⟨S264, .i1⟩
  | .hbm, ⟨46, _⟩ => ⟨S_, .i32⟩
  | .hbm, ⟨47, _⟩ => ⟨S264, .i32⟩
  | .hbm, ⟨48, _⟩ => ⟨S264, .i32⟩
  | .hbm, ⟨49, _⟩ => ⟨S264, .i32⟩
  | .hbm, ⟨50, _⟩ => ⟨S264x1, .i32⟩
  | .hbm, ⟨51, _⟩ => ⟨S264x1024x2816, .f32⟩
  | .hbm, ⟨52, _⟩ => ⟨S264x256x2816, .f32⟩
  | .hbm, ⟨53, _⟩ => ⟨S264x256x2816, .f32⟩
  | .hbm, ⟨54, _⟩ => ⟨S_, .i32⟩
  | .hbm, ⟨55, _⟩ => ⟨S264, .i32⟩
  | .hbm, ⟨56, _⟩ => ⟨S264, .i1⟩
  | .hbm, ⟨57, _⟩ => ⟨S_, .i32⟩
  | .hbm, ⟨58, _⟩ => ⟨S264, .i32⟩
  | .hbm, ⟨59, _⟩ => ⟨S264, .i32⟩
  | .hbm, ⟨60, _⟩ => ⟨S264, .i32⟩
  | .hbm, ⟨61, _⟩ => ⟨S264x1, .i32⟩
  | .hbm, ⟨62, _⟩ => ⟨S264x2816x1024, .f32⟩
  | .hbm, ⟨63, _⟩ => ⟨S264x256x1024, .f32⟩
  | .hbm, ⟨64, _⟩ => ⟨S67584x1024, .f32⟩
  | _, _ => ⟨S67584x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v24 : Ref sig .tc := ⟨.hbm, 42, rfl⟩
abbrev main_c_4 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_6 : Ref sig .tc := ⟨.hbm, 54, rfl⟩
abbrev main_v34 : Ref sig .tc := ⟨.hbm, 55, rfl⟩
abbrev main_v35 : Ref sig .tc := ⟨.hbm, 56, rfl⟩
abbrev main_c_7 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩

abbrev nD : Nat := 1
abbrev τ : Topo := Topo.v7x

variable {F : FTy → Type} [FloatOps F]
-- ==== Kernel4.lean ====
abbrev S8x4096x1024 : Shape := ⟨3, ![8, 4096, 1024]⟩
abbrev S1024x3078 : Shape := ⟨2, ![1024, 3078]⟩
abbrev S6 : Shape := ⟨1, ![6]⟩
abbrev S_ : Shape := ⟨0, ![]⟩
abbrev S1024x3200 : Shape := ⟨2, ![1024, 3200]⟩
abbrev S32768x1024 : Shape := ⟨2, ![32768, 1024]⟩
abbrev S32768x3200 : Shape := ⟨2, ![32768, 3200]⟩
abbrev S1024x1024 : Shape := ⟨2, ![1024, 1024]⟩
abbrev S1024x640 : Shape := ⟨2, ![1024, 640]⟩
abbrev S32768x6 : Shape := ⟨2, ![32768, 6]⟩
abbrev S1x6 : Shape := ⟨2, ![1, 6]⟩
abbrev S4096 : Shape := ⟨1, ![4096]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S1x4096x1x64 : Shape := ⟨4, ![1, 4096, 1, 64]⟩
abbrev S1x4096x6x64 : Shape := ⟨4, ![1, 4096, 6, 64]⟩
abbrev S4096x384 : Shape := ⟨2, ![4096, 384]⟩
abbrev S32768x640 : Shape := ⟨2, ![32768, 640]⟩
abbrev S32768x384 : Shape := ⟨2, ![32768, 384]⟩
abbrev S8x4096x384 : Shape := ⟨3, ![8, 4096, 384]⟩
abbrev S1x4096x384 : Shape := ⟨3, ![1, 4096, 384]⟩
abbrev S8x4096x8 : Shape := ⟨3, ![8, 4096, 8]⟩
abbrev S8x4096x376 : Shape := ⟨3, ![8, 4096, 376]⟩
abbrev S8x4096x16x64 : Shape := ⟨4, ![8, 4096, 16, 64]⟩
abbrev S8x4096x6 : Shape := ⟨3, ![8, 4096, 6]⟩

abbrev nBuf : Space → Nat
  | .hbm => 116
  | .vmem => 6
  | .smem => 0
  | _ => 0

abbrev bufTy : (tb : Table) → Fin (tcTables nBuf tb) → BufTy
  | .hbm, ⟨0, _⟩ => ⟨S8x4096x1024, .f32⟩
  | .hbm, ⟨1, _⟩ => ⟨S1024x3078, .f32⟩
  | .hbm, ⟨2, _⟩ => ⟨S6, .f32⟩
  | .hbm, ⟨3, _⟩ => ⟨S_, .i32⟩
  | .hbm, ⟨4, _⟩ => ⟨S_, .f32⟩
  | .hbm, ⟨5, _⟩ => ⟨S1024x3200, .f32⟩
  | .hbm, ⟨6, _⟩ => ⟨S1024x3200, .bf16⟩
  | .hbm, ⟨7, _⟩ => ⟨S32768x1024, .f32⟩
  | .hbm, ⟨8, _⟩ => ⟨S32768x3200, .f32⟩
  | .hbm, ⟨9, _⟩ => ⟨S32768x6, .f32⟩
  | .hbm, ⟨10, _⟩ => ⟨S1x6, .f32⟩
  | .hbm, ⟨11, _⟩ => ⟨S32768x6, .f32⟩
  | .hbm, ⟨12, _⟩ => ⟨S32768x6, .f32⟩
  | .hbm, ⟨13, _⟩ => ⟨S32768x6, .f32⟩
  | .hbm, ⟨14, _⟩ => ⟨S_, .f32⟩
  | .hbm, ⟨15, _⟩ => ⟨S32768x6, .f32⟩
  | .hbm, ⟨16, _⟩ => ⟨S32768x6, .f32⟩
  | .hbm, ⟨17, _⟩ => ⟨S32768x6, .f32⟩
  | .hbm, ⟨18, _⟩ => ⟨S32768x6, .f32⟩
  | .hbm, ⟨19, _⟩ => ⟨S32768x6, .i1⟩
  | .hbm, ⟨20, _⟩ => ⟨S32768x6, .f32⟩
  | .hbm, ⟨21, _⟩ => ⟨S32768x6, .f32⟩
  | .hbm, ⟨22, _⟩ => ⟨S32768x6, .f32⟩
  | .hbm, ⟨23, _⟩ => ⟨S32768x6, .f32⟩
  | .hbm, ⟨24, _⟩ => ⟨S32768x6, .f32⟩
  | .hbm, ⟨25, _⟩ => ⟨S32768x6, .f32⟩
  | .hbm, ⟨26, _⟩ => ⟨S32768x6, .f32⟩
  | .hbm, ⟨27, _⟩ => ⟨S32768x6, .f32⟩
  | .hbm, ⟨28, _⟩ => ⟨S32768x6, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S4096, .i32⟩
  | .hbm, ⟨33, _⟩ => ⟨S8, .f32⟩
  | .hbm, ⟨34, _⟩ => ⟨S8, .f32⟩
  | .hbm, ⟨35, _⟩ => ⟨S_, .f32⟩
  | .hbm, ⟨36, _⟩ => ⟨S8, .f32⟩
  | .hbm, ⟨37, _⟩ => ⟨S8, .f32⟩
  | .hbm, ⟨38, _⟩ => ⟨S_, .f32⟩
  | .hbm, ⟨39, _⟩ => ⟨S8, .f32⟩
  | .hbm, ⟨40, _⟩ => ⟨S8, .f32⟩
  | .hbm, ⟨41, _⟩ => ⟨S4096, .f32⟩
  | .hbm, ⟨42, _⟩ => ⟨S4096x1, .f32⟩
  | .hbm, ⟨43, _⟩ => ⟨S1x8, .f32⟩
  | .hbm, ⟨44, _⟩ => ⟨S4096x8, .f32⟩
  | .hbm, ⟨45, _⟩ => ⟨S4096x8, .f32⟩
  | .hbm, ⟨46, _⟩ => ⟨S4096x8, .f32⟩
  | .hbm, ⟨47, _⟩ => ⟨S4096x8, .f32⟩
  | .hbm, ⟨48, _⟩ => ⟨S4096x8, .f32⟩
  | .hbm, ⟨49, _⟩ => ⟨S_, .f32⟩
  | .hbm, ⟨50, _⟩ => ⟨S4096x48, .f32⟩
  | .hbm, ⟨51, _⟩ => ⟨S_, .f32⟩
  | .hbm, ⟨52, _⟩ => ⟨S4096x48, .f32⟩
  | .hbm, ⟨53, _⟩ => ⟨S_, .f32⟩
  | .hbm, ⟨54, _⟩ => ⟨S4096x8, .f32⟩
  | .hbm, ⟨55, _⟩ => ⟨S4096x64, .f32⟩
  | .hbm, ⟨56, _⟩ => ⟨S4096x64, .f32⟩
  | .hbm, ⟨57, _⟩ => ⟨S4096x8, .f32⟩
  | .hbm, ⟨58, _⟩ => ⟨S4096x64, .f32⟩
  | .hbm, ⟨59, _⟩ => ⟨S1x4096x1x64, .f32⟩
  | .hbm, ⟨60, _⟩ => ⟨S1x4096x6x64, .f32⟩
  | .hbm, ⟨61, _⟩ => ⟨S4096x384, .f32⟩
  | .hbm, ⟨62, _⟩ => ⟨S1x4096x1x64, .f32⟩
  | .hbm, ⟨63, _⟩ => ⟨S1x4096x6x64, .f32⟩
  | .hbm, ⟨64, _⟩ => ⟨S4096x384, .f32⟩
  | .hbm, ⟨65, _⟩ => ⟨S1x4096x1x64, .f32⟩
  | .hbm, ⟨66, _⟩ => ⟨S1x4096x6x64, .f32⟩
  | .hbm, ⟨67, _⟩ => ⟨S4096x384, .f32⟩
  | .hbm, ⟨68, _⟩ => ⟨S32768x640, .f32⟩
  | .hbm, ⟨69, _⟩ => ⟨S32768x384, .f32⟩
  | .hbm, ⟨70, _⟩ => ⟨S8x4096x384, .f32⟩
  | .hbm, ⟨71, _⟩ => ⟨S1x4096x384, .f32⟩
  | .hbm, ⟨72, _⟩ => ⟨S8x4096x384, .f32⟩
  | .hbm, ⟨73, _⟩ => ⟨S8x4096x384, .f32⟩
  | .hbm, ⟨74, _⟩ => ⟨S8x4096x8, .f32⟩
  | .hbm, ⟨75, _⟩ => ⟨S8x4096x376, .f32⟩
  | .hbm, ⟨76, _⟩ => ⟨S8x4096x384, .f32⟩
  | .hbm, ⟨77, _⟩ => ⟨S1x4096x384, .f32⟩
  | .hbm, ⟨78, _⟩ => ⟨S8x4096x384, .f32⟩
  | .hbm, ⟨79, _⟩ => ⟨S8x4096x384, .f32⟩
  | .hbm, ⟨80, _⟩ => ⟨S8x4096x384, .f32⟩
  | .hbm, ⟨81, _⟩ => ⟨S8x4096x376, .f32⟩
  | .hbm, ⟨82, _⟩ => ⟨S8x4096x8, .f32⟩
  | .hbm, ⟨83, _⟩ => ⟨S8x4096x384, .f32⟩
  | .hbm, ⟨84, _⟩ => ⟨S1x4096x384, .f32⟩
  | .hbm, ⟨85, _⟩ => ⟨S8x4096x384, .f32⟩
  | .hbm, ⟨86, _⟩ => ⟨S8x4096x384, .f32⟩
  | .hbm, ⟨87, _⟩ => ⟨S8x4096x384, .f32⟩
  | .hbm, ⟨88, _⟩ => ⟨S32768x384, .f32⟩
  | .hbm, ⟨89, _⟩ => ⟨S32768x1024, .f32⟩
  | .hbm, ⟨90, _⟩ => ⟨S32768x640, .f32⟩
  | .hbm, ⟨91, _⟩ => ⟨S32768x384, .f32⟩
  | .hbm, ⟨92, _⟩ => ⟨S8x4096x384, .f32⟩
  | .hbm, ⟨93, _⟩ => ⟨S1x4096x384, .f32⟩
  | .hbm, ⟨94, _⟩ => ⟨S8x4096x384, .f32⟩
  | .hbm, ⟨95, _⟩ => ⟨S8x4096x384, .f32⟩
  | .hbm, ⟨96, _⟩ => ⟨S8x4096x8, .f32⟩
  | .hbm, ⟨97, _⟩ => ⟨S8x4096x376, .f32⟩
  | .hbm, ⟨98, _⟩ => ⟨S8x4096x384, .f32⟩
  | .hbm, ⟨99, _⟩ => ⟨S1x4096x384, .f32⟩
  | .hbm, ⟨100, _⟩ => ⟨S8x4096x384, .f32⟩
  | .hbm, ⟨101, _⟩ => ⟨S8x4096x384, .f32⟩
  | .hbm, ⟨102, _⟩ => ⟨S8x4096x384, .f32⟩
  | .hbm, ⟨103, _⟩ => ⟨S8x4096x376, .f32⟩
  | .hbm, ⟨104, _⟩ => ⟨S8x4096x8, .f32⟩
  | .hbm, ⟨105, _⟩ => ⟨S8x4096x384, .f32⟩
  | .hbm, ⟨106, _⟩ => ⟨S1x4096x384, .f32⟩
  | .hbm, ⟨107, _⟩ => ⟨S8x4096x384, .f32⟩
  | .hbm, ⟨108, _⟩ => ⟨S8x4096x384, .f32⟩
  | .hbm, ⟨109, _⟩ => ⟨S8x4096x384, .f32⟩
  | .hbm, ⟨110, _⟩ => ⟨S32768x384, .f32⟩
  | .hbm, ⟨111, _⟩ => ⟨S32768x1024, .f32⟩
  | .hbm, ⟨112, _⟩ => ⟨S8x4096x16x64, .f32⟩
  | .hbm, ⟨113, _⟩ => ⟨S8x4096x16x64, .f32⟩
  | .hbm, ⟨114, _⟩ => ⟨S8x4096x16x64, .f32⟩
  | .hbm, ⟨115, _⟩ => ⟨S8x4096x6, .f32⟩
  | .local _ .vmem, ⟨0, _⟩ => ⟨S1024x1024, .f32⟩
  | .local _ .vmem, ⟨1, _⟩ => ⟨S1024x1024, .f32⟩
  | .local _ .vmem, ⟨2, _⟩ => ⟨S1024x640, .bf16⟩
  | .local _ .vmem, ⟨3, _⟩ => ⟨S1024x640, .bf16⟩
  | .local _ .vmem, ⟨4, _⟩ => ⟨S1024x640, .f32⟩
  | .local _ .vmem, ⟨5, _⟩ => ⟨S1024x640, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call1_v0 : Ref sig .tc := ⟨.hbm, 13, rfl⟩
abbrev main_call1_call0_cst : Ref sig .tc := ⟨.hbm, 14, rfl⟩
abbrev main_call1_call0_v0 : Ref sig .tc := ⟨.hbm, 15, rfl⟩
abbrev main_call1_call0_v1 : Ref sig .tc := ⟨.hbm, 16, rfl⟩
abbrev main_call1_call0_v2 : Ref sig .tc := ⟨.hbm, 17, rfl⟩
abbrev main_call1_call0_v3 : Ref sig .tc := ⟨.hbm, 18, rfl⟩
abbrev main_call1_call0_v4 : Ref sig .tc := ⟨.hbm, 19, rfl⟩
abbrev main_call1_call0_v5 : Ref sig .tc := ⟨.hbm, 20, rfl⟩
abbrev main_call1_call0_v6 : Ref sig .tc := ⟨.hbm, 21, rfl⟩
abbrev main_call1_call0_v7 : Ref sig .tc := ⟨.hbm, 22, rfl⟩
abbrev main_call1_call0_v8 : Ref sig .tc := ⟨.hbm, 23, rfl⟩
abbrev main_call1_call0_v9 : Ref sig .tc := ⟨.hbm, 24, rfl⟩
abbrev main_call1_call0_v10 : Ref sig .tc := ⟨.hbm, 25, rfl⟩
abbrev main_call1_call0_v11 : Ref sig .tc := ⟨.hbm, 26, rfl⟩
abbrev main_call1_v1 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst : Ref sig .tc := ⟨.hbm, 35, rfl⟩
abbrev main_v15 : Ref sig .tc := ⟨.hbm, 36, rfl⟩
abbrev main_v16 : Ref sig .tc := ⟨.hbm, 37, rfl⟩
abbrev main_cst_0 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_1 : Ref sig .tc := ⟨.hbm, 49, rfl⟩
abbrev main_v27 : Ref sig .tc := ⟨.hbm, 50, rfl⟩
abbrev main_cst_2 : Ref sig .tc := ⟨.hbm, 51, rfl⟩
abbrev main_v28 : Ref sig .tc := ⟨.hbm, 52, rfl⟩
abbrev main_cst_3 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call2_v0 : Ref sig .tc := ⟨.hbm, 74, rfl⟩
abbrev main_call2_v1 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_call3_v0 : Ref sig .tc := ⟨.hbm, 81, rfl⟩
abbrev main_call3_v1 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_call4_v0 : Ref sig .tc := ⟨.hbm, 96, rfl⟩
abbrev main_call4_v1 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_call5_v0 : Ref sig .tc := ⟨.hbm, 103, rfl⟩
abbrev main_call5_v1 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S8x4096x1024 : Shape := ⟨3, ![8, 4096, 1024]⟩
abbrev S1024x3078 : Shape := ⟨2, ![1024, 3078]⟩
abbrev S6 : Shape := ⟨1, ![6]⟩
abbrev S8x4096x3078 : Shape := ⟨3, ![8, 4096, 3078]⟩
abbrev S8x4096x16x64 : Shape := ⟨4, ![8, 4096, 16, 64]⟩
abbrev S8x4096x6 : Shape := ⟨3, ![8, 4096, 6]⟩
abbrev S1x1x6 : Shape := ⟨3, ![1, 1, 6]⟩
abbrev S_ : Shape := ⟨0, ![]⟩
abbrev S4096 : Shape := ⟨1, ![4096]⟩
abbrev S8x4096x10x64 : Shape := ⟨4, ![8, 4096, 10, 64]⟩
abbrev S8x4096x6x64 : Shape := ⟨4, ![8, 4096, 6, 64]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S1x4096x1x8 : Shape := ⟨4, ![1, 4096, 1, 8]⟩
abbrev S8x4096x6x8 : Shape := ⟨4, ![8, 4096, 6, 8]⟩
abbrev S8x4096x6x16 : Shape := ⟨4, ![8, 4096, 6, 16]⟩
abbrev S8x4096x6x48 : Shape := ⟨4, ![8, 4096, 6, 48]⟩

abbrev nBuf : Space → Nat
  | .hbm => 103
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024x3078, .f32⟩
  | .hbm, ⟨2, _⟩ => ⟨S6, .f32⟩
  | .hbm, ⟨3, _⟩ => ⟨S8x4096x3078, .f32⟩
  | .hbm, ⟨4, _⟩ => ⟨S8x4096x1024, .f32⟩
  | .hbm, ⟨5, _⟩ => ⟨S8x4096x16x64, .f32⟩
  | .hbm, ⟨6, _⟩ => ⟨S8x4096x1024, .f32⟩
  | .hbm, ⟨7, _⟩ => ⟨S8x4096x16x64, .f32⟩
  | .hbm, ⟨8, _⟩ => ⟨S8x4096x1024, .f32⟩
  | .hbm, ⟨9, _⟩ => ⟨S8x4096x16x64, .f32⟩
  | .hbm, ⟨10, _⟩ => ⟨S8x4096x6, .f32⟩
  | .hbm, ⟨11, _⟩ => ⟨S1x1x6, .f32⟩
  | .hbm, ⟨12, _⟩ => ⟨S8x4096x6, .f32⟩
  | .hbm, ⟨13, _⟩ => ⟨S8x4096x6, .f32⟩
  | .hbm, ⟨14, _⟩ => ⟨S8x4096x6, .f32⟩
  | .hbm, ⟨15, _⟩ => ⟨S_, .f32⟩
  | .hbm, ⟨16, _⟩ => ⟨S8x4096x6, .f32⟩
  | .hbm, ⟨17, _⟩ => ⟨S8x4096x6, .f32⟩
  | .hbm, ⟨18, _⟩ => ⟨S8x4096x6, .f32⟩
  | .hbm, ⟨19, _⟩ => ⟨S8x4096x6, .f32⟩
  | .hbm, ⟨20, _⟩ => ⟨S8x4096x6, .i1⟩
  | .hbm, ⟨21, _⟩ => ⟨S8x4096x6, .f32⟩
  | .hbm, ⟨22, _⟩ => ⟨S8x4096x6, .f32⟩
  | .hbm, ⟨23, _⟩ => ⟨S8x4096x6, .f32⟩
  | .hbm, ⟨24, _⟩ => ⟨S8x4096x6, .f32⟩
  | .hbm, ⟨25, _⟩ => ⟨S8x4096x6, .f32⟩
  | .hbm, ⟨26, _⟩ => ⟨S8x4096x6, .f32⟩
  | .hbm, ⟨27, _⟩ => ⟨S8x4096x6, .f32⟩
  | .hbm, ⟨28, _⟩ => ⟨S8x4096x6, .f32⟩
  | .hbm, ⟨29, _⟩ => ⟨S8x4096x6, .f32⟩
  | .hbm, ⟨30, _⟩ => ⟨S4096, .i32⟩
  | .hbm, ⟨31, _⟩ => ⟨S8x4096x10x64, .f32⟩
  | .hbm, ⟨32, _⟩ => ⟨S8x4096x6x64, .f32⟩
  | .hbm, ⟨33, _⟩ => ⟨S8, .f32⟩
  | .hbm, ⟨34, _⟩ => ⟨S8, .f32⟩
  | .hbm, ⟨35, _⟩ => ⟨S_, .f32⟩
  | .hbm, ⟨36, _⟩ => ⟨S8, .f32⟩
  | .hbm, ⟨37, _⟩ => ⟨S8, .f32⟩
  | .hbm, ⟨38, _⟩ => ⟨S_, .f32⟩
  | .hbm, ⟨39, _⟩ => ⟨S8, .f32⟩
  | .hbm, ⟨40, _⟩ => ⟨S8, .f32⟩
  | .hbm, ⟨41, _⟩ => ⟨S4096, .f32⟩
  | .hbm, ⟨42, _⟩ => ⟨S4096x1, .f32⟩
  | .hbm, ⟨43, _⟩ => ⟨S1x8, .f32⟩
  | .hbm, ⟨44, _⟩ => ⟨S4096x8, .f32⟩
  | .hbm, ⟨45, _⟩ => ⟨S4096x8, .f32⟩
  | .hbm, ⟨46, _⟩ => ⟨S4096x8, .f32⟩
  | .hbm, ⟨47, _⟩ => ⟨S4096x8, .f32⟩
  | .hbm, ⟨48, _⟩ => ⟨S1x4096x1x8, .f32⟩
  | .hbm, ⟨49, _⟩ => ⟨S4096x8, .f32⟩
  | .hbm, ⟨50, _⟩ => ⟨S1x4096x1x8, .f32⟩
  | .hbm, ⟨51, _⟩ => ⟨S8x4096x6x8, .f32⟩
  | .hbm, ⟨52, _⟩ => ⟨S8x4096x6x8, .f32⟩
  | .hbm, ⟨53, _⟩ => ⟨S8x4096x6x8, .f32⟩
  | .hbm, ⟨54, _⟩ => ⟨S8x4096x6x8, .f32⟩
  | .hbm, ⟨55, _⟩ => ⟨S8x4096x6x8, .f32⟩
  | .hbm, ⟨56, _⟩ => ⟨S8x4096x6x8, .f32⟩
  | .hbm, ⟨57, _⟩ => ⟨S8x4096x6x8, .f32⟩
  | .hbm, ⟨58, _⟩ => ⟨S8x4096x6x8, .f32⟩
  | .hbm, ⟨59, _⟩ => ⟨S8x4096x6x8, .f32⟩
  | .hbm, ⟨60, _⟩ => ⟨S8x4096x6x8, .f32⟩
  | .hbm, ⟨61, _⟩ => ⟨S8x4096x6x8, .f32⟩
  | .hbm, ⟨62, _⟩ => ⟨S8x4096x6x8, .f32⟩
  | .hbm, ⟨63, _⟩ => ⟨S8x4096x6x16, .f32⟩
  | .hbm, ⟨64, _⟩ => ⟨S8x4096x6x48, .f32⟩
  | .hbm, ⟨65, _⟩ => ⟨S8x4096x6x64, .f32⟩
  | .hbm, ⟨66, _⟩ => ⟨S8x4096x16x64, .f32⟩
  | .hbm, ⟨67, _⟩ => ⟨S8x4096x10x64, .f32⟩
  | .hbm, ⟨68, _⟩ => ⟨S8x4096x6x64, .f32⟩
  | .hbm, ⟨69, _⟩ => ⟨S8, .f32⟩
  | .hbm, ⟨70, _⟩ => ⟨S8, .f32⟩
  | .hbm, ⟨71, _⟩ => ⟨S_, .f32⟩
  | .hbm, ⟨72, _⟩ => ⟨S8, .f32⟩
  | .hbm, ⟨73, _⟩ => ⟨S8, .f32⟩
  | .hbm, ⟨74, _⟩ => ⟨S_, .f32⟩
  | .hbm, ⟨75, _⟩ => ⟨S8, .f32⟩
  | .hbm, ⟨76, _⟩ => ⟨S8, .f32⟩
  | .hbm, ⟨77, _⟩ => ⟨S4096, .f32⟩
  | .hbm, ⟨78, _⟩ => ⟨S4096x1, .f32⟩
  | .hbm, ⟨79, _⟩ => ⟨S1x8, .f32⟩
  | .hbm, ⟨80, _⟩ => ⟨S4096x8, .f32⟩
  | .hbm, ⟨81, _⟩ => ⟨S4096x8, .f32⟩
  | .hbm, ⟨82, _⟩ => ⟨S4096x8, .f32⟩
  | .hbm, ⟨83, _⟩ => ⟨S4096x8, .f32⟩
  | .hbm, ⟨84, _⟩ => ⟨S1x4096x1x8, .f32⟩
  | .hbm, ⟨85, _⟩ => ⟨S4096x8, .f32⟩
  | .hbm, ⟨86, _⟩ => ⟨S1x4096x1x8, .f32⟩
  | .hbm, ⟨87, _⟩ => ⟨S8x4096x6x8, .f32⟩
  | .hbm, ⟨88, _⟩ => ⟨S8x4096x6x8, .f32⟩
  | .hbm, ⟨89, _⟩ => ⟨S8x4096x6x8, .f32⟩
  | .hbm, ⟨90, _⟩ => ⟨S8x4096x6x8, .f32⟩
  | .hbm, ⟨91, _⟩ => ⟨S8x4096x6x8, .f32⟩
  | .hbm, ⟨92, _⟩ => ⟨S8x4096x6x8, .f32⟩
  | .hbm, ⟨93, _⟩ => ⟨S8x4096x6x8, .f32⟩
  | .hbm, ⟨94, _⟩ => ⟨S8x4096x6x8, .f32⟩
  | .hbm, ⟨95, _⟩ => ⟨S8x4096x6x8, .f32⟩
  | .hbm, ⟨96, _⟩ => ⟨S8x4096x6x8, .f32⟩
  | .hbm, ⟨97, _⟩ => ⟨S8x4096x6x8, .f32⟩
  | .hbm, ⟨98, _⟩ => ⟨S8x4096x6x8, .f32⟩
  | .hbm, ⟨99, _⟩ => ⟨S8x4096x6x16, .f32⟩
  | .hbm, ⟨100, _⟩ => ⟨S8x4096x6x48, .f32⟩
  | .hbm, ⟨101, _⟩ => ⟨S8x4096x6x64, .f32⟩
  | .hbm, ⟨102, _⟩ => ⟨S8x4096x16x64, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_call0_v0 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_v1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst : Ref sig .tc := ⟨.hbm, 35, rfl⟩
abbrev main_v17 : Ref sig .tc := ⟨.hbm, 36, rfl⟩
abbrev main_v18 : Ref sig .tc := ⟨.hbm, 37, rfl⟩
abbrev main_cst_0 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_1 : Ref sig .tc := ⟨.hbm, 71, rfl⟩
abbrev main_v51 : Ref sig .tc := ⟨.hbm, 72, rfl⟩
abbrev main_v52 : Ref sig .tc := ⟨.hbm, 73, rfl⟩
abbrev main_cst_2 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩

abbrev nD : Nat := 1
abbrev τ : Topo := Topo.v7x

variable {F : FTy → Type} [FloatOps F]
-- ==== Kernel5.lean ====
abbrev S8x4x4096x64 : Shape := ⟨4, ![8, 4, 4096, 64]⟩
abbrev S8x6x4096x64 : Shape := ⟨4, ![8, 6, 4096, 64]⟩
abbrev S1024 : Shape := ⟨1, ![1024]⟩
abbrev S1024x1024 : Shape := ⟨2, ![1024, 1024]⟩
abbrev S8x16x4096x64 : Shape := ⟨4, ![8, 16, 4096, 64]⟩
abbrev S8x4096x16x64 : Shape := ⟨4, ![8, 4096, 16, 64]⟩
abbrev S32768x1024 : Shape := ⟨2, ![32768, 1024]⟩
abbrev S32768x256 : Shape := ⟨2, ![32768, 256]⟩
abbrev S_ : Shape := ⟨0, ![]⟩
abbrev S32768 : Shape := ⟨1, ![32768]⟩
abbrev S32768x1 : Shape := ⟨2, ![32768, 1]⟩
abbrev S32768x384 : Shape := ⟨2, ![32768, 384]⟩
abbrev S1x1024 : Shape := ⟨2, ![1, 1024]⟩

abbrev nBuf : Space → Nat
  | .hbm => 56
  | .vmem => 5
  | .smem => 0
  | _ => 0

abbrev bufTy : (tb : Table) → Fin (tcTables nBuf tb) → BufTy
  | .hbm, ⟨0, _⟩ => ⟨S8x4x4096x64, .f32⟩
  | .hbm, ⟨1, _⟩ => ⟨S8x6x4096x64, .f32⟩
  | .hbm, ⟨2, _⟩ => ⟨S8x6x4096x64, .f32⟩
  | .hbm, ⟨3, _⟩ => ⟨S1024, .f32⟩
  | .hbm, ⟨4, _⟩ => ⟨S1024x1024, .f32⟩
  | .hbm, ⟨5, _⟩ => ⟨S8x16x4096x64, .f32⟩
  | .hbm, ⟨6, _⟩ => ⟨S8x4096x16x64, .f32⟩
  | .hbm, ⟨7, _⟩ => ⟨S32768x1024, .f32⟩
  | .hbm, ⟨8, _⟩ => ⟨S1024x1024, .bf16⟩
  | .hbm, ⟨9, _⟩ => ⟨S32768x256, .f32⟩
  | .hbm, ⟨10, _⟩ => ⟨S32768x256, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S32768x1, .f32⟩
  | .hbm, ⟨21, _⟩ => ⟨S32768x256, .f32⟩
  | .hbm, ⟨22, _⟩ => ⟨S32768x256, .f32⟩
  | .hbm, ⟨23, _⟩ => ⟨S32768x384, .f32⟩
  | .hbm, ⟨24, _⟩ => ⟨S32768x384, .f32⟩
  | .hbm, ⟨25, _⟩ => ⟨S_, .f32⟩
  | .hbm, ⟨26, _⟩ => ⟨S32768, .f32⟩
  | .hbm, ⟨27, _⟩ => ⟨S32768x1, .f32⟩
  | .hbm, ⟨28, _⟩ => ⟨S_, .f32⟩
  | .hbm, ⟨29, _⟩ => ⟨S32768x1, .f32⟩
  | .hbm, ⟨30, _⟩ => ⟨S32768x1, .f32⟩
  | .hbm, ⟨31, _⟩ => ⟨S_, .f32⟩
  | .hbm, ⟨32, _⟩ => ⟨S32768x1, .f32⟩
  | .hbm, ⟨33, _⟩ => ⟨S32768x1, .f32⟩
  | .hbm, ⟨34, _⟩ => ⟨S32768x1, .f32⟩
  | .hbm, ⟨35, _⟩ => ⟨S32768x384, .f32⟩
  | .hbm, ⟨36, _⟩ => ⟨S32768x384, .f32⟩
  | .hbm, ⟨37, _⟩ => ⟨S32768x384, .f32⟩
  | .hbm, ⟨38, _⟩ => ⟨S32768x384, .f32⟩
  | .hbm, ⟨39, _⟩ => ⟨S_, .f32⟩
  | .hbm, ⟨40, _⟩ => ⟨S32768, .f32⟩
  | .hbm, ⟨41, _⟩ => ⟨S32768x1, .f32⟩
  | .hbm, ⟨42, _⟩ => ⟨S_, .f32⟩
  | .hbm, ⟨43, _⟩ => ⟨S32768x1, .f32⟩
  | .hbm, ⟨44, _⟩ => ⟨S32768x1, .f32⟩
  | .hbm, ⟨45, _⟩ => ⟨S_, .f32⟩
  | .hbm, ⟨46, _⟩ => ⟨S32768x1, .f32⟩
  | .hbm, ⟨47, _⟩ => ⟨S32768x1, .f32⟩
  | .hbm, ⟨48, _⟩ => ⟨S32768x1, .f32⟩
  | .hbm, ⟨49, _⟩ => ⟨S32768x384, .f32⟩
  | .hbm, ⟨50, _⟩ => ⟨S32768x384, .f32⟩
  | .hbm, ⟨51, _⟩ => ⟨S32768x1024, .f32⟩
  | .hbm, ⟨52, _⟩ => ⟨S1x1024, .f32⟩
  | .hbm, ⟨53, _⟩ => ⟨S32768x1024, .f32⟩
  | .hbm, ⟨54, _⟩ => ⟨S32768x1024, .f32⟩
  | .hbm, ⟨55, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8x4x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S8x4x4096x64 : Shape := ⟨4, ![8, 4, 4096, 64]⟩
abbrev S8x6x4096x64 : Shape := ⟨4, ![8, 6, 4096, 64]⟩
abbrev S1024 : Shape := ⟨1, ![1024]⟩
abbrev S1024x1024 : Shape := ⟨2, ![1024, 1024]⟩
abbrev S8x4096x4x64 : Shape := ⟨4, ![8, 4096, 4, 64]⟩
abbrev S8x4096x256 : Shape := ⟨3, ![8, 4096, 256]⟩
abbrev S_ : Shape := ⟨0, ![]⟩
abbrev S8x4096 : Shape := ⟨2, ![8, 4096]⟩
abbrev S8x4096x1 : Shape := ⟨3, ![8, 4096, 1]⟩
abbrev S8x4096x6x64 : Shape := ⟨4, ![8, 4096, 6, 64]⟩
abbrev S8x4096x384 : Shape := ⟨3, ![8, 4096, 384]⟩
abbrev S8x4096x1024 : Shape := ⟨3, ![8, 4096, 1024]⟩
abbrev S1x1x1024 : Shape := ⟨3, ![1, 1, 1024]⟩
abbrev S32768x1024 : Shape := ⟨2, ![32768, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8x4x4096x64, .f32⟩
  | .hbm, ⟨1, _⟩ => ⟨S8x6x4096x64, .f32⟩
  | .hbm, ⟨2, _⟩ => ⟨S8x6x4096x64, .f32⟩
  | .hbm, ⟨3, _⟩ => ⟨S1024, .f32⟩
  | .hbm, ⟨4, _⟩ => ⟨S1024x1024, .f32⟩
  | .hbm, ⟨5, _⟩ => ⟨S8x4096x4x64, .f32⟩
  | .hbm, ⟨6, _⟩ => ⟨S8x4096x256, .f32⟩
  | .hbm, ⟨7, _⟩ => ⟨S8x4096x256, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S8x4096x1, .f32⟩
  | .hbm, ⟨18, _⟩ => ⟨S8x4096x256, .f32⟩
  | .hbm, ⟨19, _⟩ => ⟨S8x4096x256, .f32⟩
  | .hbm, ⟨20, _⟩ => ⟨S8x4096x6x64, .f32⟩
  | .hbm, ⟨21, _⟩ => ⟨S8x4096x384, .f32⟩
  | .hbm, ⟨22, _⟩ => ⟨S8x4096x384, .f32⟩
  | .hbm, ⟨23, _⟩ => ⟨S_, .f32⟩
  | .hbm, ⟨24, _⟩ => ⟨S8x4096, .f32⟩
  | .hbm, ⟨25, _⟩ => ⟨S8x4096x1, .f32⟩
  | .hbm, ⟨26, _⟩ => ⟨S_, .f32⟩
  | .hbm, ⟨27, _⟩ => ⟨S8x4096x1, .f32⟩
  | .hbm, ⟨28, _⟩ => ⟨S8x4096x1, .f32⟩
  | .hbm, ⟨29, _⟩ => ⟨S_, .f32⟩
  | .hbm, ⟨30, _⟩ => ⟨S8x4096x1, .f32⟩
  | .hbm, ⟨31, _⟩ => ⟨S8x4096x1, .f32⟩
  | .hbm, ⟨32, _⟩ => ⟨S8x4096x1, .f32⟩
  | .hbm, ⟨33, _⟩ => ⟨S8x4096x384, .f32⟩
  | .hbm, ⟨34, _⟩ => ⟨S8x4096x384, .f32⟩
  | .hbm, ⟨35, _⟩ => ⟨S8x4096x6x64, .f32⟩
  | .hbm, ⟨36, _⟩ => ⟨S8x4096x384, .f32⟩
  | .hbm, ⟨37, _⟩ => ⟨S8x4096x384, .f32⟩
  | .hbm, ⟨38, _⟩ => ⟨S_, .f32⟩
  | .hbm, ⟨39, _⟩ => ⟨S8x4096, .f32⟩
  | .hbm, ⟨40, _⟩ => ⟨S8x4096x1, .f32⟩
  | .hbm, ⟨41, _⟩ => ⟨S_, .f32⟩
  | .hbm, ⟨42, _⟩ => ⟨S8x4096x1, .f32⟩
  | .hbm, ⟨43, _⟩ => ⟨S8x4096x1, .f32⟩
  | .hbm, ⟨44, _⟩ => ⟨S_, .f32⟩
  | .hbm, ⟨45, _⟩ => ⟨S8x4096x1, .f32⟩
  | .hbm, ⟨46, _⟩ => ⟨S8x4096x1, .f32⟩
  | .hbm, ⟨47, _⟩ => ⟨S8x4096x1, .f32⟩
  | .hbm, ⟨48, _⟩ => ⟨S8x4096x384, .f32⟩
  | .hbm, ⟨49, _⟩ => ⟨S8x4096x384, .f32⟩
  | .hbm, ⟨50, _⟩ => ⟨S8x4096x1024, .f32⟩
  | .hbm, ⟨51, _⟩ => ⟨S1x1x1024, .f32⟩
  | .hbm, ⟨52, _⟩ => ⟨S8x4096x1024, .f32⟩
  | .hbm, ⟨53, _⟩ => ⟨S8x4096x1024, .f32⟩
  | .hbm, ⟨54, _⟩ => ⟨S8x4096x1024, .f32⟩
  | .hbm, ⟨55, _⟩ => ⟨S32768x1024, .f32⟩
  | _, _ => ⟨S8x4x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel6.lean ====
abbrev S8x4096x6x64 : Shape := ⟨4, ![8, 4096, 6, 64]⟩
abbrev S8x4096x6 : Shape := ⟨3, ![8, 4096, 6]⟩
abbrev S_ : Shape := ⟨0, ![]⟩
abbrev S8x6x4096x64 : Shape := ⟨4, ![8, 6, 4096, 64]⟩
abbrev S8x6x4096 : Shape := ⟨3, ![8, 6, 4096]⟩
abbrev S8x6x4096x61 : Shape := ⟨4, ![8, 6, 4096, 61]⟩
abbrev S8x6x4096x1 : Shape := ⟨4, ![8, 6, 4096, 1]⟩
abbrev S8x6x4096x128 : Shape := ⟨4, ![8, 6, 4096, 128]⟩
abbrev S8x6x4096x3 : Shape := ⟨4, ![8, 6, 4096, 3]⟩
abbrev S1x1x1024x128 : Shape := ⟨4, ![1, 1, 1024, 128]⟩
abbrev S1x1x4096x128 : Shape := ⟨4, ![1, 1, 4096, 128]⟩
abbrev S1x1x4096x64 : Shape := ⟨4, ![1, 1, 4096, 64]⟩
abbrev S1x1x1024x64 : Shape := ⟨4, ![1, 1, 1024, 64]⟩
abbrev S1024x128 : Shape := ⟨2, ![1024, 128]⟩
abbrev S1024x64 : Shape := ⟨2, ![1024, 64]⟩
abbrev S1024x1 : Shape := ⟨2, ![1024, 1]⟩
abbrev S1x512 : Shape := ⟨2, ![1, 512]⟩
abbrev S1024x512 : Shape := ⟨2, ![1024, 512]⟩
abbrev S1x1x512x128 : Shape := ⟨4, ![1, 1, 512, 128]⟩
abbrev S512x128 : Shape := ⟨2, ![512, 128]⟩
abbrev S1x1x512x64 : Shape := ⟨4, ![1, 1, 512, 64]⟩
abbrev S512x64 : Shape := ⟨2, ![512, 64]⟩
abbrev S1024 : Shape := ⟨1, ![1024]⟩

abbrev nBuf : Space → Nat
  | .hbm => 35
  | .vmem => 8
  | .smem => 0
  | _ => 0

abbrev bufTy : (tb : Table) → Fin (tcTables nBuf tb) → BufTy
  | .hbm, ⟨0, _⟩ => ⟨S8x4096x6x64, .f32⟩
  | .hbm, ⟨1, _⟩ => ⟨S8x4096x6x64, .f32⟩
  | .hbm, ⟨2, _⟩ => ⟨S8x4096x6x64, .f32⟩
  | .hbm, ⟨3, _⟩ => ⟨S8x4096x6, .f32⟩
  | .hbm, ⟨4, _⟩ => ⟨S_, .f32⟩
  | .hbm, ⟨5, _⟩ => ⟨S8x4096x6x64, .f32⟩
  | .hbm, ⟨6, _⟩ => ⟨S8x4096x6x64, .f32⟩
  | .hbm, ⟨7, _⟩ => ⟨S8x6x4096x64, .f32⟩
  | .hbm, ⟨8, _⟩ => ⟨S8x6x4096x64, .bf16⟩
  | .hbm, ⟨9, _⟩ => ⟨S8x6x4096x64, .f32⟩
  | .hbm, ⟨10, _⟩ => ⟨S8x6x4096x64, .bf16⟩
  | .hbm, ⟨11, _⟩ => ⟨S8x6x4096x64, .f32⟩
  | .hbm, ⟨12, _⟩ => ⟨S8x6x4096x64, .bf16⟩
  | .hbm, ⟨13, _⟩ => ⟨S_, .f32⟩
  | .hbm, ⟨14, _⟩ => ⟨S_, .f32⟩
  | .hbm, ⟨15, _⟩ => ⟨S8x4096x6, .f32⟩
  | .hbm, ⟨16, _⟩ => ⟨S8x6x4096, .f32⟩
  | .hbm, ⟨17, _⟩ => ⟨S8x6x4096, .f32⟩
  | .hbm, ⟨18, _⟩ => ⟨S_, .bf16⟩
  | .hbm, ⟨19, _⟩ => ⟨S8x6x4096x61, .bf16⟩
  | .hbm, ⟨20, _⟩ => ⟨S8x6x4096, .bf16⟩
  | .hbm, ⟨21, _⟩ => ⟨S8x6x4096, .f32⟩
  | .hbm, ⟨22, _⟩ => ⟨S8x6x4096, .f32⟩
  | .hbm, ⟨23, _⟩ => ⟨S8x6x4096, .bf16⟩
  | .hbm, ⟨24, _⟩ => ⟨S8x6x4096, .f32⟩
  | .hbm, ⟨25, _⟩ => ⟨S8x6x4096, .f32⟩
  | .hbm, ⟨26, _⟩ => ⟨S8x6x4096, .bf16⟩
  | .hbm, ⟨27, _⟩ => ⟨S8x6x4096x1, .bf16⟩
  | .hbm, ⟨28, _⟩ => ⟨S8x6x4096x1, .bf16⟩
  | .hbm, ⟨29, _⟩ => ⟨S8x6x4096x1, .bf16⟩
  | .hbm, ⟨30, _⟩ => ⟨S8x6x4096x128, .bf16⟩
  | .hbm, ⟨31, _⟩ => ⟨S_, .bf16⟩
  | .hbm, ⟨32, _⟩ => ⟨S8x6x4096x3, .bf16⟩
  | .hbm, ⟨33, _⟩ => ⟨S8x6x4096x128, .bf16⟩
  | .hbm, ⟨34, _⟩ => ⟨S8x6x4096x64, .f32⟩
  | .local _ .vmem, ⟨0, _⟩ => ⟨S1x1x1024x128, .bf16⟩
  | .local _ .vmem, ⟨1, _⟩ => ⟨S1x1x1024x128, .bf16⟩
  | .local _ .vmem, ⟨2, _⟩ => ⟨S1x1x4096x128, .bf16⟩
  | .local _ .vmem, ⟨3, _⟩ => ⟨S1x1x4096x128, .bf16⟩
  | .local _ .vmem, ⟨4, _⟩ => ⟨S1x1x4096x64, .bf16⟩
  | .local _ .vmem, ⟨5, _⟩ => ⟨S1x1x4096x64, .bf16⟩
  | .local _ .vmem, ⟨6, _⟩ => ⟨S1x1x1024x64, .f32⟩
  | .local _ .vmem, ⟨7, _⟩ => ⟨S1x1x1024x64, .f32⟩
  | _, _ => ⟨S8x4096x6x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_call0_cst : Ref sig .tc := ⟨.hbm, 13, rfl⟩
abbrev main_call0_call0_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 6, 4], ![false, false, false]⟩

def k0_mult1 (i : grid0.Coords) : BitVec 32 :=
  let arg2 : BitVec 32 := BitVec.ofNat 32 (i 2).val
  let c2_i32 : BitVec 32 := 2#32
  let v5 : BitVec 32 := Scalar.muli arg2 c2_i32
  let c0_i32 : BitVec 32 := 0#32
  let v6 : BitVec 32 := Scalar.addi v5 c0_i32
  let c512_i32 : BitVec 32 := 512#32
  let v14 : BitVec 32 := Scalar.muli v6 c512_i32
  v14
def k0_off1 (i : grid0.Coords) (c0_i32 : BitVec 32) : Fin 4 → Nat :=
  let c0_6 : Index := 0#32
  let c0_7 : Index := 0#32
  let arg2 : BitVec 32 := BitVec.ofNat 32 (i 2).val
  let c2_i32 : BitVec 32 := 2#32
  let v5 : BitVec 32 := Scalar.muli arg2 c2_i32
  let v6 : BitVec 32 := Scalar.addi v5 c0_i32
  let c512_i32 : BitVec 32 := 512#32
  let v14 : BitVec 32 := Scalar.muli v6 c512_i32
  let v15 : BitVec 32 := v14
  let v16 : Index := Scalar.indexCast v15
  let c0_8 : Index := 0#32
  ![0, 0, v16.toNat, 0]
def k0_mult2 (i : grid0.Coords) : BitVec 32 :=
  let arg2 : BitVec 32 := BitVec.ofNat 32 (i 2).val
  let c2_i32 : BitVec 32 := 2#32
  let v5 : BitVec 32 := Scalar.muli arg2 c2_i32
  let c0_i32 : BitVec 32 := 0#32
  let v6 : BitVec 32 := Scalar.addi v5 c0_i32
  let c512_i32_11 : BitVec 32 := 512#32
  let v22 : BitVec 32 := Scalar.muli v6 c512_i32_11
  v22
def k0_off2 (i : grid0.Coords) (c0_i32 : BitVec 32) : Fin 4 → Nat :=
  let c0_12 : Index := 0#32
  let c0_13 : Index := 0#32
  let arg2 : BitVec 32 := BitVec.ofNat 32 (i 2).val
  let c2_i32 : BitVec 32 := 2#32
  let v5 : BitVec 32 := Scalar.muli arg2 c2_i32
  let v6 : BitVec 32 := Scalar.addi v5 c0_i32
  let c512_i32_11 : BitVec 32 := 512#32
  let v22 : BitVec 32 := Scalar.muli v6 c512_i32_11
  let v23 : BitVec 32 := v22
  let v24 : Index := Scalar.indexCast v23
  let c0_14 : Index := 0#32
  ![0, 0, v24.toNat, 0]
def k0_mult3 (i : grid0.Coords) : BitVec 32 :=
  let arg2 : BitVec 32 := BitVec.ofNat 32 (i 2).val
  let c2_i32_18 : BitVec 32 := 2#32
  let v44 : BitVec 32 := Scalar.muli arg2 c2_i32_18
  let c1_i32 : BitVec 32 := 1#32
  let v45 : BitVec 32 := Scalar.addi v44 c1_i32
  let c512_i32_20 : BitVec 32 := 512#32
  let v53 : BitVec 32 := Scalar.muli v45 c512_i32_20
  v53
def k0_mult4 (i : grid0.Coords) : BitVec 32 :=
  let arg2 : BitVec 32 := BitVec.ofNat 32 (i 2).val
  let c2_i32_18 : BitVec 32 := 2#32
  let v44 : BitVec 32 := Scalar.muli arg2 c2_i32_18
  let c1_i32 : BitVec 32 := 1#32
  let v45 : BitVec 32 := Scalar.addi v44 c1_i32
  let c512_i32_26 : BitVec 32 := 512#32
  let v61 : BitVec 32 := Scalar.muli v45 c512_i32_26
  v61
@[reducible] def k0_t1_loop (i : grid0.Coords) : Scf.Loop 32 :=
  let c0_i32_34 : BitVec 32 := 0#32
  let arg2 : BitVec 32 := BitVec.ofNat 32 (i 2).val
  let c2_i32_33 : BitVec 32 := 2#32
  let v83 : BitVec 32 := Scalar.muli arg2 c2_i32_33
  let v84 : BitVec 32 := Scalar.subi v83 c0_i32_34
  let c1_i32_35 : BitVec 32 := 1#32
  let v86 : BitVec 32 := Scalar.divsi v84 c1_i32_35
  let v87 : BitVec 32 := Scalar.muli v86 c1_i32_35
  let v88 : BitVec 32 := Scalar.addi c0_i32_34 v87
  let c1_i32_36 : BitVec 32 := 1#32
  ⟨c0_i32_34, v88, c1_i32_36⟩
def k0_mult5 (i : grid0.Coords) (k0_t1 : Fin (k0_t1_loop i).trips) : BitVec 32 :=
  let c0_i32_34 : BitVec 32 := 0#32
  let c1_i32_36 : BitVec 32 := 1#32
  let arg7 : BitVec 32 := Scf.iv c0_i32_34 c1_i32_36 k0_t1
  let c512_i32_42 : BitVec 32 := 512#32
  let v96 : BitVec 32 := Scalar.muli arg7 c512_i32_42
  v96
def k0_off3 (i : grid0.Coords) (k0_t1 : Fin (k0_t1_loop i).trips) : Fin 4 → Nat :=
  let c0_43 : Index := 0#32
  let c0_44 : Index := 0#32
  let c0_i32_34 : BitVec 32 := 0#32
  let c1_i32_36 : BitVec 32 := 1#32
  let arg7 : BitVec 32 := Scf.iv c0_i32_34 c1_i32_36 k0_t1
  let c512_i32_42 : BitVec 32 := 512#32
  let v96 : BitVec 32 := Scalar.muli arg7 c512_i32_42
  let v97 : BitVec 32 := v96
  let v98 : Index := Scalar.indexCast v97
  let c0_45 : Index := 0#32
  ![0, 0, v98.toNat, 0]
def k0_mult6 (i : grid0.Coords) (k0_t1 : Fin (k0_t1_loop i).trips) : BitVec 32 :=
  let c0_i32_34 : BitVec 32 := 0#32
  let c1_i32_36 : BitVec 32 := 1#32
  let arg7 : BitVec 32 := Scf.iv c0_i32_34 c1_i32_36 k0_t1
  let c512_i32_47 : BitVec 32 := 512#32
  let v102 : BitVec 32 := Scalar.muli arg7 c512_i32_47
  v102
def k0_off4 (i : grid0.Coords) (k0_t1 : Fin (k0_t1_loop i).trips) : Fin 4 → Nat :=
  let c0_48 : Index := 0#32
  let c0_49 : Index := 0#32
  let c0_i32_34 : BitVec 32 := 0#32
  let c1_i32_36 : BitVec 32 := 1#32
  let arg7 : BitVec 32 := Scf.iv c0_i32_34 c1_i32_36 k0_t1
  let c512_i32_47 : BitVec 32 := 512#32
  let v102 : BitVec 32 := Scalar.muli arg7 c512_i32_47
  let v103 : BitVec 32 := v102
  let v104 : Index := Scalar.indexCast v103
  let c0_50 : Index := 0#32
  ![0, 0, v104.toNat, 0]
@[reducible] def k0_t2_loop (i : grid0.Coords) : Scf.Loop 32 :=
  let c0_i32_34 : BitVec 32 := 0#32
  let arg2 : BitVec 32 := BitVec.ofNat 32 (i 2).val
  let c2_i32_33 : BitVec 32 := 2#32
  let v83 : BitVec 32 := Scalar.muli arg2 c2_i32_33
  let v84 : BitVec 32 := Scalar.subi v83 c0_i32_34
  let c1_i32_35 : BitVec 32 := 1#32
  let v86 : BitVec 32 := Scalar.divsi v84 c1_i32_35
  let v87 : BitVec 32 := Scalar.muli v86 c1_i32_35
  let v88 : BitVec 32 := Scalar.addi c0_i32_34 v87
  let v85 : BitVec 32 := Scalar.addi c0_i32_34 v84
  let c1_i32_37 : BitVec 32 := 1#32
  ⟨v88, v85, c1_i32_37⟩
def k0_mult7 (i : grid0.Coords) (k0_t2 : Fin (k0_t2_loop i).trips) : BitVec 32 :=
  let c0_i32_34 : BitVec 32 := 0#32
  let arg2 : BitVec 32 := BitVec.ofNat 32 (i 2).val
  let c2_i32_33 : BitVec 32 := 2#32
  let v83 : BitVec 32 := Scalar.muli arg2 c2_i32_33
  let v84 : BitVec 32 := Scalar.subi v83 c0_i32_34
  let c1_i32_35 : BitVec 32 := 1#32
  let v86 : BitVec 32 := Scalar.divsi v84 c1_i32_35
  let v87 : BitVec 32 := Scalar.muli v86 c1_i32_35
  let v88 : BitVec 32 := Scalar.addi c0_i32_34 v87
  let c1_i32_37 : BitVec 32 := 1#32
  let arg7 : BitVec 32 := Scf.iv v88 c1_i32_37 k0_t2
  let c512_i32_42 : BitVec 32 := 512#32
  let v96 : BitVec 32 := Scalar.muli arg7 c512_i32_42
  v96
def k0_off5 (i : grid0.Coords) (k0_t2 : Fin (k0_t2_loop i).trips) : Fin 4 → Nat :=
  let c0_43 : Index := 0#32
  let c0_44 : Index := 0#32
  let c0_i32_34 : BitVec 32 := 0#32
  let arg2 : BitVec 32 := BitVec.ofNat 32 (i 2).val
  let c2_i32_33 : BitVec 32 := 2#32
  let v83 : BitVec 32 := Scalar.muli arg2 c2_i32_33
  let v84 : BitVec 32 := Scalar.subi v83 c0_i32_34
  let c1_i32_35 : BitVec 32 := 1#32
  let v86 : BitVec 32 := Scalar.divsi v84 c1_i32_35
  let v87 : BitVec 32 := Scalar.muli v86 c1_i32_35
  let v88 : BitVec 32 := Scalar.addi c0_i32_34 v87
  let c1_i32_37 : BitVec 32 := 1#32
  let arg7 : BitVec 32 := Scf.iv v88 c1_i32_37 k0_t2
  let c512_i32_42 : BitVec 32 := 512#32
  let v96 : BitVec 32 := Scalar.muli arg7 c512_i32_42
  let v97 : BitVec 32 := v96
  let v98 : Index := Scalar.indexCast v97
  let c0_45 : Index := 0#32
  ![0, 0, v98.toNat, 0]
def k0_mult8 (i : grid0.Coords) (k0_t2 : Fin (k0_t2_loop i).trips) : BitVec 32 :=
  let c0_i32_34 : BitVec 32 := 0#32
  let arg2 : BitVec 32 := BitVec.ofNat 32 (i 2).val
  let c2_i32_33 : BitVec 32 := 2#32
  let v83 : BitVec 32 := Scalar.muli arg2 c2_i32_33
  let v84 : BitVec 32 := Scalar.subi v83 c0_i32_34
  let c1_i32_35 : BitVec 32 := 1#32
  let v86 : BitVec 32 := Scalar.divsi v84 c1_i32_35
  let v87 : BitVec 32 := Scalar.muli v86 c1_i32_35
  let v88 : BitVec 32 := Scalar.addi c0_i32_34 v87
  let c1_i32_37 : BitVec 32 := 1#32
  let arg7 : BitVec 32 := Scf.iv v88 c1_i32_37 k0_t2
  let c512_i32_47 : BitVec 32 := 512#32
  let v102 : BitVec 32 := Scalar.muli arg7 c512_i32_47
  v102
def k0_off6 (i : grid0.Coords) (k0_t2 : Fin (k0_t2_loop i).trips) : Fin 4 → Nat :=
  let c0_48 : Index := 0#32
  let c0_49 : Index := 0#32
  let c0_i32_34 : BitVec 32 := 0#32
  let arg2 : BitVec 32 := BitVec.ofNat 32 (i 2).val
  let c2_i32_33 : BitVec 32 := 2#32
  let v83 : BitVec 32 := Scalar.muli arg2 c2_i32_33
  let v84 : BitVec 32 := Scalar.subi v83 c0_i32_34
  let c1_i32_35 : BitVec 32 := 1#32
  let v86 : BitVec 32 := Scalar.divsi v84 c1_i32_35
  let v87 : BitVec 32 := Scalar.muli v86 c1_i32_35
  let v88 : BitVec 32 := Scalar.addi c0_i32_34 v87
  let c1_i32_37 : BitVec 32 := 1#32
  let arg7 : BitVec 32 := Scf.iv v88 c1_i32_37 k0_t2
  let c512_i32_47 : BitVec 32 := 512#32
  let v102 : BitVec 32 := Scalar.muli arg7 c512_i32_47
  let v103 : BitVec 32 := v102
  let v104 : Index := Scalar.indexCast v103
  let c0_50 : Index := 0#32
  ![0, 0, v104.toNat, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x4096x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Kernel6Ideal.lean ====
variable {F : FTy → Type} [FloatOps F] [Named F]
def κ : String → Option EReal := fun
  | "mask" => some ⊥
  | _ => none
-- ==== Reference6Ideal.lean ====
abbrev S8x4096x6x64 : Shape := ⟨4, ![8, 4096, 6, 64]⟩
abbrev S8x4096x6 : Shape := ⟨3, ![8, 4096, 6]⟩
abbrev S4096 : Shape := ⟨1, ![4096]⟩
abbrev S_ : Shape := ⟨0, ![]⟩
abbrev S8x6x4096x4096 : Shape := ⟨4, ![8, 6, 4096, 4096]⟩
abbrev S8x6x4096 : Shape := ⟨3, ![8, 6, 4096]⟩
abbrev S8x6x4096x1 : Shape := ⟨4, ![8, 6, 4096, 1]⟩
abbrev S8x6x1x4096 : Shape := ⟨4, ![8, 6, 1, 4096]⟩
abbrev S1x4096 : Shape := ⟨2, ![1, 4096]⟩
abbrev S4096x1 : Shape := ⟨2, ![4096, 1]⟩
abbrev S4096x4096 : Shape := ⟨2, ![4096, 4096]⟩
abbrev S8x6x4096x64 : Shape := ⟨4, ![8, 6, 4096, 64]⟩

abbrev nBuf : Space → Nat
  | .hbm => 45
  | .vmem => 0
  | .smem => 0
  | _ => 0

abbrev bufTy : (tb : Table) → Fin (tcTables nBuf tb) → BufTy
  | .hbm, ⟨0, _⟩ => ⟨S8x4096x6x64, .f32⟩
  | .hbm, ⟨1, _⟩ => ⟨S8x4096x6x64, .f32⟩
  | .hbm, ⟨2, _⟩ => ⟨S8x4096x6x64, .f32⟩
  | .hbm, ⟨3, _⟩ => ⟨S8x4096x6, .f32⟩
  | .hbm, ⟨4, _⟩ => ⟨S4096, .i32⟩
  | .hbm, ⟨5, _⟩ => ⟨S_, .f32⟩
  | .hbm, ⟨6, _⟩ => ⟨S_, .f32⟩
  | .hbm, ⟨7, _⟩ => ⟨S8x4096x6, .f32⟩
  | .hbm, ⟨8, _⟩ => ⟨S8x6x4096x4096, .f32⟩
  | .hbm, ⟨9, _⟩ => ⟨S_, .f32⟩
  | .hbm, ⟨10, _⟩ => ⟨S8x6x4096x4096, .f32⟩
  | .hbm, ⟨11, _⟩ => ⟨S8x6x4096x4096, .f32⟩
  | .hbm, ⟨12, _⟩ => ⟨S8x6x4096, .f32⟩
  | .hbm, ⟨13, _⟩ => ⟨S8x6x4096x1, .f32⟩
  | .hbm, ⟨14, _⟩ => ⟨S8x6x4096x4096, .f32⟩
  | .hbm, ⟨15, _⟩ => ⟨S8x6x4096x4096, .f32⟩
  | .hbm, ⟨16, _⟩ => ⟨S8x6x4096, .f32⟩
  | .hbm, ⟨17, _⟩ => ⟨S8x6x1x4096, .f32⟩
  | .hbm, ⟨18, _⟩ => ⟨S8x6x4096x4096, .f32⟩
  | .hbm, ⟨19, _⟩ => ⟨S8x6x4096x4096, .f32⟩
  | .hbm, ⟨20, _⟩ => ⟨S1x4096, .i32⟩
  | .hbm, ⟨21, _⟩ => ⟨S4096x1, .i32⟩
  | .hbm, ⟨22, _⟩ => ⟨S4096x4096, .i32⟩
  | .hbm, ⟨23, _⟩ => ⟨S4096x4096, .i32⟩
  | .hbm, ⟨24, _⟩ => ⟨S4096x4096, .i1⟩
  | .hbm, ⟨25, _⟩ => ⟨S_, .f32⟩
  | .hbm, ⟨26, _⟩ => ⟨S_, .f32⟩
  | .hbm, ⟨27, _⟩ => ⟨S8x6x4096x4096, .i1⟩
  | .hbm, ⟨28, _⟩ => ⟨S8x6x4096x4096, .f32⟩
  | .hbm, ⟨29, _⟩ => ⟨S8x6x4096x4096, .f32⟩
  | .hbm, ⟨30, _⟩ => ⟨S_, .f32⟩
  | .hbm, ⟨31, _⟩ => ⟨S8x6x4096, .f32⟩
  | .hbm, ⟨32, _⟩ => ⟨S_, .f32⟩
  | .hbm, ⟨33, _⟩ => ⟨S8x6x4096, .f32⟩
  | .hbm, ⟨34, _⟩ => ⟨S8x6x4096, .f32⟩
  | .hbm, ⟨35, _⟩ => ⟨S8x6x4096x1, .f32⟩
  | .hbm, ⟨36, _⟩ => ⟨S8x6x4096x4096, .f32⟩
  | .hbm, ⟨37, _⟩ => ⟨S8x6x4096x4096, .f32⟩
  | .hbm, ⟨38, _⟩ => ⟨S8x6x4096x4096, .f32⟩
  | .hbm, ⟨39, _⟩ => ⟨S_, .f32⟩
  | .hbm, ⟨40, _⟩ => ⟨S8x6x4096, .f32⟩
  | .hbm, ⟨41, _⟩ => ⟨S8x6x4096x1, .f32⟩
  | .hbm, ⟨42, _⟩ => ⟨S8x6x4096x4096, .f32⟩
  | .hbm, ⟨43, _⟩ => ⟨S8x6x4096x4096, .f32⟩
  | .hbm, ⟨44, _⟩ => ⟨S8x6x4096x64, .f32⟩
  | _, _ => ⟨S8x4096x6x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_call0_cst : Ref sig .tc := ⟨.hbm, 5, rfl⟩
abbrev main_call0_call0_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== Kernel7.lean ====
abbrev S32768x1024 : Shape := ⟨2, ![32768, 1024]⟩
abbrev S1024x8 : Shape := ⟨2, ![1024, 8]⟩
abbrev S8 : Shape := ⟨1, ![8]⟩
abbrev S_ : Shape := ⟨0, ![]⟩
abbrev S1024x128 : Shape := ⟨2, ![1024, 128]⟩
abbrev S32768x128 : Shape := ⟨2, ![32768, 128]⟩
abbrev S1024x1024 : Shape := ⟨2, ![1024, 1024]⟩
abbrev S32768x8 : Shape := ⟨2, ![32768, 8]⟩
abbrev S1x8 : Shape := ⟨2, ![1, 8]⟩
abbrev S32768x2 : Shape := ⟨2, ![32768, 2]⟩
abbrev S32768 : Shape := ⟨1, ![32768]⟩
abbrev S32768x1 : Shape := ⟨2, ![32768, 1]⟩

abbrev nBuf : Space → Nat
  | .hbm => 27
  | .vmem => 5
  | .smem => 0
  | _ => 0

abbrev bufTy : (tb : Table) → Fin (tcTables nBuf tb) → BufTy
  | .hbm, ⟨0, _⟩ => ⟨S32768x1024, .f32⟩
  | .hbm, ⟨1, _⟩ => ⟨S1024x8, .f32⟩
  | .hbm, ⟨2, _⟩ => ⟨S8, .f32⟩
  | .hbm, ⟨3, _⟩ => ⟨S_, .i32⟩
  | .hbm, ⟨4, _⟩ => ⟨S_, .f32⟩
  | .hbm, ⟨5, _⟩ => ⟨S1024x128, .f32⟩
  | .hbm, ⟨6, _⟩ => ⟨S32768x128, .f32⟩
  | .hbm, ⟨7, _⟩ => ⟨S32768x8, .f32⟩
  | .hbm, ⟨8, _⟩ => ⟨S1x8, .f32⟩
  | .hbm, ⟨9, _⟩ => ⟨S32768x8, .f32⟩
  | .hbm, ⟨10, _⟩ => ⟨S32768x8, .f32⟩
  | .hbm, ⟨11, _⟩ => ⟨S32768x2, .f32⟩
  | .hbm, ⟨12, _⟩ => ⟨S32768x2, .i32⟩
  | .hbm, ⟨13, _⟩ => ⟨S_, .f32⟩
  | .hbm, ⟨14, _⟩ => ⟨S32768, .f32⟩
  | .hbm, ⟨15, _⟩ => ⟨S_, .f32⟩
  | .hbm, ⟨16, _⟩ => ⟨S32768, .f32⟩
  | .hbm, ⟨17, _⟩ => ⟨S32768, .f32⟩
  | .hbm, ⟨18, _⟩ => ⟨S32768x1, .f32⟩
  | .hbm, ⟨19, _⟩ => ⟨S32768x2, .f32⟩
  | .hbm, ⟨20, _⟩ => ⟨S32768x2, .f32⟩
  | .hbm, ⟨21, _⟩ => ⟨S32768x2, .f32⟩
  | .hbm, ⟨22, _⟩ => ⟨S_, .f32⟩
  | .hbm, ⟨23, _⟩ => ⟨S32768, .f32⟩
  | .hbm, ⟨24, _⟩ => ⟨S32768x1, .f32⟩
  | .hbm, ⟨25, _⟩ => ⟨S32768x2, .f32⟩
  | .hbm, ⟨26, _⟩ => ⟨S32768x2, .f32⟩
  | .local _ .vmem, ⟨0, _⟩ => ⟨S1024x1024, .f32⟩
  | .local _ .vmem, ⟨1, _⟩ => ⟨S1024x1024, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_values : Ref sig .tc := ⟨.hbm, 11, rfl⟩
abbrev main_indices : Ref sig .tc := ⟨.hbm, 12, rfl⟩
abbrev main_cst : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S32768x1024 : Shape := ⟨2, ![32768, 1024]⟩
abbrev S1024x8 : Shape := ⟨2, ![1024, 8]⟩
abbrev S8 : Shape := ⟨1, ![8]⟩
abbrev S32768x8 : Shape := ⟨2, ![32768, 8]⟩
abbrev S1x8 : Shape := ⟨2, ![1, 8]⟩
abbrev S32768x2 : Shape := ⟨2, ![32768, 2]⟩
abbrev S_ : Shape := ⟨0, ![]⟩
abbrev S32768 : Shape := ⟨1, ![32768]⟩
abbrev S32768x1 : Shape := ⟨2, ![32768, 1]⟩

abbrev nBuf : Space → Nat
  | .hbm => 23
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x8, .f32⟩
  | .hbm, ⟨2, _⟩ => ⟨S8, .f32⟩
  | .hbm, ⟨3, _⟩ => ⟨S32768x8, .f32⟩
  | .hbm, ⟨4, _⟩ => ⟨S1x8, .f32⟩
  | .hbm, ⟨5, _⟩ => ⟨S32768x8, .f32⟩
  | .hbm, ⟨6, _⟩ => ⟨S32768x8, .f32⟩
  | .hbm, ⟨7, _⟩ => ⟨S32768x2, .f32⟩
  | .hbm, ⟨8, _⟩ => ⟨S32768x2, .i32⟩
  | .hbm, ⟨9, _⟩ => ⟨S_, .f32⟩
  | .hbm, ⟨10, _⟩ => ⟨S32768, .f32⟩
  | .hbm, ⟨11, _⟩ => ⟨S_, .f32⟩
  | .hbm, ⟨12, _⟩ => ⟨S32768, .f32⟩
  | .hbm, ⟨13, _⟩ => ⟨S32768, .f32⟩
  | .hbm, ⟨14, _⟩ => ⟨S32768x1, .f32⟩
  | .hbm, ⟨15, _⟩ => ⟨S32768x2, .f32⟩
  | .hbm, ⟨16, _⟩ => ⟨S32768x2, .f32⟩
  | .hbm, ⟨17, _⟩ => ⟨S32768x2, .f32⟩
  | .hbm, ⟨18, _⟩ => ⟨S_, .f32⟩
  | .hbm, ⟨19, _⟩ => ⟨S32768, .f32⟩
  | .hbm, ⟨20, _⟩ => ⟨S32768x1, .f32⟩
  | .hbm, ⟨21, _⟩ => ⟨S32768x2, .f32⟩
  | .hbm, ⟨22, _⟩ => ⟨S32768x2, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_values : Ref sig .tc := ⟨.hbm, 7, rfl⟩
abbrev main_indices : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== Proof.Tile.lean ====
/- One tile of the stick-breaking attention, as the kernel computes it on vectors: the logits of a block of
   queries against 256 keys, the logarithm of one minus the stick's share, its running sum from the right,
   the weights and the accumulated product. -/
module

public import proofs.«01_k».proof.Proof.Gen.KernelIdeal.Skeleton
public import Idealize.ShloMosaic.Lib.Pointwise

@[expose] public section

set_option maxRecDepth 16384

noncomputable section

namespace Cert.StickBreaking

open Idealize.ShloMosaic Cert.KernelIdeal Cert.KernelIdeal.Gen

variable {F : FTy → Type} [FloatOps F]

/-- The logits of the queries against one tile of keys. -/
def logits (q : FVec F S1024x64 .bf16) (k : FVec F S256x64 .bf16) : FVec F S1024x256 .f32 :=
  matmul dot_S1024x64_S256x64_S1024x256_1_1_0_0_n_n none q k (constant S1024x256 .f32 0x00000000#32)

/-- An all-zero tile. -/
def zeros : FVec F S1024x256 .f32 := broadcast S1024x256 (Scalar.ofBits .f32 0x00000000#32)

/-- The logarithm of one minus the logistic function of the logits, written with a stable softplus. -/
def logKeep (z : FVec F S1024x256 .f32) : FVec F S1024x256 .f32 :=
  subf zeros (addf (maximumf z zeros)
    (log (addf (broadcast S1024x256 (Scalar.ofBits .f32 0x3F800000#32)) (exp (subf zeros (absf z))))))

/-- The sums from the right within a tile: the tile split in a coarse and a fine half against the stacked triangle. -/
def tails (l : FVec F S1024x256 .f32) (u : Vec F S512x256 .bf16) : FVec F S1024x256 .f32 :=
  matmul dot_S1024x512_S512x256_S1024x256_1_0_0_1_n_n none
    (concatenate S1024x512 1
      [⟨S1024x256, truncf .bf16 l bitsLt_bf16_f32⟩,
       ⟨S1024x256, truncf .bf16 (subf l (extf .f32 (truncf .bf16 l bitsLt_bf16_f32) bitsLt_bf16_f32)) bitsLt_bf16_f32⟩]
      concatenates_S1024x256_S1024x256_S1024x512_d1)
    (shapeCast S512x256 u shapeCasts_S512x256_S512x256) (constant S1024x256 .f32 0x00000000#32)

/-- The weights of a tile, before any mask. -/
def weights (z s : FVec F S1024x256 .f32) (run : FVec F S1024x1 .f32) : FVec F S1024x256 .f32 :=
  exp (addf (addf z s) (broadcastTo S1024x256 run broadcasts_S1024x1_S1024x256))

/-- The product of a tile's weights with its values. -/
def weighted (w : FVec F S1024x256 .f32) (v : FVec F S256x64 .bf16) : FVec F S1024x64 .f32 :=
  matmul dot_S1024x256_S256x64_S1024x64_1_0_0_1_n_n none (truncf .bf16 w bitsLt_bf16_f32) v
    (constant S1024x64 .f32 0x00000000#32)

/-- The running sum after a tile. -/
def advance (run : FVec F S1024x1 .f32) (s : FVec F S1024x256 .f32) : FVec F S1024x1 .f32 :=
  addf run (extractStridedSlice S1024x1 ![0, 0] s slices_S1024x256_o0_0_S1024x1)

/-- What a step carries: the accumulated rows and the running sums. -/
abbrev Carry (F : FTy → Type) : Type := FVec F S1024x64 .f32 × FVec F S1024x1 .f32

/-- One step on a tile below the diagonal: no mask. -/
def stepFree (q : FVec F S1024x64 .bf16) (u : Vec F S512x256 .bf16) (k v : Vec F S1x1x256x64 .bf16) (c : Carry F) : Carry F :=
  let z := logits q (shapeCast S256x64 k shapeCasts_S1x1x256x64_S256x64)
  let s := tails (logKeep z) u
  (addf c.1 (weighted (weights z s c.2) (shapeCast S256x64 v shapeCasts_S1x1x256x64_S256x64)), advance c.2 s)

/-- One step on a tile that meets the diagonal, under its mask. -/
def stepMasked (m : IVec S1024x256 1) (q : FVec F S1024x64 .bf16) (u : Vec F S512x256 .bf16) (k v : Vec F S1x1x256x64 .bf16)
    (c : Carry F) : Carry F :=
  let z := logits q (shapeCast S256x64 k shapeCasts_S1x1x256x64_S256x64)
  let s := tails (select m (logKeep z) zeros) u
  (addf c.1 (weighted (select m (weights z s c.2) zeros) (shapeCast S256x64 v shapeCasts_S1x1x256x64_S256x64)), advance c.2 s)

/-- The mask of the tile `o` columns into the block of rows: the column lies before the row. -/
def before (o : BitVec 32) : IVec S1024x256 1 :=
  cmpi .slt (broadcastTo S1024x256 (addi (broadcast S1x256 o) (iota .tc S1x256 32 [1] iota_S1x256_d1_w32)) broadcasts_S1x256_S1024x256)
    (broadcastTo S1024x256 (iota .tc S1024x1 32 [0] iota_S1024x1_d0_w32) broadcasts_S1024x1_S1024x256)

/-- The carry before the first tile. -/
def start : Carry F :=
  (broadcast S1024x64 (Scalar.ofBits .f32 0x00000000#32), broadcast S1024x1 (Scalar.ofBits .f32 0x00000000#32))

/-! ## The operations read at an index, on real numbers -/

/-- The word of one and the word of zero. -/
theorem one_word : Ideal.ofBits .f32 0x3F800000#32 = ((1 : ℝ) : EReal) := by
  simp [Ideal.ofBits, Ideal.ieee, -EReal.coe_mul]
  norm_num

/-- The greater of two reals is the same among the extended reals. -/
theorem max_real (a b : ℝ) : max (a : EReal) (b : EReal) = ((max a b : ℝ) : EReal) :=
  (EReal.coe_strictMono.monotone.map_max).symm

/-- The absolute value of a real is the same among the extended reals. -/
theorem abs_real (a : ℝ) : FloatOps.absf (F := Ideal) (φ := .f32) (a : EReal) = ((|a| : ℝ) : EReal) := by
  show max (a : EReal) (-(a : EReal)) = _
  rw [← EReal.coe_neg, max_real]
  rfl

/-- A sum of reals is the same among the extended reals. -/
theorem sum_real {ι : Type} (s : Finset ι) (f : ι → ℝ) : ∑ i ∈ s, ((f i : ℝ) : EReal) = ((∑ i ∈ s, f i : ℝ) : EReal) :=
  (map_sum (⟨⟨fun x : ℝ => (x : EReal), rfl⟩, EReal.coe_add⟩ : ℝ →+ EReal) f s).symm

/-- The softplus of a real, as it is written to be stable. -/
theorem softplus_real (Z : ℝ) : max (Z : EReal) 0 + Ideal.log (1 + Ideal.exp (0 - FloatOps.absf (F := Ideal) (φ := .f32) (Z : EReal)))
    = ((max Z 0 + Real.log (1 + Real.exp (-|Z|)) : ℝ) : EReal) := by
  have hpos : ¬ (1 + Real.exp (-|Z|) ≤ 0) := not_le.2 (by positivity)
  rw [abs_real, ← EReal.coe_zero, ← EReal.coe_one, max_real, ← EReal.coe_sub, zero_sub, Ideal.exp_coe, ← EReal.coe_add, Ideal.log_coe,
    if_neg hpos, ← EReal.coe_add]

theorem logits_apply (q : FVec Ideal S1024x64 .bf16) (k : FVec Ideal S256x64 .bf16) (r : Fin 1024) (e : Fin 256)
    (Q K : Fin 64 → ℝ) (hq : ∀ d, q (ix2 r d) = ((Q d : ℝ) : EReal)) (hk : ∀ d, k (ix2 e d) = ((K d : ℝ) : EReal)) :
    logits q k (ix2 r e) = ((∑ d, Q d * K d : ℝ) : EReal) := by
  pointwise [logits]
  simp only [hq, hk]
  push_cast
  rfl

theorem logKeep_apply (z : FVec Ideal S1024x256 .f32) (r : Fin 1024) (e : Fin 256) (Z : ℝ)
    (hz : z (ix2 r e) = ((Z : ℝ) : EReal)) :
    logKeep z (ix2 r e) = ((-(max Z 0 + Real.log (1 + Real.exp (-|Z|))) : ℝ) : EReal) := by
  pointwise [logKeep, zeros]
  simp only [hz]
  rw [softplus_real, ← EReal.coe_zero, ← EReal.coe_sub, zero_sub]

theorem tails_apply (l : FVec Ideal S1024x256 .f32) (u : Vec Ideal S512x256 .bf16) (r : Fin 1024) (e : Fin 256) (L : Fin 256 → ℝ)
    (hl : ∀ e, l (ix2 r e) = ((L e : ℝ) : EReal))
    (hu : ∀ (f : Fin 512) (e : Fin 256), u (ix2 f e) = if e.val ≤ f.val % 256 then ((1 : ℝ) : EReal) else ((0 : ℝ) : EReal)) :
    tails l u (ix2 r e) = ((∑ f : Fin 256, if e ≤ f then L f else 0 : ℝ) : EReal) := by
  pointwise [tails]
  simp only [hl, hu, ← EReal.coe_sub, sub_self, ite_self, EReal.coe_zero, zero_mul, Finset.sum_const_zero, add_zero]
  rw [← sum_real]
  refine Finset.sum_congr rfl fun f _ => ?_
  have hf : f.val % 256 = f.val := Nat.mod_eq_of_lt f.isLt
  by_cases h : e ≤ f
  · rw [if_pos (by rw [hf]; exact h), if_pos h, EReal.coe_one, mul_one]
  · rw [if_neg (by rw [hf]; exact h), if_neg h, EReal.coe_zero, mul_zero]

theorem weights_apply (z s : FVec Ideal S1024x256 .f32) (run : FVec Ideal S1024x1 .f32) (r : Fin 1024) (e : Fin 256) (Z S R : ℝ)
    (hz : z (ix2 r e) = ((Z : ℝ) : EReal)) (hs : s (ix2 r e) = ((S : ℝ) : EReal)) (hr : run (ix2 r 0) = ((R : ℝ) : EReal)) :
    weights z s run (ix2 r e) = ((Real.exp (Z + S + R) : ℝ) : EReal) := by
  pointwise [weights]
  simp only [hz, hs, hr]
  rw [← EReal.coe_add, ← EReal.coe_add, Ideal.exp_coe]

theorem weighted_apply (w : FVec Ideal S1024x256 .f32) (v : FVec Ideal S256x64 .bf16) (r : Fin 1024) (d : Fin 64)
    (W V : Fin 256 → ℝ) (hw : ∀ e, w (ix2 r e) = ((W e : ℝ) : EReal)) (hv : ∀ e, v (ix2 e d) = ((V e : ℝ) : EReal)) :
    weighted w v (ix2 r d) = ((∑ e, W e * V e : ℝ) : EReal) := by
  pointwise [weighted]
  simp only [hw, hv]
  push_cast
  rfl

theorem advance_apply (run : FVec Ideal S1024x1 .f32) (s : FVec Ideal S1024x256 .f32) (r : Fin 1024) :
    advance run s (ix2 r 0) = run (ix2 r 0) + s (ix2 r 0) := by
  pointwise [advance]

/-- The word of a small natural number, read back as an integer. -/
theorem toInt_small (n : ℕ) (hn : n < 2 ^ 31) : (BitVec.ofNat 32 n).toInt = (n : ℤ) := by
  have h : (BitVec.ofNat 32 n).toNat = n := by rw [BitVec.toNat_ofNat]; exact Nat.mod_eq_of_lt (by omega)
  rw [BitVec.toInt_eq_toNat_of_lt (by omega), h]

theorem before_apply (o : ℕ) (ho : o < 1024) (r : Fin 1024) (e : Fin 256) :
    before (BitVec.ofNat 32 o) (ix2 r e) = BitVec.ofBool (decide (o + e.val < r.val)) := by
  pointwise [before]
  have hr := r.isLt
  have he := e.isLt
  show BitVec.ofBool (BitVec.slt (BitVec.ofNat 32 o + BitVec.ofNat 32 e.val) (BitVec.ofNat 32 r.val)) = _
  congr 1
  rw [BitVec.slt_eq_decide, ← BitVec.ofNat_add, toInt_small _ (by omega), toInt_small _ (by omega)]
  exact decide_eq_decide.2 (by omega)

/-! ## One step on real numbers -/

/-- The logarithm of one minus the logistic function of a real. -/
def lk (z : ℝ) : ℝ := -(max z 0 + Real.log (1 + Real.exp (-|z|)))

/-- The stacked triangle: row `f` of either half holds ones up to column `f`. -/
def IsTriangle (u : Vec Ideal S512x256 .bf16) : Prop :=
  ∀ (f : Fin 512) (e : Fin 256), u (ix2 f e) = if e.val ≤ f.val % 256 then ((1 : ℝ) : EReal) else ((0 : ℝ) : EReal)

/-- A step below the diagonal: the rows gain the tile's weights times its values, the sum gains the tile's logarithms. -/
theorem stepFree_apply (q : FVec Ideal S1024x64 .bf16) (u : Vec Ideal S512x256 .bf16) (k v : Vec Ideal S1x1x256x64 .bf16)
    (c : Carry Ideal) (r : Fin 1024) (Q : Fin 64 → ℝ) (K V : Fin 256 → Fin 64 → ℝ) (A : Fin 64 → ℝ) (R : ℝ)
    (hu : IsTriangle u) (hq : ∀ d, q (ix2 r d) = ((Q d : ℝ) : EReal))
    (hk : ∀ e d, k (ix4 0 0 e d) = ((K e d : ℝ) : EReal)) (hv : ∀ e d, v (ix4 0 0 e d) = ((V e d : ℝ) : EReal))
    (hA : ∀ d, c.1 (ix2 r d) = ((A d : ℝ) : EReal)) (hR : c.2 (ix2 r 0) = ((R : ℝ) : EReal)) :
    (∀ d, (stepFree q u k v c).1 (ix2 r d) = ((A d + ∑ e : Fin 256,
      Real.exp ((∑ d, Q d * K e d) + (∑ f : Fin 256, if e ≤ f then lk (∑ d, Q d * K f d) else 0) + R) * V e d : ℝ) : EReal))
    ∧ (stepFree q u k v c).2 (ix2 r 0) = ((R + ∑ f : Fin 256, lk (∑ d, Q d * K f d) : ℝ) : EReal) := by
  have hk' : ∀ e d, shapeCast S256x64 k shapeCasts_S1x1x256x64_S256x64 (ix2 e d) = ((K e d : ℝ) : EReal) := fun e d => by
    pointwise; exact hk e d
  have hv' : ∀ e d, shapeCast S256x64 v shapeCasts_S1x1x256x64_S256x64 (ix2 e d) = ((V e d : ℝ) : EReal) := fun e d => by
    pointwise; exact hv e d
  have hz : ∀ e, logits q (shapeCast S256x64 k shapeCasts_S1x1x256x64_S256x64) (ix2 r e) = ((∑ d, Q d * K e d : ℝ) : EReal) :=
    fun e => logits_apply q _ r e Q (K e) hq (hk' e)
  have hs : ∀ e, tails (logKeep (logits q (shapeCast S256x64 k shapeCasts_S1x1x256x64_S256x64))) u (ix2 r e)
      = ((∑ f : Fin 256, if e ≤ f then lk (∑ d, Q d * K f d) else 0 : ℝ) : EReal) :=
    fun e => tails_apply _ u r e (fun f => lk (∑ d, Q d * K f d)) (fun f => logKeep_apply _ r f _ (hz f)) hu
  refine ⟨fun d => ?_, ?_⟩
  · show (addf c.1 _) (ix2 r d) = _
    rw [addf_apply, Ideal.addf_def, hA, weighted_apply _ _ r d _ (fun e => V e d) (fun e => weights_apply _ _ _ r e _ _ _ (hz e) (hs e) hR) (fun e => hv' e d),
      ← EReal.coe_add]
  · show advance c.2 _ (ix2 r 0) = _
    rw [advance_apply, hR, hs, ← EReal.coe_add]
    simp only [Fin.zero_le, if_true]

/-- A step that meets the diagonal: outside the mask a key has no weight and no logarithm. -/
theorem stepMasked_apply (m : IVec S1024x256 1) (q : FVec Ideal S1024x64 .bf16) (u : Vec Ideal S512x256 .bf16)
    (k v : Vec Ideal S1x1x256x64 .bf16) (c : Carry Ideal) (r : Fin 1024) (P : Fin 256 → Prop) [DecidablePred P]
    (Q : Fin 64 → ℝ) (K V : Fin 256 → Fin 64 → ℝ) (A : Fin 64 → ℝ) (R : ℝ)
    (hm : ∀ e, m (ix2 r e) = BitVec.ofBool (decide (P e)))
    (hu : IsTriangle u) (hq : ∀ d, q (ix2 r d) = ((Q d : ℝ) : EReal))
    (hk : ∀ e d, k (ix4 0 0 e d) = ((K e d : ℝ) : EReal)) (hv : ∀ e d, v (ix4 0 0 e d) = ((V e d : ℝ) : EReal))
    (hA : ∀ d, c.1 (ix2 r d) = ((A d : ℝ) : EReal)) (hR : c.2 (ix2 r 0) = ((R : ℝ) : EReal)) :
    (∀ d, (stepMasked m q u k v c).1 (ix2 r d) = ((A d + ∑ e : Fin 256, (if P e then
      Real.exp ((∑ d, Q d * K e d) + (∑ f : Fin 256, if e ≤ f then (if P f then lk (∑ d, Q d * K f d) else 0) else 0) + R) else 0) * V e d : ℝ) : EReal))
    ∧ (stepMasked m q u k v c).2 (ix2 r 0) = ((R + ∑ f : Fin 256, (if P f then lk (∑ d, Q d * K f d) else 0) : ℝ) : EReal) := by
  have hk' : ∀ e d, shapeCast S256x64 k shapeCasts_S1x1x256x64_S256x64 (ix2 e d) = ((K e d : ℝ) : EReal) := fun e d => by
    pointwise; exact hk e d
  have hv' : ∀ e d, shapeCast S256x64 v shapeCasts_S1x1x256x64_S256x64 (ix2 e d) = ((V e d : ℝ) : EReal) := fun e d => by
    pointwise; exact hv e d
  have hsel : ∀ (x : FVec Ideal S1024x256 .f32) (e : Fin 256) (X : ℝ), x (ix2 r e) = ((X : ℝ) : EReal) →
      select m x zeros (ix2 r e) = ((if P e then X else 0 : ℝ) : EReal) := fun x e X hx => by
    pointwise [zeros]
    rw [hm, hx]
    by_cases h : P e
    · simp [h, Scalar.select]
    · simp [h, Scalar.select]
  have hz : ∀ e, logits q (shapeCast S256x64 k shapeCasts_S1x1x256x64_S256x64) (ix2 r e) = ((∑ d, Q d * K e d : ℝ) : EReal) :=
    fun e => logits_apply q _ r e Q (K e) hq (hk' e)
  have hs : ∀ e, tails (select m (logKeep (logits q (shapeCast S256x64 k shapeCasts_S1x1x256x64_S256x64))) zeros) u (ix2 r e)
      = ((∑ f : Fin 256, if e ≤ f then (if P f then lk (∑ d, Q d * K f d) else 0) else 0 : ℝ) : EReal) :=
    fun e => tails_apply _ u r e (fun f => if P f then lk (∑ d, Q d * K f d) else 0)
      (fun f => hsel _ f _ (logKeep_apply _ r f _ (hz f))) hu
  refine ⟨fun d => ?_, ?_⟩
  · show (addf c.1 _) (ix2 r d) = _
    rw [addf_apply, Ideal.addf_def, hA, weighted_apply _ _ r d _ (fun e => V e d)
      (fun e => hsel _ e _ (weights_apply _ _ _ r e _ _ _ (hz e) (hs e) hR)) (fun e => hv' e d), ← EReal.coe_add]
  · show advance c.2 _ (ix2 r 0) = _
    rw [advance_apply, hR, hs, ← EReal.coe_add]
    simp only [Fin.zero_le, if_true]

end Cert.StickBreaking
-- ==== Proof.Stick.lean ====
/- The stick-breaking row over the reals: a query at position `t` against the keys before it, the logarithms of
   what each key leaves of the stick, their sums from the right, the weights, and the weighted values; and how
   these sums grow by one tile of 256 keys to the left. -/
module

public import proofs.«01_k».proof.Proof.Tile

@[expose] public section

noncomputable section

namespace Cert.StickBreaking

/-- The number of keys of the prompt. -/
abbrev keys : ℕ := 4096

/-- What key `s` leaves of the stick of the query at `t`, as a logarithm; a key at or after `t` leaves all of it. -/
def keep (z : ℕ → ℝ) (t s : ℕ) : ℝ := if s < t then lk (z s) else 0

/-- The sum of the logarithms from key `c` on. -/
def tail (z : ℕ → ℝ) (t c : ℕ) : ℝ := ∑ s ∈ Finset.Ico c keys, keep z t s

/-- The weight of key `s`. -/
def weight (z : ℕ → ℝ) (t s : ℕ) : ℝ := if s < t then Real.exp (z s + tail z t s) else 0

/-- The weighted values from key `c` on. -/
def partialRow (z : ℕ → ℝ) (t : ℕ) (v : ℕ → ℝ) (c : ℕ) : ℝ := ∑ s ∈ Finset.Ico c keys, weight z t s * v s

/-- A sum over an interval of 256 naturals, by its places. -/
theorem sum_tile (f : ℕ → ℝ) (c : ℕ) : ∑ s ∈ Finset.Ico c (c + 256), f s = ∑ e : Fin 256, f (c + e.val) := by
  rw [Finset.sum_Ico_eq_sum_range, Nat.add_sub_cancel_left, Finset.sum_range]

/-- Past the query there is nothing left to sum. -/
theorem tail_past (z : ℕ → ℝ) (t c : ℕ) (h : t ≤ c) : tail z t c = 0 :=
  Finset.sum_eq_zero fun s hs => if_neg (by have := (Finset.mem_Ico.1 hs).1; omega)

theorem partialRow_past (z : ℕ → ℝ) (t : ℕ) (v : ℕ → ℝ) (c : ℕ) (h : t ≤ c) : partialRow z t v c = 0 :=
  Finset.sum_eq_zero fun s hs => by
    rw [weight, if_neg (by have := (Finset.mem_Ico.1 hs).1; omega), zero_mul]

/-- One tile to the left, the sum of the logarithms gains the tile's. -/
theorem tail_tile (z : ℕ → ℝ) (t c : ℕ) (h : c + 256 ≤ keys) :
    tail z t c = tail z t (c + 256) + ∑ f : Fin 256, keep z t (c + f.val) := by
  rw [tail, ← Finset.sum_Ico_consecutive _ (Nat.le_add_right c 256) h, sum_tile, add_comm]
  rfl

/-- Inside the tile: the sum from its place `e` on is the tile's own sum from there and what lies to its right. -/
theorem tail_within (z : ℕ → ℝ) (t c : ℕ) (h : c + 256 ≤ keys) (e : Fin 256) :
    tail z t (c + e.val) = (∑ f : Fin 256, if e ≤ f then keep z t (c + f.val) else 0) + tail z t (c + 256) := by
  have he := e.isLt
  rw [tail, ← Finset.sum_Ico_consecutive _ (show c + e.val ≤ c + 256 by omega) h]
  congr 1
  rw [show (fun f : Fin 256 => if e ≤ f then keep z t (c + f.val) else 0)
    = fun f : Fin 256 => (fun s => if c + e.val ≤ s then keep z t s else 0) (c + f.val) from funext fun f => by
      by_cases hf : e ≤ f
      · have : c + e.val ≤ c + f.val := Nat.add_le_add_left hf c
        simp only [hf, this, if_true]
      · have : ¬ c + e.val ≤ c + f.val := fun hh => hf (Nat.le_of_add_le_add_left hh)
        simp only [hf, this, if_false],
    ← sum_tile (fun s => if c + e.val ≤ s then keep z t s else 0) c,
    ← Finset.sum_Ico_consecutive (fun s => if c + e.val ≤ s then keep z t s else 0) (Nat.le_add_right c e.val) (show c + e.val ≤ c + 256 by omega)]
  rw [Finset.sum_eq_zero (s := Finset.Ico c (c + e.val)) fun s hs => if_neg (by have := (Finset.mem_Ico.1 hs).2; omega), zero_add]
  exact Finset.sum_congr rfl fun s hs => (if_pos (Finset.mem_Ico.1 hs).1).symm

/-- One tile to the left, the row gains the tile's weights times its values. -/
theorem partialRow_tile (z : ℕ → ℝ) (t : ℕ) (v : ℕ → ℝ) (c : ℕ) (h : c + 256 ≤ keys) :
    partialRow z t v c = partialRow z t v (c + 256) + ∑ e : Fin 256, weight z t (c + e.val) * v (c + e.val) := by
  rw [partialRow, ← Finset.sum_Ico_consecutive _ (Nat.le_add_right c 256) h, sum_tile (fun s => weight z t s * v s), add_comm]
  rfl

/-- The weight of a key of the tile, from the tile's own sum and the running one. -/
theorem weight_tile (z : ℕ → ℝ) (t c : ℕ) (h : c + 256 ≤ keys) (e : Fin 256) :
    (if c + e.val < t then Real.exp (z (c + e.val)
      + (∑ f : Fin 256, if e ≤ f then (if c + f.val < t then lk (z (c + f.val)) else 0) else 0) + tail z t (c + 256)) else 0)
      = weight z t (c + e.val) := by
  rw [weight, tail_within z t c h e, add_assoc]
  rfl

/-- The same on a tile wholly before the query, where no mask is needed. -/
theorem weight_free (z : ℕ → ℝ) (t c : ℕ) (h : c + 256 ≤ keys) (ht : c + 256 ≤ t) (e : Fin 256) :
    Real.exp (z (c + e.val) + (∑ f : Fin 256, if e ≤ f then lk (z (c + f.val)) else 0) + tail z t (c + 256))
      = weight z t (c + e.val) := by
  have hlt : ∀ f : Fin 256, c + f.val < t := fun f => by have := f.isLt; omega
  rw [← weight_tile z t c h e, if_pos (hlt e)]
  simp only [hlt, if_true]

end Cert.StickBreaking
-- ==== Proof.Block.lean ====
/- What one grid point of the kernel writes: the steps over its tiles from the diagonal to the left, on the point's
   blocks of queries, keys and values. -/
module

public import proofs.«01_k».proof.Proof.Stick
public import proofs.«01_k».proof.Proof.Gen.KernelIdeal.Value
public import Idealize.ShloMosaic.Lib.Pipeline.ValueKit

@[expose] public section

set_option maxRecDepth 16384

noncomputable section

namespace Cert.StickBreaking

open Idealize.ShloMosaic Idealize.ShloMosaic.TcCoe Idealize.ShloMosaic.Tactic Cert.KernelIdeal Cert.KernelIdeal.Gen
open Idealize.ShloMosaic.Pipeline (Dat Cfg Window cellOf)

variable {F : FTy → Type} [FloatOps F]

/-- The 256 rows of a block of keys or values that start where `off` says. -/
def rowsAt (x : Vec F S1x1x4096x64 .bf16) (off : Fin 4 → ℕ) (h : ∀ a, off a + S1x1x256x64.size a ≤ S1x1x4096x64.size a) :
    Vec F S1x1x256x64 .bf16 :=
  View.ld x (Rect.unit (s := S1x1x4096x64) off S1x1x256x64.size h)

/-- The queries of the point as a matrix. -/
def queries (x : Vec F S1x1x1024x64 .bf16) : FVec F S1024x64 .bf16 := shapeCast S1024x64 x shapeCasts_S1x1x1024x64_S1024x64

/-- The tile `d` tiles into the point's own rows, under the diagonal mask. -/
def diagStep (i : grid0.Coords) (x0 : Vec F S1x1x1024x64 .bf16) (x1 x2 : Vec F S1x1x4096x64 .bf16) (x3 : Vec F S512x256 .bf16)
    (d : Fin 4) (o : BitVec 32) (c : Carry F) : Carry F :=
  stepMasked (before o) (queries x0) x3 (rowsAt x1 (k0_off1 i (BitVec.ofNat 32 d.val)) (k0_off1_inb i d))
    (rowsAt x2 (k0_off1 i (BitVec.ofNat 32 d.val)) (k0_off1_inb i d)) c

/-- The carry after the four tiles that meet the diagonal. -/
def afterDiag (i : grid0.Coords) (x0 : Vec F S1x1x1024x64 .bf16) (x1 x2 : Vec F S1x1x4096x64 .bf16) (x3 : Vec F S512x256 .bf16) : Carry F :=
  diagStep i x0 x1 x2 x3 0 0#32 (diagStep i x0 x1 x2 x3 1 256#32 (diagStep i x0 x1 x2 x3 2 512#32 (diagStep i x0 x1 x2 x3 3 768#32 start)))

/-- The tile of trip `n` of the loop, and the last carry past it. -/
def loopStep (i : grid0.Coords) (x0 : Vec F S1x1x1024x64 .bf16) (x1 x2 : Vec F S1x1x4096x64 .bf16) (x3 : Vec F S512x256 .bf16)
    (n : ℕ) (c : Carry F) : Carry F :=
  if h : n < (k0_t1_loop i).trips then
    stepFree (queries x0) x3 (rowsAt x1 (k0_off2 i ⟨n, h⟩) (k0_off2_inb i ⟨n, h⟩)) (rowsAt x2 (k0_off2 i ⟨n, h⟩) (k0_off2_inb i ⟨n, h⟩)) c
  else c

/-- The carry before trip `n` of the loop. -/
def afterLoop (i : grid0.Coords) (x0 : Vec F S1x1x1024x64 .bf16) (x1 x2 : Vec F S1x1x4096x64 .bf16) (x3 : Vec F S512x256 .bf16) :
    ℕ → Carry F
  | 0 => afterDiag i x0 x1 x2 x3
  | n + 1 => loopStep i x0 x1 x2 x3 n (afterLoop i x0 x1 x2 x3 n)

/-- One trip of the generated run is one step. -/
theorem trip_eq (𝒱 : Variants) (c : Dev nD) (bd : Option 𝒱.V) (i : grid0.Coords) (arg3 : Memref sig .tc .vmem S1x1x1024x64 .bf16) (harg3 : arg3.IsWhole) (arg4 : Memref sig .tc .vmem S1x1x4096x64 .bf16) (harg4 : arg4.IsWhole) (arg5 : Memref sig .tc .vmem S1x1x4096x64 .bf16) (harg5 : arg5.IsWhole) (arg6 : Memref sig .tc .vmem S512x256 .bf16) (harg6 : arg6.IsWhole) (arg7 : Memref sig .tc .vmem S1x1x1024x64 .f32) (harg7 : arg7.IsWhole)
    (arg2 : BitVec 32) (x0 : Vec F S1x1x1024x64 .bf16) (x1 x2 : Vec F S1x1x4096x64 .bf16) (x3 : Vec F S512x256 .bf16) (k : Fin (k0_t1_loop i).trips) (acc : Carry F) :
    tripR_k0_t1 (F := F) 𝒱 c bd i arg3 harg3 arg4 harg4 arg5 harg5 arg6 harg6 arg7 harg7 arg2 (queries x0) (harg4.unread x1) (harg5.unread x2) (harg6.unread x3) k acc
      = stepFree (queries x0) x3 (rowsAt x1 (k0_off2 i k) (k0_off2_inb i k)) (rowsAt x2 (k0_off2 i k) (k0_off2_inb i k)) acc := by
  unfold tripR_k0_t1 trip_k0_t1
  dsimp only
  sl_unfold_words
  simp only [View.readAt_eq_ld, Memref.IsWhole.read_unread]
  rw [View.ld_unit_lit inb_S512x256_S512x256_0_0 x3 (by decide)]
  rfl

/-- The loop's carries of the generated run are the steps'. -/
theorem loop_eq (𝒱 : Variants) (c : Dev nD) (bd : Option 𝒱.V) (i : grid0.Coords) (arg3 : Memref sig .tc .vmem S1x1x1024x64 .bf16) (harg3 : arg3.IsWhole) (arg4 : Memref sig .tc .vmem S1x1x4096x64 .bf16) (harg4 : arg4.IsWhole) (arg5 : Memref sig .tc .vmem S1x1x4096x64 .bf16) (harg5 : arg5.IsWhole) (arg6 : Memref sig .tc .vmem S512x256 .bf16) (harg6 : arg6.IsWhole) (arg7 : Memref sig .tc .vmem S1x1x1024x64 .f32) (harg7 : arg7.IsWhole)
    (arg2 : BitVec 32) (x0 : Vec F S1x1x1024x64 .bf16) (x1 x2 : Vec F S1x1x4096x64 .bf16) (x3 : Vec F S512x256 .bf16) (n : ℕ) (hn : n ≤ (k0_t1_loop i).trips) :
    st_k0_t1 (F := F) 𝒱 c bd i arg3 harg3 arg4 harg4 arg5 harg5 arg6 harg6 arg7 harg7 arg2 (queries x0) (harg4.unread x1) (harg5.unread x2) (harg6.unread x3)
      (afterDiag i x0 x1 x2 x3) n = afterLoop i x0 x1 x2 x3 n := by
  induction n with
  | zero => rfl
  | succ n ih =>
    have h : n < (k0_t1_loop i).trips := hn
    rw [st_k0_t1_succ (F := F) 𝒱 c bd i arg3 harg3 arg4 harg4 arg5 harg5 arg6 harg6 arg7 harg7 arg2 (queries x0) (harg4.unread x1) (harg5.unread x2) (harg6.unread x3)
      (afterDiag i x0 x1 x2 x3) ⟨n, h⟩, trip_eq, ih (Nat.le_of_lt h), afterLoop, loopStep, dif_pos h]

/-- The second loop, which the printed program keeps for a remainder, has no trips. -/
theorem no_rest (i : grid0.Coords) : (k0_t2_loop i).trips = 0 := Nat.le_zero.1 (k0_t2_abs i).2.1

/-- What the point writes: the rows after the loop. -/
theorem out_eq (c : Dev nD) (i : grid0.Coords) (arg3 : Memref sig .tc .vmem S1x1x1024x64 .bf16) (harg3 : arg3.IsWhole) (arg4 : Memref sig .tc .vmem S1x1x4096x64 .bf16) (harg4 : arg4.IsWhole) (arg5 : Memref sig .tc .vmem S1x1x4096x64 .bf16) (harg5 : arg5.IsWhole) (arg6 : Memref sig .tc .vmem S512x256 .bf16) (harg6 : arg6.IsWhole) (arg7 : Memref sig .tc .vmem S1x1x1024x64 .f32) (harg7 : arg7.IsWhole)
    (x0 : Vec F S1x1x1024x64 .bf16) (x1 x2 : Vec F S1x1x4096x64 .bf16) (x3 : Vec F S512x256 .bf16) :
    out0_A_4 c i arg3 harg3 arg4 harg4 arg5 harg5 arg6 harg6 arg7 harg7 x0 x1 x2 x3
      = shapeCast S1x1x1024x64 (afterLoop i x0 x1 x2 x3 (k0_t1_loop i).trips).1 shapeCasts_S1024x64_S1x1x1024x64 := by
  have e : afterLoop i x0 x1 x2 x3 (k0_t1_loop i).trips = st_k0_t2 (F := F) Variants.none c none i arg3 harg3 arg4 harg4 arg5 harg5 arg6 harg6 arg7 harg7 (BitVec.ofNat 32 (i 2).val) (queries x0)
      (Scalar.addi 0#32 (Scalar.muli (Scalar.divsi (Scalar.subi (Scalar.muli (BitVec.ofNat 32 (i 2).val) 4#32) 0#32) 1#32) 1#32))
      (harg4.unread x1) (harg5.unread x2) (harg6.unread x3)
      (st_k0_t1 (F := F) Variants.none c none i arg3 harg3 arg4 harg4 arg5 harg5 arg6 harg6 arg7 harg7 (BitVec.ofNat 32 (i 2).val) (queries x0) (harg4.unread x1) (harg5.unread x2) (harg6.unread x3)
        (afterDiag i x0 x1 x2 x3) (k0_t1_loop i).trips) (k0_t2_loop i).trips := by
    rw [loop_eq _ _ _ _ _ _ _ _ _ _ _ _ _ _ _ _ _ _ _ _ le_rfl, no_rest, st_k0_t2_zero]
  rw [e]
  frame_out
  rfl

end Cert.StickBreaking
-- ==== Proof.BlockValue.lean ====
/- What one grid point of the kernel writes, as real numbers: every row of its block holds the stick-breaking
   attention of its query over all the keys before it. -/
module

public import proofs.«01_k».proof.Proof.Block

@[expose] public section

set_option maxRecDepth 16384

noncomputable section

namespace Cert.StickBreaking

open Idealize.ShloMosaic Idealize.ShloMosaic.TcCoe Cert.KernelIdeal Cert.KernelIdeal.Gen

/-- The number of tiles to the left of a point's diagonal. -/
theorem trips_eq : ∀ i : grid0.Coords, (k0_t1_loop i).trips = 4 * (i 2).val := by decide +kernel

/-- Where trip `k` reads its keys and values: the tiles in turn from the diagonal to the left. -/
theorem off2_eq : ∀ (i : grid0.Coords) (k : Fin (k0_t1_loop i).trips),
    k0_off2 i k = ![0, 0, 1024 * (i 2).val - 256 * (k.val + 1), 0] := by decide +kernel

/-- A row of the tile that starts at row `o` is the row `o` further down of the block. -/
theorem rowsAt_apply {F : FTy → Type} [FloatOps F] (x : Vec F S1x1x4096x64 .bf16) (o : ℕ) (h) (e : Fin 256) (d : Fin 64) (ho : o + e.val < 4096) :
    rowsAt x ![0, 0, o, 0] h (ix4 0 0 e d) = x (ix4 0 0 ⟨o + e.val, ho⟩ d) := by
  pointwise [rowsAt]

/-- The logits of row `r` of the queries against the keys. -/
def rowLogits (Q : Fin 1024 → Fin 64 → ℝ) (K : ℕ → Fin 64 → ℝ) (r : Fin 1024) (s : ℕ) : ℝ := ∑ d, Q r d * K s d

/-- The carry holds, for every row, the sums over the keys from `c` on. -/
def Holds (b : ℕ) (Q : Fin 1024 → Fin 64 → ℝ) (K V : ℕ → Fin 64 → ℝ) (c : ℕ) (cr : Carry Ideal) : Prop :=
  ∀ r : Fin 1024, (∀ d, cr.1 (ix2 r d) = ((partialRow (rowLogits Q K r) (b + r.val) (fun s => V s d) c : ℝ) : EReal))
    ∧ cr.2 (ix2 r 0) = ((tail (rowLogits Q K r) (b + r.val) c : ℝ) : EReal)

section
variable (i : grid0.Coords) (x0 : Vec Ideal S1x1x1024x64 .bf16) (x1 x2 : Vec Ideal S1x1x4096x64 .bf16) (x3 : Vec Ideal S512x256 .bf16)
  (Q : Fin 1024 → Fin 64 → ℝ) (K V : ℕ → Fin 64 → ℝ)
  (hu : IsTriangle x3) (hq : ∀ r d, x0 (ix4 0 0 r d) = ((Q r d : ℝ) : EReal))
  (hk : ∀ (s : Fin 4096) d, x1 (ix4 0 0 s d) = ((K s.val d : ℝ) : EReal))
  (hv : ∀ (s : Fin 4096) d, x2 (ix4 0 0 s d) = ((V s.val d : ℝ) : EReal))

include hq in
theorem queries_apply (r : Fin 1024) (d : Fin 64) : queries x0 (ix2 r d) = ((Q r d : ℝ) : EReal) := by
  pointwise [queries]
  exact hq r d

/-- Before the first tile nothing is summed: every key of the point's rows and after lies past the query. -/
theorem start_holds (b : ℕ) : Holds b Q K V (b + 1024) start := by
  intro r
  have hr := r.isLt
  refine ⟨fun d => ?_, ?_⟩
  · rw [partialRow_past _ _ _ _ (by omega)]
    pointwise [start]
    rfl
  · rw [tail_past _ _ _ (by omega)]
    pointwise [start]
    rfl

include hu hq hk hv in
/-- A masked step brings the sums one tile to the left. -/
theorem diagStep_holds (d : Fin 4) (cr : Carry Ideal)
    (h : Holds (1024 * (i 2).val) Q K V (1024 * (i 2).val + 256 * d.val + 256) cr) :
    Holds (1024 * (i 2).val) Q K V (1024 * (i 2).val + 256 * d.val) (diagStep i x0 x1 x2 x3 d (BitVec.ofNat 32 (256 * d.val)) cr) := by
  intro r
  have hi : (i 2).val < 4 := (i 2).isLt
  have hd := d.isLt
  have hle : 1024 * (i 2).val + 256 * d.val + 256 ≤ keys := by show _ ≤ 4096; omega
  obtain ⟨hA, hR⟩ := h r
  have off := k0_off1_eq i d
  have hk' : ∀ (e : Fin 256) (d' : Fin 64), rowsAt x1 (k0_off1 i (BitVec.ofNat 32 d.val)) (k0_off1_inb i d) (ix4 0 0 e d')
      = ((K (1024 * (i 2).val + 256 * d.val + e.val) d' : ℝ) : EReal) := fun e d' => by
    have he := e.isLt
    have := rowsAt_apply x1 (1024 * (i 2).val + 256 * d.val) (off ▸ k0_off1_inb i d) e d' (by omega)
    simp only [off]
    exact this.trans (hk _ _)
  have hv' : ∀ (e : Fin 256) (d' : Fin 64), rowsAt x2 (k0_off1 i (BitVec.ofNat 32 d.val)) (k0_off1_inb i d) (ix4 0 0 e d')
      = ((V (1024 * (i 2).val + 256 * d.val + e.val) d' : ℝ) : EReal) := fun e d' => by
    have he := e.isLt
    have := rowsAt_apply x2 (1024 * (i 2).val + 256 * d.val) (off ▸ k0_off1_inb i d) e d' (by omega)
    simp only [off]
    exact this.trans (hv _ _)
  have step := stepMasked_apply (before (BitVec.ofNat 32 (256 * d.val))) (queries x0) x3 _ _ cr r
    (fun e => 1024 * (i 2).val + 256 * d.val + e.val < 1024 * (i 2).val + r.val) (Q r) _ _ _ _
    (fun e => (before_apply (256 * d.val) (by omega) r e).trans (congrArg BitVec.ofBool (decide_eq_decide.2 (by omega))))
    hu (queries_apply x0 Q hq r) hk' hv' hA hR
  refine ⟨fun d' => (step.1 d').trans (congrArg _ ?_), step.2.trans (congrArg _ ?_)⟩
  · rw [partialRow_tile _ _ _ _ hle]
    congr 1
    exact Finset.sum_congr rfl fun e _ => congrArg (· * _) (weight_tile (rowLogits Q K r) _ _ hle e)
  · rw [tail_tile _ _ _ hle]
    rfl

include hu hq hk hv in
/-- So do the four masked steps: what is left are the tiles before the point's rows. -/
theorem afterDiag_holds : Holds (1024 * (i 2).val) Q K V (1024 * (i 2).val) (afterDiag i x0 x1 x2 x3) :=
  diagStep_holds i x0 x1 x2 x3 Q K V hu hq hk hv 0 _ (diagStep_holds i x0 x1 x2 x3 Q K V hu hq hk hv 1 _
    (diagStep_holds i x0 x1 x2 x3 Q K V hu hq hk hv 2 _ (diagStep_holds i x0 x1 x2 x3 Q K V hu hq hk hv 3 _ (start_holds Q K V _))))

include hu hq hk hv in
/-- Every trip of the loop brings the sums one tile further to the left. -/
theorem afterLoop_holds (n : ℕ) (hn : n ≤ 4 * (i 2).val) :
    Holds (1024 * (i 2).val) Q K V (1024 * (i 2).val - 256 * n) (afterLoop i x0 x1 x2 x3 n) := by
  induction n with
  | zero => exact afterDiag_holds i x0 x1 x2 x3 Q K V hu hq hk hv
  | succ n ih =>
    intro r
    have hi : (i 2).val < 4 := (i 2).isLt
    have h : n < (k0_t1_loop i).trips := by rw [trips_eq]; omega
    obtain ⟨hA, hR⟩ := ih (by omega) r
    rw [afterLoop, loopStep, dif_pos h]
    have off := off2_eq i ⟨n, h⟩
    obtain ⟨c, hc, hc'⟩ : ∃ c, 1024 * (i 2).val - 256 * (n + 1) = c ∧ 1024 * (i 2).val - 256 * n = c + 256 := ⟨_, rfl, by omega⟩
    have hle : c + 256 ≤ keys := by show _ ≤ 4096; omega
    rw [hc'] at hA hR
    simp only [hc] at off ⊢
    have hk' : ∀ (e : Fin 256) (d' : Fin 64), rowsAt x1 (k0_off2 i ⟨n, h⟩) (k0_off2_inb i ⟨n, h⟩) (ix4 0 0 e d')
        = ((K (c + e.val) d' : ℝ) : EReal) := fun e d' => by
      have he := e.isLt
      have := rowsAt_apply x1 c (off ▸ k0_off2_inb i ⟨n, h⟩) e d' (by show _ < 4096; omega)
      simp only [off]
      exact this.trans (hk _ _)
    have hv' : ∀ (e : Fin 256) (d' : Fin 64), rowsAt x2 (k0_off2 i ⟨n, h⟩) (k0_off2_inb i ⟨n, h⟩) (ix4 0 0 e d')
        = ((V (c + e.val) d' : ℝ) : EReal) := fun e d' => by
      have he := e.isLt
      have := rowsAt_apply x2 c (off ▸ k0_off2_inb i ⟨n, h⟩) e d' (by show _ < 4096; omega)
      simp only [off]
      exact this.trans (hv _ _)
    have step := stepFree_apply (queries x0) x3 _ _ _ r (Q r) _ _ _ _ hu (queries_apply x0 Q hq r) hk' hv' hA hR
    have lt : ∀ f : Fin 256, c + f.val < 1024 * (i 2).val + r.val := fun f => by have := f.isLt; omega
    refine ⟨fun d' => (step.1 d').trans (congrArg _ ?_), step.2.trans (congrArg _ ?_)⟩
    · rw [partialRow_tile _ _ _ _ hle]
      congr 1
      exact Finset.sum_congr rfl fun e _ => congrArg (· * _) (weight_free (rowLogits Q K r) _ _ hle (by omega) e)
    · rw [tail_tile _ _ _ hle]
      congr 1
      exact Finset.sum_congr rfl fun f _ => (if_pos (lt f)).symm

include hu hq hk hv in
/-- The block a point writes: row `r` is the attention of the query at `1024 i + r` over the keys before it. -/
theorem out_apply (c : Dev nD) (arg3 : Memref sig .tc .vmem S1x1x1024x64 .bf16) (harg3 : arg3.IsWhole) (arg4 : Memref sig .tc .vmem S1x1x4096x64 .bf16) (harg4 : arg4.IsWhole) (arg5 : Memref sig .tc .vmem S1x1x4096x64 .bf16) (harg5 : arg5.IsWhole) (arg6 : Memref sig .tc .vmem S512x256 .bf16) (harg6 : arg6.IsWhole) (arg7 : Memref sig .tc .vmem S1x1x1024x64 .f32) (harg7 : arg7.IsWhole)
    (r : Fin 1024) (d : Fin 64) :
    out0_A_4 c i arg3 harg3 arg4 harg4 arg5 harg5 arg6 harg6 arg7 harg7 x0 x1 x2 x3 (ix4 0 0 r d)
      = ((partialRow (rowLogits Q K r) (1024 * (i 2).val + r.val) (fun s => V s d) 0 : ℝ) : EReal) := by
  rw [out_eq]
  pointwise
  have h := (afterLoop_holds i x0 x1 x2 x3 Q K V hu hq hk hv (k0_t1_loop i).trips (by rw [trips_eq]) r).1 d
  rw [h, trips_eq, show 1024 * (i 2).val - 256 * (4 * (i 2).val) = 0 by omega]

end

end Cert.StickBreaking
-- ==== Proof.Array.lean ====
/- The array the kernel leaves: every element is the stick-breaking attention of its query over the keys before
   it, in real numbers of the arguments. -/
module

public import proofs.«01_k».proof.Proof.BlockValue
public import Idealize.ShloMosaic.Lib.Claim

@[expose] public section

set_option maxRecDepth 16384

noncomputable section

namespace Cert.StickBreaking

open Idealize.ShloMosaic Idealize.ShloMosaic.TcCoe Idealize.SL.Sem Cert.KernelIdeal Cert.KernelIdeal.Gen

/-- Position `s` of an argument's head, as a function of every natural number (zero past the end). -/
def headRow (x : S8x4096x4x64.Idx → ℝ) (b : Fin 8) (h : Fin 4) (s : ℕ) (d : Fin 64) : ℝ :=
  if hs : s < 4096 then x (ix4 b ⟨s, hs⟩ h d) else 0

/-- Stick-breaking attention: the weighted sum of the values before a query, of logits scaled by an eighth. -/
def attention (q k v : S8x4096x4x64.Idx → ℝ) (b : Fin 8) (h : Fin 4) (t : Fin 4096) (d : Fin 64) : ℝ :=
  partialRow (fun s => ∑ e, (q (ix4 b t h e) * (1 / 8)) * headRow k b h s e) t.val (fun s => headRow v b h s d) 0

/-- The word of an eighth is an eighth. -/
theorem eighth_word : (Ideal.ofBits .f32 0x3E000000#32 : EReal) = ((1 / 8 : ℝ) : EReal) := by
  simp [Ideal.ofBits, Ideal.ieee, -EReal.coe_mul]
  norm_num

/-- Where a point's block of queries lies in its array. -/
theorem index_q : ∀ t : Fin grid0.N, win0_0.index t = ![(grid0.coords t 0).val, (grid0.coords t 1).val, (grid0.coords t 2).val, 0] := by
  decide +kernel

/-- Where a point's keys lie in their array: its batch element and head. -/
theorem index_k : ∀ t : Fin grid0.N, win0_1.index t = ![(grid0.coords t 0).val, (grid0.coords t 1).val, 0, 0] := by
  decide +kernel

/-- Where a point's values lie in their array: its batch element and head. -/
theorem index_v : ∀ t : Fin grid0.N, win0_2.index t = ![(grid0.coords t 0).val, (grid0.coords t 1).val, 0, 0] := by
  decide +kernel

/-- Every point reads the whole triangle. -/
theorem index_u : ∀ t : Fin grid0.N, win0_3.index t = ![0, 0] := by
  decide +kernel

/-- Where a point's block of results lies in its array. -/
theorem index_o : ∀ t : Fin grid0.N, win0_4.index t = ![(grid0.coords t 0).val, (grid0.coords t 1).val, (grid0.coords t 2).val, 0] := by
  decide +kernel

/-- The batch element, the head and the block of rows of a point. -/
abbrev batchOf (t : Fin cfg0.N) : Fin 8 := ⟨(grid0.coords t 0).val, (grid0.coords t 0).isLt⟩
abbrev headOf (t : Fin cfg0.N) : Fin 4 := ⟨(grid0.coords t 1).val, (grid0.coords t 1).isLt⟩
abbrev rowsOf (t : Fin cfg0.N) : Fin 4 := ⟨(grid0.coords t 2).val, (grid0.coords t 2).isLt⟩

/-- Row `r` of a point's block of rows. -/
abbrev rowOf (t : Fin cfg0.N) (r : Fin 1024) : Fin 4096 := ⟨1024 * (rowsOf t).val + r.val, by have := (rowsOf t).isLt; omega⟩

/-- Indices of four coordinates are equal when the coordinates are. -/
theorem ix4_of {n0 n1 n2 n3 : ℕ} (j : (⟨4, ![n0, n1, n2, n3]⟩ : Shape).Idx) (a : Fin n0) (b : Fin n1) (e : Fin n2) (d : Fin n3)
    (h0 : (j 0).val = a.val) (h1 : (j 1).val = b.val) (h2 : (j 2).val = e.val) (h3 : (j 3).val = d.val) : j = ix4 a b e d :=
  funext fun x => Fin.ext (match x with | ⟨0, _⟩ => h0 | ⟨1, _⟩ => h1 | ⟨2, _⟩ => h2 | ⟨3, _⟩ => h3)

/-- An element of a point's block of queries, in the array. -/
theorem emb_q (t : Fin cfg0.N) (r : Fin 1024) (d : Fin 64) :
    (win0_0.rect t).emb (ix4 0 0 r d) = ix4 (batchOf t) (headOf t) (rowOf t r) d := by
  have e := index_q t
  refine ix4_of (n0 := 8) (n1 := 4) (n2 := 4096) (n3 := 64) _ _ _ _ _ ?_ ?_ ?_ ?_ <;> rw [win0_0.rect_emb_val, e]
  · exact Nat.mul_one _
  · exact Nat.mul_one _
  · exact congrArg (· + r.val) (Nat.mul_comm _ _)
  · exact Nat.zero_add _

/-- An element of a point's keys, in the array. -/
theorem emb_k (t : Fin cfg0.N) (s : Fin 4096) (d : Fin 64) :
    (win0_1.rect t).emb (ix4 0 0 s d) = ix4 (batchOf t) (headOf t) s d := by
  have e := index_k t
  refine ix4_of (n0 := 8) (n1 := 4) (n2 := 4096) (n3 := 64) _ _ _ _ _ ?_ ?_ ?_ ?_ <;> rw [win0_1.rect_emb_val, e]
  · exact Nat.mul_one _
  · exact Nat.mul_one _
  · exact Nat.zero_add _
  · exact Nat.zero_add _

/-- An element of a point's values, in the array. -/
theorem emb_v (t : Fin cfg0.N) (s : Fin 4096) (d : Fin 64) :
    (win0_2.rect t).emb (ix4 0 0 s d) = ix4 (batchOf t) (headOf t) s d := by
  have e := index_v t
  refine ix4_of (n0 := 8) (n1 := 4) (n2 := 4096) (n3 := 64) _ _ _ _ _ ?_ ?_ ?_ ?_ <;> rw [win0_2.rect_emb_val, e]
  · exact Nat.mul_one _
  · exact Nat.mul_one _
  · exact Nat.zero_add _
  · exact Nat.zero_add _

/-- An element of the triangle. -/
theorem emb_u (t : Fin cfg0.N) (f : Fin 512) (e : Fin 256) : (win0_3.rect t).emb (ix2 f e) = ix2 f e := by
  have h := index_u t
  refine funext fun x => Fin.ext ?_
  match x with
  | ⟨0, _⟩ => exact win0_3.rect_emb_val_of_index_zero t 0 (by rw [h]; rfl) _
  | ⟨1, _⟩ => exact win0_3.rect_emb_val_of_index_zero t 1 (by rw [h]; rfl) _

/-- An element of a point's block of results, in the array. -/
theorem emb_o (t : Fin cfg0.N) (r : Fin 1024) (d : Fin 64) :
    (win0_4.rect t).emb (ix4 0 0 r d) = ix4 (batchOf t) (headOf t) (rowOf t r) d := by
  have e := index_o t
  refine ix4_of (n0 := 8) (n1 := 4) (n2 := 4096) (n3 := 64) _ _ _ _ _ ?_ ?_ ?_ ?_ <;> rw [win0_4.rect_emb_val, e]
  · exact Nat.mul_one _
  · exact Nat.mul_one _
  · exact congrArg (· + r.val) (Nat.mul_comm _ _)
  · exact Nat.zero_add _

/-- A point's queries, read out of their array. -/
theorem read_q (t : Fin cfg0.N) (r : Fin 1024) (d : Fin 64) (x : S8x4x4096x64.Idx → EReal) :
    View.read (Elt Ideal) ((cfg0.win 0).blk t).view x (ix4 0 0 r d) = x (ix4 (batchOf t) (headOf t) (rowOf t r) d) :=
  congrArg x (emb_q t r d)

/-- A point's keys, read out of their array. -/
theorem read_k (t : Fin cfg0.N) (s : Fin 4096) (d : Fin 64) (x : S8x4x4096x64.Idx → EReal) :
    View.read (Elt Ideal) ((cfg0.win 1).blk t).view x (ix4 0 0 s d) = x (ix4 (batchOf t) (headOf t) s d) :=
  congrArg x (emb_k t s d)

/-- A point's values, read out of their array. -/
theorem read_v (t : Fin cfg0.N) (s : Fin 4096) (d : Fin 64) (x : S8x4x4096x64.Idx → EReal) :
    View.read (Elt Ideal) ((cfg0.win 2).blk t).view x (ix4 0 0 s d) = x (ix4 (batchOf t) (headOf t) s d) :=
  congrArg x (emb_v t s d)

/-- A point's triangle, read out of their array. -/
theorem read_u (t : Fin cfg0.N) (f : Fin 512) (e : Fin 256) (x : S512x256.Idx → EReal) :
    View.read (Elt Ideal) ((cfg0.win 3).blk t).view x (ix2 f e) = x (ix2 f e) :=
  congrArg x (emb_u t f e)

section
variable (m : (ℓ : Loc nD τ sig) → Buf (Elt Ideal) ℓ) (c : Dev nD) (q k v : S8x4096x4x64.Idx → ℝ)
  (hq : ∀ i, (m ((c : Thread nD τ).loc main_arg0) : S8x4096x4x64.Idx → EReal) i = (q i : EReal))
  (hk : ∀ i, (m ((c : Thread nD τ).loc main_arg1) : S8x4096x4x64.Idx → EReal) i = (k i : EReal))
  (hv : ∀ i, (m ((c : Thread nD τ).loc main_arg2) : S8x4096x4x64.Idx → EReal) i = (v i : EReal))

include hq in
/-- Point `t`'s queries: the argument's, scaled. -/
theorem block_q (t : Fin cfg0.N) (r : Fin 1024) (d : Fin 64) :
    (iblk m c 0 t : S1x1x1024x64.Idx → EReal) (ix4 0 0 r d) = ((q (ix4 (batchOf t) (rowOf t r) (headOf t) d) * (1 / 8) : ℝ) : EReal) := by
  unfold iblk
  entry_read
  refine (read_q t r d _).trans ?_
  pointwise
  refine (congrArg₂ _ (hq _) eighth_word).trans ?_
  exact (EReal.coe_mul _ _).symm

include hk in
/-- Point `t`'s keys. -/
theorem block_k (t : Fin cfg0.N) (s : Fin 4096) (d : Fin 64) :
    (iblk m c 1 t : S1x1x4096x64.Idx → EReal) (ix4 0 0 s d) = ((headRow k (batchOf t) (headOf t) s.val d : ℝ) : EReal) := by
  unfold iblk
  entry_read
  refine (read_k t s d _).trans ?_
  pointwise
  refine (hk _).trans (congrArg _ ?_)
  rw [headRow, dif_pos s.isLt]
  rfl

include hv in
/-- Point `t`'s values. -/
theorem block_v (t : Fin cfg0.N) (s : Fin 4096) (d : Fin 64) :
    (iblk m c 2 t : S1x1x4096x64.Idx → EReal) (ix4 0 0 s d) = ((headRow v (batchOf t) (headOf t) s.val d : ℝ) : EReal) := by
  unfold iblk
  entry_read
  refine (read_v t s d _).trans ?_
  pointwise
  refine (hv _).trans (congrArg _ ?_)
  rw [headRow, dif_pos s.isLt]
  rfl

/-- Point `t`'s triangle. -/
theorem block_u (t : Fin cfg0.N) : IsTriangle (iblk m c 3 t) := by
  intro f e
  unfold iblk
  entry_read
  refine (read_u t f e _).trans ?_
  pointwise
  have hf := f.isLt
  have he := e.isLt
  have ge : ∀ n : ℕ, n < 256 → (((BitVec.ofBool (BitVec.sle (BitVec.ofNat 32 e.val) (BitVec.ofNat 32 n))).toNat : ℝ) : EReal)
      = if e.val ≤ n then ((1 : ℝ) : EReal) else ((0 : ℝ) : EReal) := fun n hn => by
    rw [BitVec.sle_eq_decide, toInt_small _ (by omega), toInt_small _ (by omega)]
    by_cases h : e.val ≤ n
    · rw [if_pos h, decide_eq_true (by omega), show (BitVec.ofBool true).toNat = 1 from rfl, Nat.cast_one]
    · rw [if_neg h, decide_eq_false (by omega)]
      norm_num
  split
  · next h =>
    rw [Nat.mod_eq_of_lt h]
    exact ge f.val h
  · next h =>
    rw [show f.val % 256 = f.val - 256 by omega]
    exact ge (f.val - 256) (by omega)

/-- The kernel's result, index by index. -/
def result : S8x4x4096x64.Idx → EReal := fun i => ((attention q k v (i 0) (i 1) (i 2) (i 3) : ℝ) : EReal)

include hq hk hv in
/-- What point `t` writes back is its block of the result. -/
theorem flushed_eq (t : Fin cfg0.N) : (dats m 0 c).flushed 4 t = ((cfg0.win 4).blk t).view.read (Elt Ideal) (result q k v) := by
  rw [Value.flushed4_A]
  refine funext fun (y : S1x1x1024x64.Idx) => ?_
  obtain ⟨r, d, rfl⟩ : ∃ (r : Fin 1024) (d : Fin 64), y = ix4 0 0 r d :=
    ⟨y 2, y 3, ix4_of y _ _ _ _ (Nat.lt_one_iff.1 (y 0).isLt) (Nat.lt_one_iff.1 (y 1).isLt) rfl rfl⟩
  refine (out_apply (grid0.coords t) _ _ _ _ _ _ _ (block_u m c t) (block_q m c q hq t) (block_k m c k hk t) (block_v m c v hv t) c _ _ _ _ _ _ _ _ _ _ r d).trans ?_
  exact (congrArg (result q k v) (emb_o t r d)).symm

/-- Every index of the result lies in a point's block. -/
theorem covered (i : S8x4x4096x64.Idx) : ∃ t : Fin cfg0.N, (cfg0.win 4).flush t = true ∧ i ∈ ((cfg0.win 4).blk t).view.set := by
  have all : ∀ (b : Fin 8) (h : Fin 4) (r : Fin 4), ∃ t : Fin grid0.N, win0_4.index t = ![b.val, h.val, r.val, 0] := by decide +kernel
  have h0 : (i 0).val < 8 := (i 0).isLt
  have h1 : (i 1).val < 4 := (i 1).isLt
  have h2 : (i 2).val < 4096 := (i 2).isLt
  have h3 : (i 3).val < 64 := (i 3).isLt
  obtain ⟨t, ht⟩ := all ⟨(i 0).val, h0⟩ ⟨(i 1).val, h1⟩ ⟨(i 2).val / 1024, by omega⟩
  refine ⟨t, flush0_4 t, ?_⟩
  show i ∈ ((View.whole main_v17).slice (win0_4.rect t)).set
  rw [View.set_slice_whole, Rect.mem_set_unit]
  intro a
  show win0_4.index t a * win0_4.size a ≤ (i a).val ∧ (i a).val < win0_4.index t a * win0_4.size a + win0_4.xsize (grid0.coords t) a
  rw [ht]
  match a with
  | ⟨0, _⟩ => show (i 0).val * 1 ≤ (i 0).val ∧ (i 0).val < (i 0).val * 1 + 1; omega
  | ⟨1, _⟩ => show (i 1).val * 1 ≤ (i 1).val ∧ (i 1).val < (i 1).val * 1 + 1; omega
  | ⟨2, _⟩ => show (i 2).val / 1024 * 1024 ≤ (i 2).val ∧ (i 2).val < (i 2).val / 1024 * 1024 + 1024; omega
  | ⟨3, _⟩ => show 0 * 64 ≤ (i 3).val ∧ (i 3).val < 0 * 64 + 64; omega

include hq hk hv in
/-- The array the kernel leaves is the attention of its arguments. -/
theorem final_eq : (dats m 0 c).arrAt 4 cfg0.N = result q k v :=
  (dats m 0 c).arrAt_eq_of_cover 4 (result q k v) (fun t _ => flushed_eq m c q k v hq hk hv t) covered

end

end Cert.StickBreaking
-- ==== Proof.Suffix.lean ====
/- A running sum from the right along the last axis of an array of four axes, as jnp's reverse `cumsum` prints it:
   a window of the whole axis, padded past its end. -/
module

public import Idealize.ShloMosaic.Lib.Pointwise

@[expose] public section

noncomputable section

namespace Cert.StickBreaking

open Idealize.ShloMosaic

/-- A fold that adds along a list of all indices is the sum. -/
theorem foldl_sum {N : ℕ} (g : Fin N → EReal) (v : EReal) : (List.finRange N).foldl (fun r n => r + g n) v = v + ∑ n, g n := by
  rw [Fin.sum_univ_def]
  generalize List.finRange N = l
  induction l generalizing v with
  | nil => simp
  | cons a l ih => rw [List.foldl_cons, ih, List.map_cons, List.sum_cons, add_assoc]

/-- Where the row of an array holds the reals `f`, the reverse running sum at `s` is their sum from `s` on. -/
theorem suffix_sum {A B C N : ℕ} (pad : ℕ) (x : (⟨4, ![A, B, C, N]⟩ : Shape).Idx → EReal) (f : ℕ → ℝ) (a : Fin A) (b : Fin B) (t : Fin C)
    (hx : ∀ s : Fin N, x (ix4 a b t s) = ((f s.val : ℝ) : EReal)) (init : (⟨0, ![]⟩ : Shape).Idx → EReal) (hinit : ∀ i, init i = 0)
    (h : (⟨4, ![A, B, C, N]⟩ : Shape).ReduceWindows (![1, 1, 1, N] : Fin 4 → ℕ) ![1, 1, 1, 1] ![0, 0, 0, 0] ![0, 0, 0, pad] ⟨4, ![A, B, C, N]⟩)
    (hu : 0 < (⟨0, ![]⟩ : Shape).numel) (s : Fin N) :
    Host.reduceWindow (fun u w : EReal => u + w) ![1, 1, 1, N] ![1, 1, 1, 1] ![0, 0, 0, 0] ![0, 0, 0, pad] x init h hu (ix4 a b t s)
      = ((∑ j ∈ Finset.Ico s.val N, f j : ℝ) : EReal) := by
  have hs := s.isLt
  have lanes : ∀ n : Fin (⟨4, ![1, 1, 1, N]⟩ : Shape).numel, ((⟨4, ![1, 1, 1, N]⟩ : Shape).rowMajor.symm n 0).val = 0
      ∧ ((⟨4, ![1, 1, 1, N]⟩ : Shape).rowMajor.symm n 1).val = 0 ∧ ((⟨4, ![1, 1, 1, N]⟩ : Shape).rowMajor.symm n 2).val = 0
      ∧ ((⟨4, ![1, 1, 1, N]⟩ : Shape).rowMajor.symm n 3).val = n.val := fun n => by
    generalize hj : (⟨4, ![1, 1, 1, N]⟩ : Shape).rowMajor.symm n = j
    have e := Shape.rowMajor_val_four j
    rw [← hj, Equiv.apply_symm_apply, hj] at e
    have h0 : (j 0).val < 1 := (j 0).isLt
    have h1 : (j 1).val < 1 := (j 1).isLt
    have h2 : (j 2).val < 1 := (j 2).isLt
    have e' : n.val = (((j 0).val * 1 + (j 1).val) * 1 + (j 2).val) * N + (j 3).val := e
    rw [show (j 0).val = 0 by omega, show (j 1).val = 0 by omega, show (j 2).val = 0 by omega] at e'
    simp only [Nat.zero_mul, Nat.zero_add] at e'
    exact ⟨by omega, by omega, by omega, e'.symm⟩
  have size : (⟨4, ![1, 1, 1, N]⟩ : Shape).numel = N := by simp [Shape.numel, Fin.prod_univ_succ]
  unfold Host.reduceWindow
  dsimp only
  refine (foldl_sum _ _).trans ?_
  rw [hinit, zero_add]
  refine (Finset.sum_congr rfl (g := fun n => (fun n : ℕ => if s.val + n < N then ((f (s.val + n) : ℝ) : EReal) else 0) n.val) fun n _ => ?_).trans ?_
  · obtain ⟨l0, l1, l2, l3⟩ := lanes n
    dsimp only
    split
    · next hin =>
      have h3 : _ ∧ s.val * 1 + ((⟨4, ![1, 1, 1, N]⟩ : Shape).rowMajor.symm n 3).val - 0 < N := hin 3
      rw [l3] at h3
      rw [if_pos (by omega)]
      refine (congrArg x (funext fun k => Fin.ext ?_)).trans (hx ⟨s.val + n.val, by omega⟩)
      match k with
      | ⟨0, _⟩ => show a.val * 1 + ((⟨4, ![1, 1, 1, N]⟩ : Shape).rowMajor.symm n 0).val - 0 = a.val; omega
      | ⟨1, _⟩ => show b.val * 1 + ((⟨4, ![1, 1, 1, N]⟩ : Shape).rowMajor.symm n 1).val - 0 = b.val; omega
      | ⟨2, _⟩ => show t.val * 1 + ((⟨4, ![1, 1, 1, N]⟩ : Shape).rowMajor.symm n 2).val - 0 = t.val; omega
      | ⟨3, _⟩ => show s.val * 1 + ((⟨4, ![1, 1, 1, N]⟩ : Shape).rowMajor.symm n 3).val - 0 = s.val + n.val; omega
    · next hin =>
      rw [if_neg fun hlt => hin fun k => ?_]
      match k with
      | ⟨0, _⟩ => have := a.isLt; show 0 ≤ a.val * 1 + ((⟨4, ![1, 1, 1, N]⟩ : Shape).rowMajor.symm n 0).val ∧ a.val * 1 + ((⟨4, ![1, 1, 1, N]⟩ : Shape).rowMajor.symm n 0).val - 0 < A; omega
      | ⟨1, _⟩ => have := b.isLt; show 0 ≤ b.val * 1 + ((⟨4, ![1, 1, 1, N]⟩ : Shape).rowMajor.symm n 1).val ∧ b.val * 1 + ((⟨4, ![1, 1, 1, N]⟩ : Shape).rowMajor.symm n 1).val - 0 < B; omega
      | ⟨2, _⟩ => have := t.isLt; show 0 ≤ t.val * 1 + ((⟨4, ![1, 1, 1, N]⟩ : Shape).rowMajor.symm n 2).val ∧ t.val * 1 + ((⟨4, ![1, 1, 1, N]⟩ : Shape).rowMajor.symm n 2).val - 0 < C; omega
      | ⟨3, _⟩ => show 0 ≤ s.val * 1 + ((⟨4, ![1, 1, 1, N]⟩ : Shape).rowMajor.symm n 3).val ∧ s.val * 1 + ((⟨4, ![1, 1, 1, N]⟩ : Shape).rowMajor.symm n 3).val - 0 < N; omega
  rw [Fin.sum_univ_eq_sum_range (fun n : ℕ => if s.val + n < N then ((f (s.val + n) : ℝ) : EReal) else 0), size,
    Finset.sum_Ico_eq_sum_range, ← Finset.sum_filter]
  have inside : (Finset.range N).filter (fun n => s.val + n < N) = Finset.range (N - s.val) := by
    ext n
    rw [Finset.mem_filter, Finset.mem_range, Finset.mem_range]
    omega
  rw [inside]
  exact (map_sum (⟨⟨Real.toEReal, EReal.coe_zero⟩, EReal.coe_add⟩ : ℝ →+ EReal) _ _).symm

end Cert.StickBreaking
-- ==== Proof.RefValue.lean ====
/- What the reference computes, as real numbers: the stick-breaking attention of its arguments. -/
module

public import proofs.«01_k».proof.Proof.Array
public import proofs.«01_k».proof.Proof.Suffix
public import proofs.«01_k».proof.Proof.Gen.ReferenceIdeal.Read

@[expose] public section

set_option maxRecDepth 16384

noncomputable section

namespace Cert.StickBreaking

open Idealize.ShloMosaic Idealize.ShloMosaic.TcCoe Cert.ReferenceIdeal Cert.ReferenceIdeal.Gen Cert.ReferenceIdeal.Read

/-- `logaddexp` with zero, as the host writes it: on a real its test for a missing number fails, and it is the softplus. -/
theorem host_softplus (Z : ℝ) (y : EReal) (hy : y = ((-Z : ℝ) : EReal)) :
    (if y ≠ y then y else max y 0 + Ideal.log1p (Ideal.exp (-FloatOps.absf (F := Ideal) (φ := .f32) y))) = ((-lk (-Z) : ℝ) : EReal) := by
  subst hy
  rw [if_neg (not_not.2 rfl), ← zero_sub (FloatOps.absf (F := Ideal) (φ := .f32) _)]
  refine (softplus_real (-Z)).trans ?_
  rw [lk, neg_neg]

/-- The logarithm of the logistic function exceeds that of one minus it by its argument. -/
theorem lk_neg (z : ℝ) : lk (-z) = z + lk z := by
  rw [lk, lk, abs_neg]
  rcases le_total z 0 with h | h
  · rw [max_eq_left (neg_nonneg.2 h), max_eq_right h]
    ring
  · rw [max_eq_right (neg_nonpos.2 h), max_eq_left h]
    ring

section
variable (x0 x1 x2 : S8x4096x4x64.Idx → EReal) (q k v : S8x4096x4x64.Idx → ℝ)
  (hq : ∀ i, x0 i = (q i : EReal)) (hk : ∀ i, x1 i = (k i : EReal)) (hv : ∀ i, x2 i = (v i : EReal))
  (b : Fin 8) (h : Fin 4) (t : Fin 4096)

/-- The logits of a query, scaled. -/
def refLogits (q k : S8x4096x4x64.Idx → ℝ) (b : Fin 8) (h : Fin 4) (t : Fin 4096) (s : ℕ) : ℝ :=
  ∑ e, (q (ix4 b t h e) * (1 / 8)) * headRow k b h s e

include hq hk in
theorem logits_real (s : Fin 4096) : val_main_v3 (F := Ideal) x0 x1 (ix4 b h t s) = ((refLogits q k b h t s.val : ℝ) : EReal) := by
  pointwise [val_main_v3, val_main_v2, val_main_v1, val_main_cst]
  simp only [hq, hk, ← EReal.coe_mul]
  rw [eighth_word, refLogits, sum_real, ← EReal.coe_mul]
  congr 1
  rw [Finset.sum_mul]
  refine Finset.sum_congr rfl fun e _ => ?_
  rw [headRow, dif_pos s.isLt]
  show _ = _ * _ * k (ix4 b s h e)
  ring

/-- The softplus the host writes around an argument `y`, entry by entry. -/
abbrev hostSoftplus (y : EReal) : EReal :=
  if y ≠ y then y else max y 0 + Ideal.log1p (Ideal.exp (-FloatOps.absf (F := Ideal) (φ := .f32) y))

include hq hk in
/-- The logarithm of what a key leaves of the stick. -/
theorem left_real (s : Fin 4096) : val_main_v10 (F := Ideal) x0 x1 (ix4 b h t s) = ((lk (refLogits q k b h t s.val) : ℝ) : EReal) := by
  have hz := logits_real x0 x1 q k hq hk b h t s
  have hn : val_main_v9 (F := Ideal) x0 x1 (ix4 b h t s) = ((-refLogits q k b h t s.val : ℝ) : EReal) := by
    refine (val_main_v9_apply (F := Ideal) x0 x1 _).trans ?_
    rw [hz]
    exact (EReal.coe_neg _).symm
  have e : val_main_v10 (F := Ideal) x0 x1 (ix4 b h t s) = -hostSoftplus (-val_main_v9 (F := Ideal) x0 x1 (ix4 b h t s)) := by
    pointwise [val_main_v10, val_main_call0_v1, val_main_call0_call0_v4, val_main_call0_call0_v6, val_main_call0_call0_v11, val_main_call0_call0_v1, val_main_call0_call0_v10,
      val_main_call0_call0_v9, val_main_call0_call0_v8, val_main_call0_call0_v7, val_main_call0_call0_v5, val_main_call0_call0_v3, val_main_call0_call0_v2, val_main_call0_call0_v0, val_main_call0_call0_cst, val_main_call0_v0]
  rw [e, hn, hostSoftplus, host_softplus (-refLogits q k b h t s.val) _ (EReal.coe_neg _).symm, neg_neg, ← EReal.coe_neg, neg_neg]

include hq hk in
/-- The logarithm of what a key takes of what is left. -/
theorem took_real (s : Fin 4096) : val_main_v14 (F := Ideal) x0 x1 (ix4 b h t s) = ((refLogits q k b h t s.val + lk (refLogits q k b h t s.val) : ℝ) : EReal) := by
  have hz := logits_real x0 x1 q k hq hk b h t s
  have e : val_main_v14 (F := Ideal) x0 x1 (ix4 b h t s) = -hostSoftplus (-val_main_v3 (F := Ideal) x0 x1 (ix4 b h t s)) := by
    pointwise [val_main_v14, val_main_call3_v1, val_main_call3_call0_v4, val_main_call3_call0_v6, val_main_call3_call0_v11, val_main_call3_call0_v1, val_main_call3_call0_v10,
      val_main_call3_call0_v9, val_main_call3_call0_v8, val_main_call3_call0_v7, val_main_call3_call0_v5, val_main_call3_call0_v3, val_main_call3_call0_v2, val_main_call3_call0_v0, val_main_call3_call0_cst, val_main_call3_v0]
  rw [e, hz, hostSoftplus, host_softplus (refLogits q k b h t s.val) _ (EReal.coe_neg _).symm, ← EReal.coe_neg, neg_neg, lk_neg]

/-- The strict causal mask. -/
theorem mask_word (s : Fin 4096) : val_main_v8 (F := Ideal) (ix2 t s) = BitVec.ofBool (decide (s.val < t.val)) := by
  pointwise [val_main_v8, val_main_v7, val_main_v6, val_main_v5, val_main_v4, val_main_v0]
  have hs := s.isLt
  have ht := t.isLt
  show BitVec.ofBool (BitVec.slt (BitVec.ofNat 32 s.val) (BitVec.ofNat 32 t.val)) = _
  rw [BitVec.slt_eq_decide, toInt_small _ (by omega), toInt_small _ (by omega)]
  exact congrArg BitVec.ofBool (decide_eq_decide.2 (by omega))

/-- A choice by the word of a proposition. -/
theorem select_word {α : Type} (p : Prop) [Decidable p] (x y : α) : Scalar.select (BitVec.ofBool (decide p)) x y = if p then x else y := by
  by_cases hp : p <;> simp [Scalar.select, hp]

include hq hk in
/-- The logarithms, the keys at or after the query left out. -/
theorem kept_real (s : Fin 4096) : val_main_v11 (F := Ideal) x0 x1 (ix4 b h t s) = ((keep (refLogits q k b h t) t.val s.val : ℝ) : EReal) := by
  have e : val_main_v11 (F := Ideal) x0 x1 (ix4 b h t s)
      = Scalar.select (val_main_v8 (F := Ideal) (ix2 t s)) (val_main_v10 (F := Ideal) x0 x1 (ix4 b h t s)) 0 := by
    generalize hz : val_main_v10 (F := Ideal) x0 x1 = z
    generalize hw : val_main_v8 (F := Ideal) = w
    pointwise [val_main_v11, val_main_call1_v1, val_main_call1_v2, hz, hw]
    exact congrArg _ Ideal.ofBits_zero_f32
  rw [e, mask_word, select_word, left_real x0 x1 q k hq hk, keep]
  split <;> rfl

include hq hk in
/-- Their sum from a key on. -/
theorem tail_real (s : Fin 4096) : val_main_v12 (F := Ideal) x0 x1 (ix4 b h t s) = ((tail (refLogits q k b h t) t.val s.val : ℝ) : EReal) := by
  have hx := kept_real x0 x1 q k hq hk b h t
  unfold val_main_v12
  generalize val_main_v11 (F := Ideal) x0 x1 = x at hx
  have h0 : val_main_call2_v0 (F := Ideal) (Shape.Idx.first h_S_) = 0 := Ideal.ofBits_zero_f32
  generalize val_main_call2_v0 (F := Ideal) = u at h0
  unfold Host.reduceWindowAdd
  rw [Ideal.hostReduceWindowAdd_def]
  rw [h0]
  exact suffix_sum 4095 x (keep (refLogits q k b h t) t.val) b h t hx _ (fun _ => rfl) _ _ s

include hq hk in
/-- The weight of a key. -/
theorem weight_real (s : Fin 4096) : val_main_v17 (F := Ideal) x0 x1 (ix4 b h t s) = ((weight (refLogits q k b h t) t.val s.val : ℝ) : EReal) := by
  have e : val_main_v17 (F := Ideal) x0 x1 (ix4 b h t s)
      = Scalar.select (val_main_v8 (F := Ideal) (ix2 t s)) (Ideal.exp (val_main_v14 (F := Ideal) x0 x1 (ix4 b h t s)
        + (val_main_v12 (F := Ideal) x0 x1 (ix4 b h t s) - val_main_v11 (F := Ideal) x0 x1 (ix4 b h t s)))) 0 := by
    generalize hz : val_main_v14 (F := Ideal) x0 x1 = z
    generalize hy : val_main_v12 (F := Ideal) x0 x1 = y
    generalize hx : val_main_v11 (F := Ideal) x0 x1 = x
    generalize hw : val_main_v8 (F := Ideal) = w
    pointwise [val_main_v17, val_main_call4_v1, val_main_call4_v2, val_main_v16, val_main_v15, val_main_v13, hz, hy, hx, hw]
    exact congrArg _ Ideal.ofBits_zero_f32
  rw [e, mask_word, select_word, took_real x0 x1 q k hq hk, tail_real x0 x1 q k hq hk, kept_real x0 x1 q k hq hk, ← EReal.coe_sub, ← EReal.coe_add, Ideal.exp_coe, weight, keep]
  split
  · exact congrArg (fun r : ℝ => ((Real.exp r : ℝ) : EReal)) (by ring)
  · rfl

include hq hk hv in
/-- The reference's result is the attention of its arguments. -/
theorem reference_eq : val_main_v18 (F := Ideal) x0 x1 x2 = result q k v := by
  refine funext fun (i : Cert.ReferenceIdeal.S8x4x4096x64.Idx) => ?_
  obtain ⟨b, h, t, d, rfl⟩ : ∃ (b : Fin 8) (h : Fin 4) (t : Fin 4096) (d : Fin 64), i = ix4 b h t d :=
    ⟨i 0, i 1, i 2, i 3, ix4_of i _ _ _ _ rfl rfl rfl rfl⟩
  pointwise [val_main_v18]
  simp only [weight_real x0 x1 q k hq hk, hv, ← EReal.coe_mul]
  rw [sum_real]
  show _ = ((attention q k v b h t d : ℝ) : EReal)
  rw [attention, partialRow, Nat.Ico_zero_eq_range, Finset.sum_range]
  refine congrArg _ (Finset.sum_congr rfl fun s _ => ?_)
  rw [headRow, dif_pos s.isLt]
  rfl

end

end Cert.StickBreaking
-- ==== Proof.Finite.lean ====
/- What the precondition says: every element of the three arguments is a real number. -/
module

public import proofs.«01_k».proof.Proof.Tile
public import proofs.«01_k».proof.Proof.Gen.Pre_finite
public import Idealize.ShloMosaic.Lib.ReduceAll

@[expose] public section

noncomputable section

namespace Cert.StickBreaking

open Idealize.ShloMosaic Cert.Pre_finite

/-- The word of plus infinity. -/
theorem infinity_word : Ideal.ofBits .f32 0x7F800000#32 = ⊤ := by
  simp [Ideal.ofBits, Ideal.ieee]

/-- A number whose absolute value is below infinity is a real one. -/
theorem real_of_abs_lt (x : EReal) (h : FloatOps.cmpf (F := Ideal) (φ := .f32) .olt (FloatOps.hostAbsf (F := Ideal) (φ := .f32) x) (Ideal.ofBits .f32 0x7F800000#32) = 1#1) :
    x = ((x.toReal : ℝ) : EReal) := by
  rw [infinity_word] at h
  induction x with
  | bot => exact absurd (show (Ideal.cmp .olt (max ⊥ (-⊥)) ⊤ : BitVec 1) = 1#1 from h) (by simp [Ideal.cmp])
  | coe r => rfl
  | top => exact absurd (show (Ideal.cmp .olt (max ⊤ (-⊤)) ⊤ : BitVec 1) = 1#1 from h) (by simp [Ideal.cmp])

/-- Where `jnp.all` of `|x| < inf` holds, every element of `x` is a real number. -/
theorem real_of_all (x : S8x4096x4x64.Idx → EReal) (init : IVec S_ 1) (h : S8x4096x4x64.ReducesTo [0, 1, 2, 3] S_) (hu : 0 < S_.numel)
    (hb : S_.BroadcastsInDim S8x4096x4x64 (![] : Fin 0 → Fin S8x4096x4x64.rank)) (j : S_.Idx)
    (e : Host.reduce IntOp.andi (cmpf (F := Ideal) (φ := .f32) .olt (Host.absf (F := Ideal) (φ := .f32) x) (broadcastInDim S8x4096x4x64 ![] hb (constant (F := Ideal) S_ .f32 0x7F800000#32))) init h hu j = 1#1)
    (i : S8x4096x4x64.Idx) : x i = (((x i).toReal : ℝ) : EReal) :=
  haveI : Subsingleton S_.Idx := ⟨fun a b => funext fun k => k.elim0⟩
  real_of_abs_lt (x i) (Host.reduce_andi_all _ init h hu j e i)

/-- The precondition, opened: all three arguments are real. -/
theorem real_of_pre (x0 x1 x2 : S8x4096x4x64.Idx → EReal) (h : Cert.Pre_finite.fn (F := Ideal) x0 x1 x2 = fun _ => 1#1) :
    (∀ i, x0 i = (((x0 i).toReal : ℝ) : EReal)) ∧ (∀ i, x1 i = (((x1 i).toReal : ℝ) : EReal)) ∧ (∀ i, x2 i = (((x2 i).toReal : ℝ) : EReal)) := by
  have e := congrFun h ix0
  have both : ∀ a b : BitVec 1, IntOp.andi a b = 1#1 → a = 1#1 ∧ b = 1#1 := by decide
  obtain ⟨e01, e2⟩ := both _ _ e
  obtain ⟨e0, e1⟩ := both _ _ e01
  exact ⟨real_of_all x0 _ _ _ _ _ e0, real_of_all x1 _ _ _ _ _ e1, real_of_all x2 _ _ _ _ _ e2⟩

end Cert.StickBreaking
-- ==== Proof.FfnTable.lean ====
/- The table of the feed-forward kernel, which names a weight for every block of rows: all its words are zero, so
   every block of rows reads the first weight, inside its array. -/
module

public import proofs.«01_k».proof.Proof.Gen.Kernel2.Frame
public import proofs.«01_k».proof.Proof.Gen.Kernel2Ideal.Frame
public import Idealize.ShloMosaic.Lib.Claim
public import Idealize.ShloMosaic.Lib.Pointwise
public import Idealize.ShloMosaic.PureOps.BitExact

@[expose] public section

set_option maxRecDepth 16384

noncomputable section

namespace Cert.FeedForward

open Idealize.ShloMosaic Idealize.ShloMosaic.TcCoe Idealize.SL.Sem

set_option backward.proofsInPublic true in
/-- The table of zeros. -/
def zeros_kernel : Kernel2.pre0.Contents (Elt Bits) := fun | ⟨0, _⟩ => (fun _ => 0#32 : Kernel2.S64.Idx → BitVec 32) | ⟨_ + 1, h⟩ => absurd h (by simp)

/-- Every word of the kernel's table is zero. -/
theorem table_kernel (m : (ℓ : Loc Kernel2.nD Kernel2.τ Kernel2.sig) → Buf (Elt Bits) ℓ) :
    Kernel2.Gen.tbl m = zeros_kernel := by
  funext j
  match j with
  | ⟨0, _⟩ =>
    show Kernel2.Gen.V m 0 Kernel2.main_v3 = _
    entry_read
    rfl

/-- Every block of rows of the kernel reads weights inside their arrays. -/
theorem ok_kernel (m : (ℓ : Loc Kernel2.nD Kernel2.τ Kernel2.sig) → Buf (Elt Bits) ℓ) : Kernel2.Gen.Ok (F := Bits) m := by
  unfold Kernel2.Gen.Ok
  rw [table_kernel m]
  decide +kernel

set_option backward.proofsInPublic true in
/-- The table of zeros, in the ideal reading. -/
def zeros_ideal : Kernel2Ideal.pre0.Contents (Elt Ideal) := fun | ⟨0, _⟩ => (fun _ => 0#32 : Kernel2Ideal.S64.Idx → BitVec 32) | ⟨_ + 1, h⟩ => absurd h (by simp)

/-- Every word of the table is zero, in the ideal reading. -/
theorem table_ideal (m : (ℓ : Loc Kernel2Ideal.nD Kernel2Ideal.τ Kernel2Ideal.sig) → Buf (Elt Ideal) ℓ) :
    Kernel2Ideal.Gen.tbl m = zeros_ideal := by
  funext j
  match j with
  | ⟨0, _⟩ =>
    show Kernel2Ideal.Gen.V m 0 Kernel2Ideal.main_v3 = _
    entry_read
    rfl

/-- Every block of rows reads weights inside their arrays, in the ideal reading. -/
theorem ok_ideal (m : (ℓ : Loc Kernel2Ideal.nD Kernel2Ideal.τ Kernel2Ideal.sig) → Buf (Elt Ideal) ℓ) : Kernel2Ideal.Gen.Ok (F := Ideal) m := by
  unfold Kernel2Ideal.Gen.Ok
  rw [table_ideal m]
  decide +kernel

end Cert.FeedForward

end
-- ==== Proof.FfnBlock.lean ====
/- What one grid point of the feed-forward kernel writes: the sum over eleven chunks of 256 hidden columns of the
   gated hidden columns times their rows of the second weight. -/
module

public import proofs.«01_k».proof.Proof.Gen.Kernel2Ideal.Frame
public import Idealize.ShloMosaic.Lib.Pipeline.ValueKit
public import Idealize.ShloMosaic.Lib.Pointwise

@[expose] public section

set_option maxRecDepth 16384

noncomputable section

namespace Cert.FeedForward

open Idealize.ShloMosaic Idealize.ShloMosaic.TcCoe Idealize.ShloMosaic.Tactic Cert.Kernel2Ideal Cert.Kernel2Ideal.Gen

variable {F : FTy → Type} [FloatOps F]

theorem cols_inb (k : Fin 11) : ∀ a, (![0, 0, 256 * k.val] : Fin 3 → ℕ) a + S1x1024x256.size a ≤ S1x1024x2816.size a := by
  have := k.isLt
  intro a
  match a with
  | ⟨0, _⟩ => show 0 + 1 ≤ 1; omega
  | ⟨1, _⟩ => show 0 + 1024 ≤ 1024; omega
  | ⟨2, _⟩ => show 256 * k.val + 256 ≤ 2816; omega

theorem rows_inb (k : Fin 11) : ∀ a, (![0, 256 * k.val, 0] : Fin 3 → ℕ) a + S1x256x1024.size a ≤ S1x2816x1024.size a := by
  have := k.isLt
  intro a
  match a with
  | ⟨0, _⟩ => show 0 + 1 ≤ 1; omega
  | ⟨1, _⟩ => show 256 * k.val + 256 ≤ 2816; omega
  | ⟨2, _⟩ => show 0 + 1024 ≤ 1024; omega

/-- Chunk `k` of a first weight's columns. -/
def cols (w : Vec F S1x1024x2816 .bf16) (k : Fin 11) : Vec F S1x1024x256 .bf16 :=
  View.ld w (Rect.unit (s := S1x1024x2816) ![0, 0, 256 * k.val] S1x1024x256.size (cols_inb k))

/-- Chunk `k` of the second weight's rows. -/
def rows (w : Vec F S1x2816x1024 .bf16) (k : Fin 11) : Vec F S1x256x1024 .bf16 :=
  View.ld w (Rect.unit (s := S1x2816x1024) ![0, 256 * k.val, 0] S1x256x1024.size (rows_inb k))

/-- What chunk `k` adds to a block of rows. -/
def chunk (x : Vec F S512x1024 .f32) (w1 w3 : Vec F S1x1024x2816 .bf16) (w2 : Vec F S1x2816x1024 .bf16) (k : Fin 11) : FVec F S512x1024 .f32 :=
  k0_pay4 x (cols w1 k) (cols w3 k) (rows w2 k)

/-- What the point writes is the chunks' sum, added up from the first. -/
theorem out_eq (c : Dev nD) (i : grid0.Coords) (arg2 : Memref sig .tc .vmem S512x1024 .f32) (harg2 : arg2.IsWhole) (arg3 : Memref sig .tc .vmem S1x1024x2816 .bf16) (harg3 : arg3.IsWhole) (arg4 : Memref sig .tc .vmem S1x1024x2816 .bf16) (harg4 : arg4.IsWhole) (arg5 : Memref sig .tc .vmem S1x2816x1024 .bf16) (harg5 : arg5.IsWhole) (arg6 : Memref sig .tc .vmem S512x1024 .f32) (harg6 : arg6.IsWhole)
    (x : Vec F S512x1024 .f32) (w1 w3 : Vec F S1x1024x2816 .bf16) (w2 : Vec F S1x2816x1024 .bf16) (xt : TbBuf0 (F := F) c tbM0_0) :
    out0_A_4 c i arg2 harg2 arg3 harg3 arg4 harg4 arg5 harg5 arg6 harg6 x w1 w3 w2 xt
      = addf (addf (addf (addf (addf (addf (addf (addf (addf (addf (chunk x w1 w3 w2 0) (chunk x w1 w3 w2 1)) (chunk x w1 w3 w2 2))
          (chunk x w1 w3 w2 3)) (chunk x w1 w3 w2 4)) (chunk x w1 w3 w2 5)) (chunk x w1 w3 w2 6)) (chunk x w1 w3 w2 7)) (chunk x w1 w3 w2 8))
          (chunk x w1 w3 w2 9)) (chunk x w1 w3 w2 10) := by
  have z1 : ∀ w : Vec F S1x1024x2816 .bf16, ∀ (n : ℕ) (k : Fin 11) (hn : n = 256 * k.val) (h : ∀ a, (![0, 0, n] : Fin 3 → ℕ) a + S1x1024x256.size a ≤ S1x1024x2816.size a),
      View.ld w (Rect.unit (s := S1x1024x2816) ![0, 0, n] S1x1024x256.size h) = cols w k := fun w n k hn h => by subst hn; rfl
  have z2 : ∀ w : Vec F S1x2816x1024 .bf16, ∀ (n : ℕ) (k : Fin 11) (hn : n = 256 * k.val) (h : ∀ a, (![0, n, 0] : Fin 3 → ℕ) a + S1x256x1024.size a ≤ S1x2816x1024.size a),
      View.ld w (Rect.unit (s := S1x2816x1024) ![0, n, 0] S1x256x1024.size h) = rows w k := fun w n k hn h => by subst hn; rfl
  frame_out
  rw [z1 w1 0 0 rfl, z1 w1 256 1 rfl, z1 w1 512 2 rfl, z1 w1 768 3 rfl, z1 w1 1024 4 rfl, z1 w1 1280 5 rfl, z1 w1 1536 6 rfl, z1 w1 1792 7 rfl, z1 w1 2048 8 rfl,
    z1 w1 2304 9 rfl, z1 w1 2560 10 rfl, z1 w3 0 0 rfl, z1 w3 256 1 rfl, z1 w3 512 2 rfl, z1 w3 768 3 rfl, z1 w3 1024 4 rfl, z1 w3 1280 5 rfl, z1 w3 1536 6 rfl,
    z1 w3 1792 7 rfl, z1 w3 2048 8 rfl, z1 w3 2304 9 rfl, z1 w3 2560 10 rfl, z2 w2 0 0 rfl, z2 w2 256 1 rfl, z2 w2 512 2 rfl, z2 w2 768 3 rfl, z2 w2 1024 4 rfl,
    z2 w2 1280 5 rfl, z2 w2 1536 6 rfl, z2 w2 1792 7 rfl, z2 w2 2048 8 rfl, z2 w2 2304 9 rfl, z2 w2 2560 10 rfl]
  simp only [chunk, k0_pay1, k0_pay3, k0_pay4, k0_pay5, k0_pay6, k0_pay7, k0_pay8, k0_pay9, k0_pay10, k0_pay11, k0_pay12, k0_pay13, k0_pay14, k0_pay15, k0_pay16,
    k0_pay17, shapeCast_self]

/-- A hidden value: the product with a column of the first weight, gated by its own sigmoid, times the product with the third's. -/
def hidden (x : Fin 1024 → EReal) (a b : Fin 1024 → EReal) : EReal :=
  ((∑ e, x e * a e) * Ideal.logistic (∑ e, x e * a e)) * ∑ e, x e * b e

/-- Chunk `k`, element by element. -/
theorem chunk_apply (x : Vec Ideal S512x1024 .f32) (w1 w3 : Vec Ideal S1x1024x2816 .bf16) (w2 : Vec Ideal S1x2816x1024 .bf16) (k : Fin 11) (r : Fin 512) (d : Fin 1024) :
    chunk x w1 w3 w2 k (ix2 r d) = ∑ j : Fin 256, hidden (fun e => x (ix2 r e)) (fun e => w1 (ix3 0 e ⟨256 * k.val + j.val, by omega⟩))
      (fun e => w3 (ix3 0 e ⟨256 * k.val + j.val, by omega⟩)) * w2 (ix3 0 ⟨256 * k.val + j.val, by omega⟩ d) := by
  pointwise [chunk, k0_pay4, k0_pay2, cols, rows]
  rfl

end Cert.FeedForward

end
-- ==== Proof.FfnArray.lean ====
/- The array the feed-forward kernel leaves: every row's gated hidden values times the second weight. -/
module

public import proofs.«01_k».proof.Proof.FfnBlock
public import proofs.«01_k».proof.Proof.FfnTable
public import Idealize.ShloMosaic.Lib.Claim

@[expose] public section

set_option maxRecDepth 16384

noncomputable section

namespace Cert.FeedForward

open Idealize.ShloMosaic Idealize.ShloMosaic.TcCoe Idealize.SL.Sem Cert.Kernel2Ideal Cert.Kernel2Ideal.Gen

/-- The feed-forward layer of a row: its gated hidden values times a column of the second weight. -/
def layer (x : S32768x1024.Idx → EReal) (w1 w3 : S1x1024x2816.Idx → EReal) (w2 : S1x2816x1024.Idx → EReal) (r : Fin 32768) (d : Fin 1024) : EReal :=
  ∑ f : Fin 2816, hidden (fun e => x (ix2 r e)) (fun e => w1 (ix3 0 e f)) (fun e => w3 (ix3 0 e f)) * w2 (ix3 0 f d)

/-- A sum over the hidden columns is the sum over its eleven chunks of 256. -/
theorem sum_chunks (g : Fin 2816 → EReal) : (∑ k : Fin 11, ∑ j : Fin 256, g ⟨256 * k.val + j.val, by omega⟩) = ∑ f, g f := by
  rw [← Fintype.sum_prod_type' (fun (k : Fin 11) (j : Fin 256) => g ⟨256 * k.val + j.val, by omega⟩)]
  refine Fintype.sum_equiv (finProdFinEquiv (m := 11) (n := 256)) _ g fun p => ?_
  exact congrArg g (Fin.ext (Nat.add_comm _ _))

/-- A sum of eleven, written out. -/
theorem sum_eleven (g : Fin 11 → EReal) : (∑ k, g k) = g 0 + g 1 + g 2 + g 3 + g 4 + g 5 + g 6 + g 7 + g 8 + g 9 + g 10 := by
  simp only [Fin.sum_univ_castSucc, Fin.sum_univ_zero, zero_add]
  rfl

/-- An index map's zeros. -/
theorem zeros_apply : ∀ a : Fin 3, (![0, 0, 0] : Fin 3 → ℕ) a = 0 := by decide

/-- What a point writes, element by element, when its weights are the whole arrays. -/
theorem out_apply (c : Dev nD) (i : grid0.Coords) (arg2 : Memref sig .tc .vmem S512x1024 .f32) (harg2 : arg2.IsWhole) (arg3 : Memref sig .tc .vmem S1x1024x2816 .bf16) (harg3 : arg3.IsWhole) (arg4 : Memref sig .tc .vmem S1x1024x2816 .bf16) (harg4 : arg4.IsWhole) (arg5 : Memref sig .tc .vmem S1x2816x1024 .bf16) (harg5 : arg5.IsWhole) (arg6 : Memref sig .tc .vmem S512x1024 .f32) (harg6 : arg6.IsWhole)
    (x : Vec Ideal S512x1024 .f32) (w1 w3 : Vec Ideal S1x1024x2816 .bf16) (w2 : Vec Ideal S1x2816x1024 .bf16) (xt : TbBuf0 (F := Ideal) c tbM0_0) (r : Fin 512) (d : Fin 1024) :
    out0_A_4 c i arg2 harg2 arg3 harg3 arg4 harg4 arg5 harg5 arg6 harg6 x w1 w3 w2 xt (ix2 r d)
      = ∑ f : Fin 2816, hidden (fun e => x (ix2 r e)) (fun e => w1 (ix3 0 e f)) (fun e => w3 (ix3 0 e f)) * w2 (ix3 0 f d) := by
  rw [out_eq, ← sum_chunks, sum_eleven]
  simp only [addf, Ideal.addf_def, chunk_apply]

/-- Where a point's rows lie in their array. -/
theorem index_x : ∀ t : Fin grid0.N, cc0_transform_0 (grid0.coords t) = ![t.val, 0] := by decide +kernel

/-- Where a point's result lies in its array. -/
theorem index_o : ∀ t : Fin grid0.N, cc0_transform_4 (grid0.coords t) = ![t.val, 0] := by decide +kernel

section
variable (m : (ℓ : Loc nD τ sig) → Buf (Elt Ideal) ℓ) (c : Dev nD)

/-- Every point reads the first of the first weights. -/
theorem index_w1 (i : grid0.Coords) : cc0_transform_1 k0_off1_inb numel1_S1 (tbl m) i = ![0, 0, 0] := by rw [table_ideal]; rfl

/-- Every point reads the first of the gate's weights. -/
theorem index_w3 (i : grid0.Coords) : cc0_transform_2 k0_off1_inb numel1_S1 (tbl m) i = ![0, 0, 0] := by rw [table_ideal]; rfl

/-- Every point reads the first of the second weights. -/
theorem index_w2 (i : grid0.Coords) : cc0_transform_3 k0_off1_inb numel1_S1 (tbl m) i = ![0, 0, 0] := by rw [table_ideal]; rfl

/-- The row `r` of a point's block, in the array. -/
abbrev rowAt (t : Fin grid0.N) (r : Fin 512) : Fin 32768 := ⟨512 * t.val + r.val, by have h : t.val < 64 := lt_of_lt_of_eq t.isLt N_0; omega⟩

/-- An element of a point's rows, in the array. -/
theorem emb_x (t : Fin (cfgM m (ok_ideal m)).N) (r : Fin 512) (e : Fin 1024) :
    (((cfgM m (ok_ideal m)).win 0).rect t).emb (ix2 r e : S512x1024.Idx) = (ix2 (rowAt t r) e : S32768x1024.Idx) := by
  have h := index_x t
  refine funext fun a => Fin.ext ?_
  refine (((cfgM m (ok_ideal m)).win 0).rect_emb_val t _ a).trans ?_
  show cc0_transform_0 (grid0.coords t) a * S512x1024.size a + (ix2 r e : S512x1024.Idx) a = _
  rw [h]
  match a with
  | ⟨0, _⟩ => exact congrArg (· + r.val) (Nat.mul_comm _ _)
  | ⟨1, _⟩ => exact Nat.zero_add _

/-- An element of a point's first weights, in the array. -/
theorem emb_w1 (t : Fin (cfgM m (ok_ideal m)).N) (y : S1x1024x2816.Idx) : (((cfgM m (ok_ideal m)).win 1).rect t).emb y = y := by
  refine funext fun a => Fin.ext ?_
  exact ((cfgM m (ok_ideal m)).win 1).rect_emb_val_of_index_zero t a ((congrFun (index_w1 m (grid0.coords t)) a).trans (zeros_apply a)) y

/-- An element of a point's gate weights, in the array. -/
theorem emb_w3 (t : Fin (cfgM m (ok_ideal m)).N) (y : S1x1024x2816.Idx) : (((cfgM m (ok_ideal m)).win 2).rect t).emb y = y := by
  refine funext fun a => Fin.ext ?_
  exact ((cfgM m (ok_ideal m)).win 2).rect_emb_val_of_index_zero t a ((congrFun (index_w3 m (grid0.coords t)) a).trans (zeros_apply a)) y

/-- An element of a point's second weights, in the array. -/
theorem emb_w2 (t : Fin (cfgM m (ok_ideal m)).N) (y : S1x2816x1024.Idx) : (((cfgM m (ok_ideal m)).win 3).rect t).emb y = y := by
  refine funext fun a => Fin.ext ?_
  exact ((cfgM m (ok_ideal m)).win 3).rect_emb_val_of_index_zero t a ((congrFun (index_w2 m (grid0.coords t)) a).trans (zeros_apply a)) y

/-- An element of a point's result, in the array. -/
theorem emb_o (t : Fin (cfgM m (ok_ideal m)).N) (r : Fin 512) (d : Fin 1024) :
    (((cfgM m (ok_ideal m)).win 4).rect t).emb (ix2 r d : S512x1024.Idx) = (ix2 (rowAt t r) d : S32768x1024.Idx) := by
  have h := index_o t
  refine funext fun a => Fin.ext ?_
  refine (((cfgM m (ok_ideal m)).win 4).rect_emb_val t _ a).trans ?_
  show cc0_transform_4 (grid0.coords t) a * S512x1024.size a + (ix2 r d : S512x1024.Idx) a = _
  rw [h]
  match a with
  | ⟨0, _⟩ => exact congrArg (· + r.val) (Nat.mul_comm _ _)
  | ⟨1, _⟩ => exact Nat.zero_add _

/-- The kernel's arguments, as arrays of extended reals. -/
abbrev argX : S32768x1024.Idx → EReal := m ((c : Thread nD τ).loc main_arg0)
abbrev argW1 : S1x1024x2816.Idx → EReal := m ((c : Thread nD τ).loc main_arg1)
abbrev argW3 : S1x1024x2816.Idx → EReal := m ((c : Thread nD τ).loc main_arg2)
abbrev argW2 : S1x2816x1024.Idx → EReal := m ((c : Thread nD τ).loc main_arg3)

/-- A point's rows are the argument's. -/
theorem block_x (t : Fin (cfgM m (ok_ideal m)).N) (r : Fin 512) (e : Fin 1024) :
    (iblk m (ok_ideal m) c 0 t : S512x1024.Idx → EReal) (ix2 r e) = argX m c (ix2 (rowAt t r) e) := by
  unfold iblk
  refine (congrArg (V m c main_arg0 : S32768x1024.Idx → EReal) (emb_x m t r e)).trans ?_
  rw [V_main_arg0]

/-- A point's first weights are the argument's. -/
theorem block_w1 (t : Fin (cfgM m (ok_ideal m)).N) (y : S1x1024x2816.Idx) :
    (iblk m (ok_ideal m) c 1 t : S1x1024x2816.Idx → EReal) y = argW1 m c y := by
  unfold iblk
  refine (congrArg (V m c main_v0 : S1x1024x2816.Idx → EReal) (emb_w1 m t y)).trans ?_
  entry_read
  rfl

/-- A point's gate weights are the argument's. -/
theorem block_w3 (t : Fin (cfgM m (ok_ideal m)).N) (y : S1x1024x2816.Idx) :
    (iblk m (ok_ideal m) c 2 t : S1x1024x2816.Idx → EReal) y = argW3 m c y := by
  unfold iblk
  refine (congrArg (V m c main_v1 : S1x1024x2816.Idx → EReal) (emb_w3 m t y)).trans ?_
  entry_read
  rfl

/-- A point's second weights are the argument's. -/
theorem block_w2 (t : Fin (cfgM m (ok_ideal m)).N) (y : S1x2816x1024.Idx) :
    (iblk m (ok_ideal m) c 3 t : S1x2816x1024.Idx → EReal) y = argW2 m c y := by
  unfold iblk
  refine (congrArg (V m c main_v2 : S1x2816x1024.Idx → EReal) (emb_w2 m t y)).trans ?_
  entry_read
  rfl

/-- The layer's result, index by index. -/
def result : S32768x1024.Idx → EReal := fun i => layer (argX m c) (argW1 m c) (argW3 m c) (argW2 m c) (i 0) (i 1)

/-- What point `t` writes back is its block of the result. -/
theorem flushed_eq (t : Fin (cfgM m (ok_ideal m)).N) :
    (dats m (ok_ideal m) 0 c).flushed 4 t = (((cfgM m (ok_ideal m)).win 4).blk t).view.read (Elt Ideal) (result m c) := by
  show ((cfgM m (ok_ideal m)).win 4).cut (grid0.coords t) ((dats m (ok_ideal m) 0 c).after 4 t) = _
  rw [after0_4, outsAt0]
  refine funext fun (y : S512x1024.Idx) => ?_
  obtain ⟨r, d, rfl⟩ : ∃ (r : Fin 512) (d : Fin 1024), y = ix2 r d := ⟨y 0, y 1, funext fun a => match a with | ⟨0, _⟩ => rfl | ⟨1, _⟩ => rfl⟩
  refine (out_apply c _ _ _ _ _ _ _ _ _ _ _ _ _ _ _ _ r d).trans ?_
  refine Eq.trans ?_ (congrArg (result m c) (emb_o m t r d)).symm
  show _ = layer (argX m c) (argW1 m c) (argW3 m c) (argW2 m c) (rowAt t r) d
  unfold layer
  refine Finset.sum_congr rfl fun f _ => ?_
  rw [block_w2 m c t]
  congr 1
  congr 1
  · exact funext fun e => block_x m c t r e
  · exact funext fun e => block_w1 m c t _
  · exact funext fun e => block_w3 m c t _

/-- Every index of the result lies in a point's block. -/
theorem covered (i : S32768x1024.Idx) : ∃ t : Fin (cfgM m (ok_ideal m)).N, ((cfgM m (ok_ideal m)).win 4).flush t = true ∧ i ∈ (((cfgM m (ok_ideal m)).win 4).blk t).view.set := by
  have h0 : (i 0).val < 32768 := (i 0).isLt
  have h1 : (i 1).val < 1024 := (i 1).isLt
  have hN : (i 0).val / 512 < grid0.N := by rw [N_0]; omega
  refine ⟨⟨(i 0).val / 512, hN⟩, flush0_4 _ _, ?_⟩
  have slice : ∀ R : Rect S32768x1024, i ∈ R.set → i ∈ ((View.whole main_v4).slice R).set := fun R h => by rw [View.set_slice_whole]; exact h
  refine slice _ ((((cfgM m (ok_ideal m)).win 4).mem_rect_iff _ _).2 fun a => ?_)
  show cc0_transform_4 (grid0.coords ⟨(i 0).val / 512, hN⟩) a * S512x1024.size a ≤ (i a).val ∧ (i a).val < cc0_transform_4 (grid0.coords ⟨(i 0).val / 512, hN⟩) a * S512x1024.size a + S512x1024.size a
  rw [index_o]
  match a with
  | ⟨0, _⟩ => show (i 0).val / 512 * 512 ≤ (i 0).val ∧ (i 0).val < (i 0).val / 512 * 512 + 512; omega
  | ⟨1, _⟩ => show 0 * 1024 ≤ (i 1).val ∧ (i 1).val < 0 * 1024 + 1024; omega

/-- The array the kernel leaves is the layer of its arguments. -/
theorem final_eq : (dats m (ok_ideal m) 0 c).arrAt 4 (cfgM m (ok_ideal m)).N = result m c :=
  (dats m (ok_ideal m) 0 c).arrAt_eq_of_cover 4 (result m c) (fun t _ => flushed_eq m c t) (covered m)

/-- The kernel runs to the layer of its arguments, which it leaves as they were. -/
theorem run (ρ : Dev nD → PrngReg) : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h.1 c).1 4).trans (final_eq m c), h.2 c⟩)
    (θ_run_and (run_main m ρ (ok_ideal m)) (unchanged m ρ (ok_ideal m)))

end

end Cert.FeedForward

end
-- ==== Proof.FfnReference.lean ====
/- What the feed-forward reference computes, index by index: the layer of its arguments. -/
module

public import proofs.«01_k».proof.Proof.Gen.Reference2Ideal.Read
public import proofs.«01_k».proof.Proof.FfnArray
public import Idealize.ShloMosaic.Lib.Pointwise

@[expose] public section

set_option maxRecDepth 16384

noncomputable section

namespace Cert.FeedForward

open Idealize.ShloMosaic Idealize.ShloMosaic.TcCoe

/-- The reference's result is the layer, row by row and column by column. -/
theorem reference_eq (x : Kernel2Ideal.S32768x1024.Idx → EReal) (w1 w3 : Kernel2Ideal.S1x1024x2816.Idx → EReal) (w2 : Kernel2Ideal.S1x2816x1024.Idx → EReal) :
    Reference2Ideal.Read.val_main_v7 (F := Ideal) x w1 w3 w2 = fun i => layer x w1 w3 w2 (i 0) (i 1) := by
  refine funext fun (i : Reference2Ideal.S32768x1024.Idx) => ?_
  obtain ⟨r, d, rfl⟩ : ∃ (r : Fin 32768) (d : Fin 1024), i = ix2 r d := ⟨i 0, i 1, funext fun a => match a with | ⟨0, _⟩ => rfl | ⟨1, _⟩ => rfl⟩
  show Reference2Ideal.Read.val_main_v7 (F := Ideal) x w1 w3 w2 (ix2 r d) = ∑ f : Fin 2816, _
  rw [← Reference2Ideal.Read.val_main_v7_eq]
  pointwise
  rfl

end Cert.FeedForward

end
-- ==== Proof.ExpertTable.lean ====
/- The table of the experts' feed-forward: the expert of a block of rows is how many experts' rows end at or before
   it, the last expert at most. So every block reads the weights of one of the eight, inside their arrays. -/
module

public import proofs.«01_k».proof.Proof.Gen.Kernel3.Frame
public import proofs.«01_k».proof.Proof.Gen.Kernel3Ideal.Frame
public import Idealize.ShloMosaic.Lib.Claim
public import Idealize.ShloMosaic.Lib.Pointwise
public import Idealize.ShloMosaic.Lib.StableHlo.RunRead
public import Idealize.ShloMosaic.Lib.StableHlo.Predicate
public import Idealize.ShloMosaic.PureOps.BitExact

@[expose] public section

set_option maxRecDepth 16384
set_option backward.proofsInPublic true

noncomputable section

namespace Cert.Experts

open Idealize.ShloMosaic Idealize.ShloMosaic.TcCoe Idealize.SL.Sem

/-- The number of experts whose rows end at or before block `b`'s first, as a word; seven at most. -/
def expertWord (p : Kernel3Ideal.S8.Idx → BitVec 32) (b : Fin 264) : BitVec 32 :=
  IntOp.minsi (Finset.fold IntOp.addi 0#32 (fun x : Fin 8 => BitVec.setWidth 32 (IntOp.cmpi .sle (p (ix1 x)) (IntOp.muli (BitVec.ofNat 32 b.val) 256#32))) Finset.univ) 7#32

/-- A word of at most eight, against seven. -/
theorem min_seven (w : BitVec 32) (h : w.toNat ≤ 8) : (IntOp.minsi w 7#32).toNat < 8 := by
  obtain ⟨n, rfl⟩ : ∃ n : Fin 9, w = BitVec.ofNat 32 n.val := ⟨⟨w.toNat, by omega⟩, by simp⟩
  clear h
  revert n
  decide

/-- The word is one of the eight experts. -/
theorem expertWord_lt (p : Kernel3Ideal.S8.Idx → BitVec 32) (b : Fin 264) : (expertWord p b).toNat < 8 := by
  refine min_seven _ ?_
  have bit : ∀ x : Fin 8, (BitVec.setWidth 32 (IntOp.cmpi .sle (p (ix1 x)) (IntOp.muli (BitVec.ofNat 32 b.val) 256#32))).toNat ≤ 1 := fun x => by
    rw [StableHlo.Predicate.toNat_setWidth_bit]
    split <;> omega
  have le : (∑ x : Fin 8, (BitVec.setWidth 32 (IntOp.cmpi .sle (p (ix1 x)) (IntOp.muli (BitVec.ofNat 32 b.val) 256#32))).toNat) ≤ 8 :=
    (Finset.sum_le_sum fun x _ => bit x).trans (by simp)
  rw [StableHlo.Predicate.toNat_fold_addi _ _ (by omega)]
  exact le

/-- The expert of block `b`. -/
def expert (p : Kernel3Ideal.S8.Idx → BitVec 32) (b : Fin 264) : Fin 8 := ⟨(expertWord p b).toNat, expertWord_lt p b⟩

/-- The block index of an expert's weights, from the word of the table. -/
theorem row_index {w : BitVec 32} {p : Kernel3Ideal.S8.Idx → BitVec 32} {b : Fin 264} (h : w = expertWord p b) :
    (![w.toNat, 0, 0] : Fin 3 → ℕ) = ![(expert p b).val, 0, 0] := by
  subst h
  rfl

/-- A grid point as a word and back. -/
theorem point_word (n : ℕ) (h : n < 264) : (Scalar.indexCast (BitVec.ofNat 32 n) : Index).toNat = n := by
  have key : ∀ k : Fin 264, (Scalar.indexCast (BitVec.ofNat 32 k.val) : Index).toNat = k.val := by decide +kernel
  exact key ⟨n, h⟩

section Kernel
open Kernel3 Kernel3.Gen
variable (m : (ℓ : Loc nD τ sig) → Buf (Elt Bits) ℓ)

/-- The kernel's table holds the blocks' experts. -/
theorem table_kernel (b : Fin 264) :
    (V m 0 main_v17 : S264.Idx → BitVec 32) (ix1 b) = expertWord (m (((0 : Dev nD) : Thread nD τ).loc main_arg1)) b := by
  after_reads_simp
  pointwise
  rfl

/-- The word a point reads of the table. -/
theorem read_kernel (i : grid0.Coords) :
    (tbl m).at 0 (Rect.unit (s := S264) ![(Scalar.indexCast (BitVec.ofNat 32 (i 0).val) : Index).toNat] S1.size (k0_off1_inb i)) numel1_S1
      = expertWord (m (((0 : Dev nD) : Thread nD τ).loc main_arg1)) (i 0) := by
  refine Eq.trans ?_ (table_kernel m (i 0))
  refine congrArg (V m 0 main_v17 : S264.Idx → BitVec 32) (funext fun a => Fin.ext ?_)
  revert a
  exact fun (a : Fin 1) => match a with
    | ⟨0, _⟩ => point_word (i 0).val (i 0).isLt
    | ⟨_ + 1, h⟩ => absurd h (by simp)

/-- The first weights of every expert lie inside their array, at whole words. -/
theorem good_in_kernel : ∀ e : Fin 8, ∃ h : (∀ a, ((![e.val, 0, 0] : Fin 3 → ℕ) a + 1) * S1x1024x2816.size a ≤ S8x1024x2816.size a),
    EltTy.bits .bf16 = 32 ∨ (Rect.block (s := S8x1024x2816) S1x1024x2816.size ![e.val, 0, 0] h).WholeWords (EltTy.packing .bf16) := by
  decide +kernel

/-- The second weights of every expert lie inside their array, at whole words. -/
theorem good_out_kernel : ∀ e : Fin 8, ∃ h : (∀ a, ((![e.val, 0, 0] : Fin 3 → ℕ) a + 1) * S1x2816x1024.size a ≤ S8x2816x1024.size a),
    EltTy.bits .bf16 = 32 ∨ (Rect.block (s := S8x2816x1024) S1x2816x1024.size ![e.val, 0, 0] h).WholeWords (EltTy.packing .bf16) := by
  decide +kernel

/-- Every block of rows of the kernel reads weights inside their arrays. -/
theorem ok_kernel : Ok (F := Bits) m := by
  refine ⟨fun i => ?_, fun i => ?_, fun i => ?_⟩
  · have h : cc0_transform_1 k0_off1_inb numel1_S1 (tbl m) i = ![(expert (m (((0 : Dev nD) : Thread nD τ).loc main_arg1)) (i 0)).val, 0, 0] :=
      row_index (read_kernel m i)
    rw [h]
    exact good_in_kernel _
  · have h : cc0_transform_2 k0_off1_inb numel1_S1 (tbl m) i = ![(expert (m (((0 : Dev nD) : Thread nD τ).loc main_arg1)) (i 0)).val, 0, 0] :=
      row_index (read_kernel m i)
    rw [h]
    exact good_in_kernel _
  · have h : cc0_transform_3 k0_off1_inb numel1_S1 (tbl m) i = ![(expert (m (((0 : Dev nD) : Thread nD τ).loc main_arg1)) (i 0)).val, 0, 0] :=
      row_index (read_kernel m i)
    rw [h]
    exact good_out_kernel _

end Kernel

section Ideal
open Kernel3Ideal Kernel3Ideal.Gen
variable (m : (ℓ : Loc nD τ sig) → Buf (Elt Ideal) ℓ)

/-- Where the experts' rows end, as the kernel is given it. -/
abbrev argP : S8.Idx → BitVec 32 := m (((0 : Dev nD) : Thread nD τ).loc main_arg1)

/-- The table of the ideal reading holds the blocks' experts. -/
theorem table_ideal (b : Fin 264) : (V m 0 main_v17 : S264.Idx → BitVec 32) (ix1 b) = expertWord (argP m) b := by
  after_reads_simp
  pointwise
  rfl

/-- The word a point reads of the table, in the ideal reading. -/
theorem read_ideal (i : grid0.Coords) :
    (tbl m).at 0 (Rect.unit (s := S264) ![(Scalar.indexCast (BitVec.ofNat 32 (i 0).val) : Index).toNat] S1.size (k0_off1_inb i)) numel1_S1
      = expertWord (argP m) (i 0) := by
  refine Eq.trans ?_ (table_ideal m (i 0))
  refine congrArg (V m 0 main_v17 : S264.Idx → BitVec 32) (funext fun a => Fin.ext ?_)
  revert a
  exact fun (a : Fin 1) => match a with
    | ⟨0, _⟩ => point_word (i 0).val (i 0).isLt
    | ⟨_ + 1, h⟩ => absurd h (by simp)

/-- A point reads the first weights of its expert. -/
theorem index_w1 (i : grid0.Coords) : cc0_transform_1 k0_off1_inb numel1_S1 (tbl m) i = ![(expert (argP m) (i 0)).val, 0, 0] :=
  row_index (read_ideal m i)

/-- A point reads the gate weights of its expert. -/
theorem index_w3 (i : grid0.Coords) : cc0_transform_2 k0_off1_inb numel1_S1 (tbl m) i = ![(expert (argP m) (i 0)).val, 0, 0] :=
  row_index (read_ideal m i)

/-- A point reads the second weights of its expert. -/
theorem index_w2 (i : grid0.Coords) : cc0_transform_3 k0_off1_inb numel1_S1 (tbl m) i = ![(expert (argP m) (i 0)).val, 0, 0] :=
  row_index (read_ideal m i)

/-- Every block of rows reads weights inside their arrays, in the ideal reading. -/
theorem ok_ideal : Ok (F := Ideal) m := by
  refine ⟨fun i => ?_, fun i => ?_, fun i => ?_⟩
  · rw [index_w1]
    exact good_in_kernel _
  · rw [index_w3]
    exact good_in_kernel _
  · rw [index_w2]
    exact good_out_kernel _

end Ideal

end Cert.Experts

end
-- ==== Proof.ExpertBlock.lean ====
/- What one grid point of the experts' feed-forward kernel writes, from the weights of its block's expert: the sum over eleven chunks of 256 hidden columns of the
   gated hidden columns times their rows of the second weight. -/
module

public import proofs.«01_k».proof.Proof.Gen.Kernel3Ideal.Frame
public import proofs.«01_k».proof.Proof.FfnArray
public import Idealize.ShloMosaic.Lib.Pipeline.ValueKit
public import Idealize.ShloMosaic.Lib.Pointwise

@[expose] public section

set_option maxRecDepth 16384

noncomputable section

namespace Cert.Experts

open Idealize.ShloMosaic Idealize.ShloMosaic.TcCoe Idealize.ShloMosaic.Tactic Cert.Kernel3Ideal Cert.Kernel3Ideal.Gen

variable {F : FTy → Type} [FloatOps F]

theorem cols_inb (k : Fin 11) : ∀ a, (![0, 0, 256 * k.val] : Fin 3 → ℕ) a + S1x1024x256.size a ≤ S1x1024x2816.size a := by
  have := k.isLt
  intro a
  match a with
  | ⟨0, _⟩ => show 0 + 1 ≤ 1; omega
  | ⟨1, _⟩ => show 0 + 1024 ≤ 1024; omega
  | ⟨2, _⟩ => show 256 * k.val + 256 ≤ 2816; omega

theorem rows_inb (k : Fin 11) : ∀ a, (![0, 256 * k.val, 0] : Fin 3 → ℕ) a + S1x256x1024.size a ≤ S1x2816x1024.size a := by
  have := k.isLt
  intro a
  match a with
  | ⟨0, _⟩ => show 0 + 1 ≤ 1; omega
  | ⟨1, _⟩ => show 256 * k.val + 256 ≤ 2816; omega
  | ⟨2, _⟩ => show 0 + 1024 ≤ 1024; omega

/-- Chunk `k` of a first weight's columns. -/
def cols (w : Vec F S1x1024x2816 .bf16) (k : Fin 11) : Vec F S1x1024x256 .bf16 :=
  View.ld w (Rect.unit (s := S1x1024x2816) ![0, 0, 256 * k.val] S1x1024x256.size (cols_inb k))

/-- Chunk `k` of the second weight's rows. -/
def rows (w : Vec F S1x2816x1024 .bf16) (k : Fin 11) : Vec F S1x256x1024 .bf16 :=
  View.ld w (Rect.unit (s := S1x2816x1024) ![0, 256 * k.val, 0] S1x256x1024.size (rows_inb k))

/-- What chunk `k` adds to a block of rows. -/
def chunk (x : Vec F S256x1024 .f32) (w1 w3 : Vec F S1x1024x2816 .bf16) (w2 : Vec F S1x2816x1024 .bf16) (k : Fin 11) : FVec F S256x1024 .f32 :=
  k0_pay4 x (cols w1 k) (cols w3 k) (rows w2 k)

/-- What the point writes is the chunks' sum, added up from the first. -/
theorem out_eq (c : Dev nD) (i : grid0.Coords) (arg2 : Memref sig .tc .vmem S256x1024 .f32) (harg2 : arg2.IsWhole) (arg3 : Memref sig .tc .vmem S1x1024x2816 .bf16) (harg3 : arg3.IsWhole) (arg4 : Memref sig .tc .vmem S1x1024x2816 .bf16) (harg4 : arg4.IsWhole) (arg5 : Memref sig .tc .vmem S1x2816x1024 .bf16) (harg5 : arg5.IsWhole) (arg6 : Memref sig .tc .vmem S256x1024 .f32) (harg6 : arg6.IsWhole)
    (x : Vec F S256x1024 .f32) (w1 w3 : Vec F S1x1024x2816 .bf16) (w2 : Vec F S1x2816x1024 .bf16) (xt : TbBuf0 (F := F) c tbM0_0) :
    out0_A_4 c i arg2 harg2 arg3 harg3 arg4 harg4 arg5 harg5 arg6 harg6 x w1 w3 w2 xt
      = addf (addf (addf (addf (addf (addf (addf (addf (addf (addf (chunk x w1 w3 w2 0) (chunk x w1 w3 w2 1)) (chunk x w1 w3 w2 2))
          (chunk x w1 w3 w2 3)) (chunk x w1 w3 w2 4)) (chunk x w1 w3 w2 5)) (chunk x w1 w3 w2 6)) (chunk x w1 w3 w2 7)) (chunk x w1 w3 w2 8))
          (chunk x w1 w3 w2 9)) (chunk x w1 w3 w2 10) := by
  have z1 : ∀ w : Vec F S1x1024x2816 .bf16, ∀ (n : ℕ) (k : Fin 11) (hn : n = 256 * k.val) (h : ∀ a, (![0, 0, n] : Fin 3 → ℕ) a + S1x1024x256.size a ≤ S1x1024x2816.size a),
      View.ld w (Rect.unit (s := S1x1024x2816) ![0, 0, n] S1x1024x256.size h) = cols w k := fun w n k hn h => by subst hn; rfl
  have z2 : ∀ w : Vec F S1x2816x1024 .bf16, ∀ (n : ℕ) (k : Fin 11) (hn : n = 256 * k.val) (h : ∀ a, (![0, n, 0] : Fin 3 → ℕ) a + S1x256x1024.size a ≤ S1x2816x1024.size a),
      View.ld w (Rect.unit (s := S1x2816x1024) ![0, n, 0] S1x256x1024.size h) = rows w k := fun w n k hn h => by subst hn; rfl
  frame_out
  rw [z1 w1 0 0 rfl, z1 w1 256 1 rfl, z1 w1 512 2 rfl, z1 w1 768 3 rfl, z1 w1 1024 4 rfl, z1 w1 1280 5 rfl, z1 w1 1536 6 rfl, z1 w1 1792 7 rfl, z1 w1 2048 8 rfl,
    z1 w1 2304 9 rfl, z1 w1 2560 10 rfl, z1 w3 0 0 rfl, z1 w3 256 1 rfl, z1 w3 512 2 rfl, z1 w3 768 3 rfl, z1 w3 1024 4 rfl, z1 w3 1280 5 rfl, z1 w3 1536 6 rfl,
    z1 w3 1792 7 rfl, z1 w3 2048 8 rfl, z1 w3 2304 9 rfl, z1 w3 2560 10 rfl, z2 w2 0 0 rfl, z2 w2 256 1 rfl, z2 w2 512 2 rfl, z2 w2 768 3 rfl, z2 w2 1024 4 rfl,
    z2 w2 1280 5 rfl, z2 w2 1536 6 rfl, z2 w2 1792 7 rfl, z2 w2 2048 8 rfl, z2 w2 2304 9 rfl, z2 w2 2560 10 rfl]
  simp only [chunk, k0_pay1, k0_pay3, k0_pay4, k0_pay5, k0_pay6, k0_pay7, k0_pay8, k0_pay9, k0_pay10, k0_pay11, k0_pay12, k0_pay13, k0_pay14, k0_pay15, k0_pay16,
    k0_pay17, shapeCast_self]

open FeedForward (hidden)

/-- Chunk `k`, element by element. -/
theorem chunk_apply (x : Vec Ideal S256x1024 .f32) (w1 w3 : Vec Ideal S1x1024x2816 .bf16) (w2 : Vec Ideal S1x2816x1024 .bf16) (k : Fin 11) (r : Fin 256) (d : Fin 1024) :
    chunk x w1 w3 w2 k (ix2 r d) = ∑ j : Fin 256, hidden (fun e => x (ix2 r e)) (fun e => w1 (ix3 0 e ⟨256 * k.val + j.val, by omega⟩))
      (fun e => w3 (ix3 0 e ⟨256 * k.val + j.val, by omega⟩)) * w2 (ix3 0 ⟨256 * k.val + j.val, by omega⟩ d) := by
  pointwise [chunk, k0_pay4, k0_pay2, cols, rows]
  rfl

end Cert.Experts

end
-- ==== Proof.ExpertArray.lean ====
/- The array the experts' feed-forward kernel leaves: every row's gated hidden values times the second weight, of the
   expert of the row's block of 256. -/
module

public import proofs.«01_k».proof.Proof.ExpertBlock
public import proofs.«01_k».proof.Proof.ExpertTable
public import Idealize.ShloMosaic.Lib.Claim

@[expose] public section

set_option maxRecDepth 16384

noncomputable section

namespace Cert.Experts

open Idealize.ShloMosaic Idealize.ShloMosaic.TcCoe Idealize.SL.Sem Cert.Kernel3Ideal Cert.Kernel3Ideal.Gen

attribute [local irreducible] expert

open FeedForward (hidden sum_chunks sum_eleven)

/-- The block of 256 a row lies in. -/
abbrev blockOf (r : Fin 67584) : Fin 264 := ⟨r.val / 256, by omega⟩

/-- The experts' feed-forward of a row: its gated hidden values times a column of the second weight, by the weights of
    its block's expert. -/
def layer (x : S67584x1024.Idx → EReal) (p : S8.Idx → BitVec 32) (w1 w3 : S1x8x1024x2816.Idx → EReal) (w2 : S1x8x2816x1024.Idx → EReal) (r : Fin 67584) (d : Fin 1024) : EReal :=
  ∑ f : Fin 2816, hidden (fun e => x (ix2 r e)) (fun e => w1 (ix4 0 (expert p (blockOf r)) e f)) (fun e => w3 (ix4 0 (expert p (blockOf r)) e f)) * w2 (ix4 0 (expert p (blockOf r)) f d)

/-- What a point writes, element by element, from the weights it reads. -/
theorem out_apply (c : Dev nD) (i : grid0.Coords) (arg2 : Memref sig .tc .vmem S256x1024 .f32) (harg2 : arg2.IsWhole) (arg3 : Memref sig .tc .vmem S1x1024x2816 .bf16) (harg3 : arg3.IsWhole) (arg4 : Memref sig .tc .vmem S1x1024x2816 .bf16) (harg4 : arg4.IsWhole) (arg5 : Memref sig .tc .vmem S1x2816x1024 .bf16) (harg5 : arg5.IsWhole) (arg6 : Memref sig .tc .vmem S256x1024 .f32) (harg6 : arg6.IsWhole)
    (x : Vec Ideal S256x1024 .f32) (w1 w3 : Vec Ideal S1x1024x2816 .bf16) (w2 : Vec Ideal S1x2816x1024 .bf16) (xt : TbBuf0 (F := Ideal) c tbM0_0) (r : Fin 256) (d : Fin 1024) :
    out0_A_4 c i arg2 harg2 arg3 harg3 arg4 harg4 arg5 harg5 arg6 harg6 x w1 w3 w2 xt (ix2 r d)
      = ∑ f : Fin 2816, hidden (fun e => x (ix2 r e)) (fun e => w1 (ix3 0 e f)) (fun e => w3 (ix3 0 e f)) * w2 (ix3 0 f d) := by
  rw [out_eq, ← sum_chunks, sum_eleven]
  simp only [addf, Ideal.addf_def, chunk_apply]

/-- Where a point's rows lie in their array. -/
theorem index_x : ∀ t : Fin grid0.N, cc0_transform_0 (grid0.coords t) = ![t.val, 0] := by decide +kernel

/-- A point's only coordinate is its number. -/
theorem coords_zero : ∀ t : Fin grid0.N, ((grid0.coords t) 0).val = t.val := by decide +kernel

/-- Where a point's result lies in its array. -/
theorem index_o : ∀ t : Fin grid0.N, cc0_transform_4 (grid0.coords t) = ![t.val, 0] := by decide +kernel

section
variable (m : (ℓ : Loc nD τ sig) → Buf (Elt Ideal) ℓ) (c : Dev nD)

/-- The only device. -/
theorem dev_zero : c = 0 := Subsingleton.elim (α := Fin 1) c 0

/-- The expert a point serves. -/
abbrev expertAt (t : Fin grid0.N) : Fin 8 := expert (argP m) ((grid0.coords t) 0)

/-- The row `r` of a point's block, in the array. -/
abbrev rowAt (t : Fin grid0.N) (r : Fin 256) : Fin 67584 := ⟨256 * t.val + r.val, by have h : t.val < 264 := lt_of_lt_of_eq t.isLt N_0; omega⟩

/-- An element of a point's rows, in the array. -/
theorem emb_x (t : Fin (cfgM m (ok_ideal m)).N) (r : Fin 256) (e : Fin 1024) :
    (((cfgM m (ok_ideal m)).win 0).rect t).emb (ix2 r e : S256x1024.Idx) = (ix2 (rowAt t r) e : S67584x1024.Idx) := by
  have h := index_x t
  refine funext fun a => Fin.ext ?_
  refine (((cfgM m (ok_ideal m)).win 0).rect_emb_val t _ a).trans ?_
  show cc0_transform_0 (grid0.coords t) a * S256x1024.size a + (ix2 r e : S256x1024.Idx) a = _
  rw [h]
  match a with
  | ⟨0, _⟩ => exact congrArg (· + r.val) (Nat.mul_comm _ _)
  | ⟨1, _⟩ => exact Nat.zero_add _

/-- An element of a point's first weights, in the array. -/
theorem emb_w1 (t : Fin (cfgM m (ok_ideal m)).N) (a : Fin 1024) (b : Fin 2816) :
    (((cfgM m (ok_ideal m)).win 1).rect t).emb (ix3 0 a b : S1x1024x2816.Idx) = (ix3 (expertAt m t) a b : S8x1024x2816.Idx) := by
  have h := index_w1 m (grid0.coords t)
  refine funext fun k => Fin.ext ?_
  refine (((cfgM m (ok_ideal m)).win 1).rect_emb_val t _ k).trans ?_
  show cc0_transform_1 k0_off1_inb numel1_S1 (tbl m) (grid0.coords t) k * S1x1024x2816.size k + (ix3 0 a b : S1x1024x2816.Idx) k = _
  rw [h]
  match k with
  | ⟨0, _⟩ => exact Nat.mul_one _
  | ⟨1, _⟩ => exact (congrArg (· + a.val) (Nat.zero_mul _)).trans (Nat.zero_add _)
  | ⟨2, _⟩ => exact (congrArg (· + b.val) (Nat.zero_mul _)).trans (Nat.zero_add _)

/-- An element of a point's gate weights, in the array. -/
theorem emb_w3 (t : Fin (cfgM m (ok_ideal m)).N) (a : Fin 1024) (b : Fin 2816) :
    (((cfgM m (ok_ideal m)).win 2).rect t).emb (ix3 0 a b : S1x1024x2816.Idx) = (ix3 (expertAt m t) a b : S8x1024x2816.Idx) := by
  have h := index_w3 m (grid0.coords t)
  refine funext fun k => Fin.ext ?_
  refine (((cfgM m (ok_ideal m)).win 2).rect_emb_val t _ k).trans ?_
  show cc0_transform_2 k0_off1_inb numel1_S1 (tbl m) (grid0.coords t) k * S1x1024x2816.size k + (ix3 0 a b : S1x1024x2816.Idx) k = _
  rw [h]
  match k with
  | ⟨0, _⟩ => exact Nat.mul_one _
  | ⟨1, _⟩ => exact (congrArg (· + a.val) (Nat.zero_mul _)).trans (Nat.zero_add _)
  | ⟨2, _⟩ => exact (congrArg (· + b.val) (Nat.zero_mul _)).trans (Nat.zero_add _)

/-- An element of a point's second weights, in the array. -/
theorem emb_w2 (t : Fin (cfgM m (ok_ideal m)).N) (a : Fin 2816) (b : Fin 1024) :
    (((cfgM m (ok_ideal m)).win 3).rect t).emb (ix3 0 a b : S1x2816x1024.Idx) = (ix3 (expertAt m t) a b : S8x2816x1024.Idx) := by
  have h := index_w2 m (grid0.coords t)
  refine funext fun k => Fin.ext ?_
  refine (((cfgM m (ok_ideal m)).win 3).rect_emb_val t _ k).trans ?_
  show cc0_transform_3 k0_off1_inb numel1_S1 (tbl m) (grid0.coords t) k * S1x2816x1024.size k + (ix3 0 a b : S1x2816x1024.Idx) k = _
  rw [h]
  match k with
  | ⟨0, _⟩ => exact Nat.mul_one _
  | ⟨1, _⟩ => exact (congrArg (· + a.val) (Nat.zero_mul _)).trans (Nat.zero_add _)
  | ⟨2, _⟩ => exact (congrArg (· + b.val) (Nat.zero_mul _)).trans (Nat.zero_add _)

/-- An element of a point's result, in the array. -/
theorem emb_o (t : Fin (cfgM m (ok_ideal m)).N) (r : Fin 256) (d : Fin 1024) :
    (((cfgM m (ok_ideal m)).win 4).rect t).emb (ix2 r d : S256x1024.Idx) = (ix2 (rowAt t r) d : S67584x1024.Idx) := by
  have h := index_o t
  refine funext fun a => Fin.ext ?_
  refine (((cfgM m (ok_ideal m)).win 4).rect_emb_val t _ a).trans ?_
  show cc0_transform_4 (grid0.coords t) a * S256x1024.size a + (ix2 r d : S256x1024.Idx) a = _
  rw [h]
  match a with
  | ⟨0, _⟩ => exact congrArg (· + r.val) (Nat.mul_comm _ _)
  | ⟨1, _⟩ => exact Nat.zero_add _

/-- The kernel's arguments, as arrays of extended reals. -/
abbrev argX : S67584x1024.Idx → EReal := m ((c : Thread nD τ).loc main_arg0)
abbrev argW1 : S1x8x1024x2816.Idx → EReal := m ((c : Thread nD τ).loc main_arg2)
abbrev argW3 : S1x8x1024x2816.Idx → EReal := m ((c : Thread nD τ).loc main_arg3)
abbrev argW2 : S1x8x2816x1024.Idx → EReal := m ((c : Thread nD τ).loc main_arg4)

/-- The kernel's copy of the first weights holds the argument's. -/
theorem weight_w1 (e : Fin 8) (a : Fin 1024) (b : Fin 2816) : (V m 0 main_v1 : S8x1024x2816.Idx → EReal) (ix3 e a b) = argW1 m 0 (ix4 0 e a b) := by
  after_reads_simp
  pointwise

/-- The kernel's copy of the gate weights holds the argument's. -/
theorem weight_w3 (e : Fin 8) (a : Fin 1024) (b : Fin 2816) : (V m 0 main_v3 : S8x1024x2816.Idx → EReal) (ix3 e a b) = argW3 m 0 (ix4 0 e a b) := by
  after_reads_simp
  pointwise

/-- The kernel's copy of the second weights holds the argument's. -/
theorem weight_w2 (e : Fin 8) (a : Fin 2816) (b : Fin 1024) : (V m 0 main_v5 : S8x2816x1024.Idx → EReal) (ix3 e a b) = argW2 m 0 (ix4 0 e a b) := by
  after_reads_simp
  pointwise

/-- A point's rows are the argument's. -/
theorem block_x (t : Fin (cfgM m (ok_ideal m)).N) (r : Fin 256) (e : Fin 1024) :
    (iblk m (ok_ideal m) c 0 t : S256x1024.Idx → EReal) (ix2 r e) = argX m c (ix2 (rowAt t r) e) := by
  unfold iblk
  refine (congrArg (V m c main_arg0 : S67584x1024.Idx → EReal) (emb_x m t r e)).trans ?_
  rw [V_main_arg0]

/-- A point's first weights are the argument's. -/
theorem block_w1 (t : Fin (cfgM m (ok_ideal m)).N) (a : Fin 1024) (b : Fin 2816) :
    (iblk m (ok_ideal m) c 1 t : S1x1024x2816.Idx → EReal) (ix3 0 a b) = argW1 m c (ix4 0 (expertAt m t) a b) := by
  unfold iblk
  refine (congrArg (V m c main_v1 : S8x1024x2816.Idx → EReal) (emb_w1 m t a b)).trans ?_
  obtain rfl := dev_zero c
  exact weight_w1 m _ a b

/-- A point's gate weights are the argument's. -/
theorem block_w3 (t : Fin (cfgM m (ok_ideal m)).N) (a : Fin 1024) (b : Fin 2816) :
    (iblk m (ok_ideal m) c 2 t : S1x1024x2816.Idx → EReal) (ix3 0 a b) = argW3 m c (ix4 0 (expertAt m t) a b) := by
  unfold iblk
  refine (congrArg (V m c main_v3 : S8x1024x2816.Idx → EReal) (emb_w3 m t a b)).trans ?_
  obtain rfl := dev_zero c
  exact weight_w3 m _ a b

/-- A point's second weights are the argument's. -/
theorem block_w2 (t : Fin (cfgM m (ok_ideal m)).N) (a : Fin 2816) (b : Fin 1024) :
    (iblk m (ok_ideal m) c 3 t : S1x2816x1024.Idx → EReal) (ix3 0 a b) = argW2 m c (ix4 0 (expertAt m t) a b) := by
  unfold iblk
  refine (congrArg (V m c main_v5 : S8x2816x1024.Idx → EReal) (emb_w2 m t a b)).trans ?_
  obtain rfl := dev_zero c
  exact weight_w2 m _ a b

/-- The layer's result, index by index. -/
def result : S67584x1024.Idx → EReal := fun i => layer (argX m c) (argP m) (argW1 m c) (argW3 m c) (argW2 m c) (i 0) (i 1)

/-- The layer of a row of a point's block, by the point's expert. -/
theorem layer_rowAt (t : Fin grid0.N) (r : Fin 256) (d : Fin 1024) :
    layer (argX m c) (argP m) (argW1 m c) (argW3 m c) (argW2 m c) (rowAt t r) d
      = ∑ f : Fin 2816, hidden (fun e => argX m c (ix2 (rowAt t r) e)) (fun e => argW1 m c (ix4 0 (expertAt m t) e f))
          (fun e => argW3 m c (ix4 0 (expertAt m t) e f)) * argW2 m c (ix4 0 (expertAt m t) f d) := by
  have he : blockOf (rowAt t r) = (grid0.coords t) 0 := by
    refine Fin.ext (Eq.trans ?_ (coords_zero t).symm)
    show (256 * t.val + r.val) / 256 = t.val
    omega
  unfold layer
  rw [he]

/-- What point `t` writes back is its block of the result. -/
theorem flushed_eq (t : Fin (cfgM m (ok_ideal m)).N) :
    (dats m (ok_ideal m) 0 c).flushed 4 t = (((cfgM m (ok_ideal m)).win 4).blk t).view.read (Elt Ideal) (result m c) := by
  show ((cfgM m (ok_ideal m)).win 4).cut (grid0.coords t) ((dats m (ok_ideal m) 0 c).after 4 t) = _
  rw [after0_4, outsAt0]
  refine funext fun (y : S256x1024.Idx) => ?_
  obtain ⟨r, d, rfl⟩ : ∃ (r : Fin 256) (d : Fin 1024), y = ix2 r d := ⟨y 0, y 1, funext fun a => match a with | ⟨0, _⟩ => rfl | ⟨1, _⟩ => rfl⟩
  refine (out_apply c _ _ _ _ _ _ _ _ _ _ _ _ _ _ _ _ r d).trans ?_
  refine Eq.trans ?_ (congrArg (result m c) (emb_o m t r d)).symm
  show _ = layer (argX m c) (argP m) (argW1 m c) (argW3 m c) (argW2 m c) (rowAt t r) d
  refine Eq.trans ?_ (layer_rowAt m c t r d).symm
  refine Finset.sum_congr rfl fun f _ => ?_
  refine congrArg₂ (· * ·) ?_ (block_w2 m c t f d)
  have h0 : (fun e : Fin 1024 => (iblk m (ok_ideal m) c 0 t : S256x1024.Idx → EReal) (ix2 r e)) = fun e => argX m c (ix2 (rowAt t r) e) := funext fun e => block_x m c t r e
  have h1 : (fun e : Fin 1024 => (iblk m (ok_ideal m) c 1 t : S1x1024x2816.Idx → EReal) (ix3 0 e f)) = fun e => argW1 m c (ix4 0 (expertAt m t) e f) := funext fun e => block_w1 m c t e f
  have h3 : (fun e : Fin 1024 => (iblk m (ok_ideal m) c 2 t : S1x1024x2816.Idx → EReal) (ix3 0 e f)) = fun e => argW3 m c (ix4 0 (expertAt m t) e f) := funext fun e => block_w3 m c t e f
  rw [← h0, ← h1, ← h3]

/-- Every index of the result lies in a point's block. -/
theorem covered (i : S67584x1024.Idx) : ∃ t : Fin (cfgM m (ok_ideal m)).N, ((cfgM m (ok_ideal m)).win 4).flush t = true ∧ i ∈ (((cfgM m (ok_ideal m)).win 4).blk t).view.set := by
  have h0 : (i 0).val < 67584 := (i 0).isLt
  have h1 : (i 1).val < 1024 := (i 1).isLt
  have hN : (i 0).val / 256 < grid0.N := by rw [N_0]; omega
  refine ⟨⟨(i 0).val / 256, hN⟩, flush0_4 _ _, ?_⟩
  have slice : ∀ R : Rect S67584x1024, i ∈ R.set → i ∈ ((View.whole main_v18).slice R).set := fun R h => by rw [View.set_slice_whole]; exact h
  refine slice _ ((((cfgM m (ok_ideal m)).win 4).mem_rect_iff _ _).2 fun a => ?_)
  show cc0_transform_4 (grid0.coords ⟨(i 0).val / 256, hN⟩) a * S256x1024.size a ≤ (i a).val ∧ (i a).val < cc0_transform_4 (grid0.coords ⟨(i 0).val / 256, hN⟩) a * S256x1024.size a + S256x1024.size a
  rw [index_o]
  match a with
  | ⟨0, _⟩ => show (i 0).val / 256 * 256 ≤ (i 0).val ∧ (i 0).val < (i 0).val / 256 * 256 + 256; omega
  | ⟨1, _⟩ => show 0 * 1024 ≤ (i 1).val ∧ (i 1).val < 0 * 1024 + 1024; omega

/-- The array the kernel leaves is the layer of its arguments. -/
theorem final_eq : (dats m (ok_ideal m) 0 c).arrAt 4 (cfgM m (ok_ideal m)).N = result m c :=
  (dats m (ok_ideal m) 0 c).arrAt_eq_of_cover 4 (result m c) (fun t _ => flushed_eq m c t) (covered m)

/-- The kernel runs to the layer of its arguments, which it leaves as they were. -/
theorem run (ρ : Dev nD → PrngReg) : θ_run defs (onTc (τ := τ) (main (F := Ideal))) ⟨m, fun _ => 0, ρ⟩ fun r => ∀ c : Dev nD,
      r.2.mem ((c : Thread nD τ).loc main_v18) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h.1 c).1 4).trans (final_eq m c), h.2 c⟩)
    (θ_run_and (run_main m ρ (ok_ideal m)) (unchanged m ρ (ok_ideal m)))

end

end Cert.Experts

end
-- ==== Proof.ExpertReference.lean ====
/- What the experts' reference computes, index by index: the experts' feed-forward of its arguments. -/
module

public import proofs.«01_k».proof.Proof.Gen.Reference3Ideal.Read
public import proofs.«01_k».proof.Proof.ExpertArray
public import Idealize.ShloMosaic.Lib.Pointwise

@[expose] public section

set_option maxRecDepth 16384

noncomputable section

namespace Cert.Experts

open Idealize.ShloMosaic Idealize.ShloMosaic.TcCoe
open Cert.Reference3Ideal (S8 S264 S1x8x1024x2816 S1x8x2816x1024)

/-- Taking matrices of a stack by a column of indices. -/
def stackDims (A B n : ℕ) (wf : GatherDims.WF ⟨3, ![8, A, B]⟩ ⟨2, ![n, 1]⟩ ⟨3, ![n, A, B]⟩ [1, 2] [0] [] [0] [] 1 ![1, A, B]) :
    GatherDims ⟨3, ![8, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- Where the index names matrix `e`, the matrix taken is the stack's matrix `e`. -/
theorem stack_apply {α : Type} {A B n : ℕ} (wf) (x : (⟨3, ![8, A, B]⟩ : Shape).Idx → α) (idx : IVec (⟨2, ![n, 1]⟩ : Shape) 32)
    (c : Fin n) (a : Fin A) (b : Fin B) (e : Fin 8) (h : idx (ix2 c (0 : Fin 1)) = BitVec.ofNat 32 e.val) :
    Host.gather (stackDims A B n wf) x idx (ix3 c a b) = x (ix3 e a b) := by
  unfold Host.gather
  refine congrArg x (funext fun k => Fin.ext ?_)
  have hb : ∀ k, k ∉ (stackDims A B n wf).operandBatchingDims := fun _ => List.not_mem_nil
  show (stackDims A B n wf).start (ix3 c a b) idx k + (stackDims A B n wf).batchCoord (ix3 c a b) k + (stackDims A B n wf).offCoord (ix3 c a b) k = _
  rw [GatherDims.batchCoord_eq_zero _ _ _ (hb k), Nat.add_zero]
  match k with
  | ⟨0, _⟩ =>
    have hk : (0 : Fin 3) ∉ (stackDims A B n wf).sKept := fun hm => (((stackDims A B n wf).mem_sKept 0).1 hm).1 (List.mem_singleton.2 rfl)
    have hm : (0 : Fin 3) ∈ (stackDims A B n wf).startIndexMap := List.mem_singleton.2 rfl
    refine (congrArg (_ + ·) (GatherDims.offCoord_eq_zero _ _ _ hk)).trans ?_
    show (stackDims A B n wf).start (ix3 c a b) idx 0 = e.val
    unfold GatherDims.start
    rw [dif_pos hm]
    have hi : (stackDims A B n wf).siIdx (ix3 c a b) ⟨(stackDims A B n wf).startIndexMap.idxOf 0, List.idxOf_lt_length_iff.2 hm⟩ = ix2 c (0 : Fin 1) :=
      funext fun j => Fin.ext (match j with | ⟨0, _⟩ => rfl | ⟨1, _⟩ => rfl)
    have he := e.isLt
    rw [hi, h, StableHlo.Predicate.toInt_ofNat_small _ (by omega)]
    show min ((e.val : Int)).toNat (8 - 1) = e.val
    omega
  | ⟨1, _⟩ =>
    have hm : (1 : Fin 3) ∉ (stackDims A B n wf).startIndexMap := fun hm => Nat.one_ne_zero (congrArg Fin.val (List.mem_singleton.1 hm))
    refine (congrArg (· + _) (?_ : (stackDims A B n wf).start (ix3 c a b) idx 1 = 0)).trans ((Nat.zero_add _).trans rfl)
    unfold GatherDims.start
    rw [dif_neg hm]
  | ⟨2, _⟩ =>
    have hm : (2 : Fin 3) ∉ (stackDims A B n wf).startIndexMap := fun hm => Nat.succ_ne_zero 1 (congrArg Fin.val (List.mem_singleton.1 hm))
    refine (congrArg (· + _) (?_ : (stackDims A B n wf).start (ix3 c a b) idx 2 = 0)).trans ((Nat.zero_add _).trans rfl)
    unfold GatherDims.start
    rw [dif_neg hm]

/-- The index of an expert, not being negative, stays as it is. -/
theorem wrapped (w : BitVec 32) (e : Fin 8) (h : w.toNat = e.val) :
    (if IntOp.cmpi .slt w 0#32 = 1#1 then IntOp.addi w 8#32 else w) = BitVec.ofNat 32 e.val := by
  obtain rfl : w = BitVec.ofNat 32 e.val := by rw [← h]; simp
  clear h
  revert e
  decide

/-- The first weights the reference takes for a block are its expert's. -/
theorem taken_w1 (p : S8.Idx → BitVec 32) (w : S1x8x1024x2816.Idx → EReal) (b : Fin 264) (x : Fin 1024) (y : Fin 2816) :
    Reference3Ideal.Read.val_main_v22 (F := Ideal) p w (ix3 b x y) = w (ix4 0 (expert p b) x y) := by
  unfold Reference3Ideal.Read.val_main_v22
  refine (stack_apply _ _ _ b x y (expert p b) ?_).trans ?_
  · refine Eq.trans ?_ (wrapped (expertWord p b) (expert p b) rfl)
    pointwise [Reference3Ideal.Read.val_main_v3, Reference3Ideal.Read.val_main_v4, Reference3Ideal.Read.val_main_c, Reference3Ideal.Read.val_main_v5, Reference3Ideal.Read.val_main_v6, Reference3Ideal.Read.val_main_v7, Reference3Ideal.Read.val_main_v8, Reference3Ideal.Read.val_main_v9, Reference3Ideal.Read.val_main_v10, Reference3Ideal.Read.val_main_v11, Reference3Ideal.Read.val_main_c_0, Reference3Ideal.Read.val_main_v12, Reference3Ideal.Read.val_main_c_1, Reference3Ideal.Read.val_main_v13, Reference3Ideal.Read.val_main_v14, Reference3Ideal.Read.val_main_c_2, Reference3Ideal.Read.val_main_v16, Reference3Ideal.Read.val_main_v17, Reference3Ideal.Read.val_main_c_3, Reference3Ideal.Read.val_main_v18, Reference3Ideal.Read.val_main_v19, Reference3Ideal.Read.val_main_v20, Reference3Ideal.Read.val_main_v21]
    rfl
  · pointwise [Reference3Ideal.Read.val_main_v0]

/-- The gate weights the reference takes for a block are its expert's. -/
theorem taken_w3 (p : S8.Idx → BitVec 32) (w : S1x8x1024x2816.Idx → EReal) (b : Fin 264) (x : Fin 1024) (y : Fin 2816) :
    Reference3Ideal.Read.val_main_v31 (F := Ideal) p w (ix3 b x y) = w (ix4 0 (expert p b) x y) := by
  unfold Reference3Ideal.Read.val_main_v31
  refine (stack_apply _ _ _ b x y (expert p b) ?_).trans ?_
  · refine Eq.trans ?_ (wrapped (expertWord p b) (expert p b) rfl)
    pointwise [Reference3Ideal.Read.val_main_v3, Reference3Ideal.Read.val_main_v4, Reference3Ideal.Read.val_main_c, Reference3Ideal.Read.val_main_v5, Reference3Ideal.Read.val_main_v6, Reference3Ideal.Read.val_main_v7, Reference3Ideal.Read.val_main_v8, Reference3Ideal.Read.val_main_v9, Reference3Ideal.Read.val_main_v10, Reference3Ideal.Read.val_main_v11, Reference3Ideal.Read.val_main_c_0, Reference3Ideal.Read.val_main_v12, Reference3Ideal.Read.val_main_c_1, Reference3Ideal.Read.val_main_v13, Reference3Ideal.Read.val_main_v14, Reference3Ideal.Read.val_main_c_4, Reference3Ideal.Read.val_main_v25, Reference3Ideal.Read.val_main_v26, Reference3Ideal.Read.val_main_c_5, Reference3Ideal.Read.val_main_v27, Reference3Ideal.Read.val_main_v28, Reference3Ideal.Read.val_main_v29, Reference3Ideal.Read.val_main_v30]
    rfl
  · pointwise [Reference3Ideal.Read.val_main_v1]

/-- The second weights the reference takes for a block are its expert's. -/
theorem taken_w2 (p : S8.Idx → BitVec 32) (w : S1x8x2816x1024.Idx → EReal) (b : Fin 264) (x : Fin 2816) (y : Fin 1024) :
    Reference3Ideal.Read.val_main_v40 (F := Ideal) p w (ix3 b x y) = w (ix4 0 (expert p b) x y) := by
  unfold Reference3Ideal.Read.val_main_v40
  refine (stack_apply _ _ _ b x y (expert p b) ?_).trans ?_
  · refine Eq.trans ?_ (wrapped (expertWord p b) (expert p b) rfl)
    pointwise [Reference3Ideal.Read.val_main_v3, Reference3Ideal.Read.val_main_v4, Reference3Ideal.Read.val_main_c, Reference3Ideal.Read.val_main_v5, Reference3Ideal.Read.val_main_v6, Reference3Ideal.Read.val_main_v7, Reference3Ideal.Read.val_main_v8, Reference3Ideal.Read.val_main_v9, Reference3Ideal.Read.val_main_v10, Reference3Ideal.Read.val_main_v11, Reference3Ideal.Read.val_main_c_0, Reference3Ideal.Read.val_main_v12, Reference3Ideal.Read.val_main_c_1, Reference3Ideal.Read.val_main_v13, Reference3Ideal.Read.val_main_v14, Reference3Ideal.Read.val_main_c_6, Reference3Ideal.Read.val_main_v34, Reference3Ideal.Read.val_main_v35, Reference3Ideal.Read.val_main_c_7, Reference3Ideal.Read.val_main_v36, Reference3Ideal.Read.val_main_v37, Reference3Ideal.Read.val_main_v38, Reference3Ideal.Read.val_main_v39]
    rfl
  · pointwise [Reference3Ideal.Read.val_main_v2]

/-- The reference's result is the experts' feed-forward, row by row and column by column. -/
theorem reference_eq (x : Kernel3Ideal.S67584x1024.Idx → EReal) (p : S8.Idx → BitVec 32) (w1 w3 : S1x8x1024x2816.Idx → EReal) (w2 : S1x8x2816x1024.Idx → EReal) :
    Reference3Ideal.Read.val_main_v42 (F := Ideal) x p w1 w3 w2 = fun i => layer x p w1 w3 w2 (i 0) (i 1) := by
  refine funext fun (i : Reference3Ideal.S67584x1024.Idx) => ?_
  obtain ⟨r, d, rfl⟩ : ∃ (r : Fin 67584) (d : Fin 1024), i = ix2 r d := ⟨i 0, i 1, funext fun a => match a with | ⟨0, _⟩ => rfl | ⟨1, _⟩ => rfl⟩
  show Reference3Ideal.Read.val_main_v42 (F := Ideal) x p w1 w3 w2 (ix2 r d) = layer x p w1 w3 w2 r d
  unfold layer FeedForward.hidden
  pointwise [Reference3Ideal.Read.val_main_v0, Reference3Ideal.Read.val_main_v1, Reference3Ideal.Read.val_main_v2, Reference3Ideal.Read.val_main_v3, Reference3Ideal.Read.val_main_v4, Reference3Ideal.Read.val_main_c, Reference3Ideal.Read.val_main_v5, Reference3Ideal.Read.val_main_v6, Reference3Ideal.Read.val_main_v7, Reference3Ideal.Read.val_main_v8, Reference3Ideal.Read.val_main_v9, Reference3Ideal.Read.val_main_v10, Reference3Ideal.Read.val_main_v11, Reference3Ideal.Read.val_main_c_0, Reference3Ideal.Read.val_main_v12, Reference3Ideal.Read.val_main_c_1, Reference3Ideal.Read.val_main_v13, Reference3Ideal.Read.val_main_v14, Reference3Ideal.Read.val_main_v15, Reference3Ideal.Read.val_main_c_2, Reference3Ideal.Read.val_main_v16, Reference3Ideal.Read.val_main_v17, Reference3Ideal.Read.val_main_c_3, Reference3Ideal.Read.val_main_v18, Reference3Ideal.Read.val_main_v19, Reference3Ideal.Read.val_main_v20, Reference3Ideal.Read.val_main_v21, Reference3Ideal.Read.val_main_v23, Reference3Ideal.Read.val_main_call0_v0, Reference3Ideal.Read.val_main_call0_v1, Reference3Ideal.Read.val_main_call0_cst, Reference3Ideal.Read.val_main_call0_v2, Reference3Ideal.Read.val_main_call0_v3, Reference3Ideal.Read.val_main_call0_cst_0, Reference3Ideal.Read.val_main_call0_v4, Reference3Ideal.Read.val_main_call0_v5, Reference3Ideal.Read.val_main_v24, Reference3Ideal.Read.val_main_c_4, Reference3Ideal.Read.val_main_v25, Reference3Ideal.Read.val_main_v26, Reference3Ideal.Read.val_main_c_5, Reference3Ideal.Read.val_main_v27, Reference3Ideal.Read.val_main_v28, Reference3Ideal.Read.val_main_v29, Reference3Ideal.Read.val_main_v30, Reference3Ideal.Read.val_main_v32, Reference3Ideal.Read.val_main_v33, Reference3Ideal.Read.val_main_c_6, Reference3Ideal.Read.val_main_v34, Reference3Ideal.Read.val_main_v35, Reference3Ideal.Read.val_main_c_7, Reference3Ideal.Read.val_main_v36, Reference3Ideal.Read.val_main_v37, Reference3Ideal.Read.val_main_v38, Reference3Ideal.Read.val_main_v39, Reference3Ideal.Read.val_main_v41, Reference3Ideal.Read.val_main_v42]
  simp only [taken_w1, taken_w3, taken_w2]
  rfl

end Cert.Experts

end
-- ==== Proof.MergeBlock.lean ====
/- The merge of the heads: each group of heads scaled by its root mean square, the row times the output weight. Here,
   what the kernel's region reads and what one grid point of it writes. -/
module

public import proofs.«01_k».proof.Proof.Gen.Kernel5Ideal.Value
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

namespace Cert.Merge

open Idealize.ShloMosaic Idealize.ShloMosaic.TcCoe Idealize.SL.Sem Cert.Kernel5Ideal Cert.Kernel5Ideal.Gen

/-- A row of four heads laid side by side: column `f` is head `f / 64`'s component `f % 64`. -/
def flat4 (x : S8x4x4096x64.Idx → EReal) (r : Fin 32768) (f : Fin 256) : EReal :=
  x (ix4 ⟨r.val / 4096, by omega⟩ ⟨f.val / 64, by omega⟩ ⟨r.val % 4096, by omega⟩ ⟨f.val % 64, by omega⟩)

/-- A row of six heads laid side by side. -/
def flat6 (x : S8x6x4096x64.Idx → EReal) (r : Fin 32768) (f : Fin 384) : EReal :=
  x (ix4 ⟨r.val / 4096, by omega⟩ ⟨f.val / 64, by omega⟩ ⟨r.val % 4096, by omega⟩ ⟨f.val % 64, by omega⟩)

/-- A row over its root mean square, its mean taken over `w` columns and a small constant added. -/
def normed {n : ℕ} (w : EReal) (x : Fin n → EReal) (f : Fin n) : EReal :=
  x f * Ideal.rsqrt (Ideal.div (∑ k, x k * x k) w + Ideal.ofBits .f32 897988541#32)

/-- The merged row before its gain: the three groups of heads, each scaled by itself. -/
def merged (a : S8x4x4096x64.Idx → EReal) (b e : S8x6x4096x64.Idx → EReal) (r : Fin 32768) (f : Fin 1024) : EReal :=
  if h : f.val < 256 then normed (Ideal.ofBits .f32 1132462080#32) (flat4 a r) ⟨f.val, h⟩
  else if h : f.val - 256 < 384 then normed (Ideal.ofBits .f32 1136656384#32) (flat6 b r) ⟨f.val - 256, h⟩
  else normed (Ideal.ofBits .f32 1136656384#32) (flat6 e r) ⟨f.val - 256 - 384, by omega⟩

/-- What a point writes: its rows times the weight. -/
theorem out_apply (x : Vec Ideal S1024x1024 .f32) (w : Vec Ideal S1024x1024 .bf16) (r d : Fin 1024) :
    out0_2 x w (ix2 r d) = ∑ e : Fin 1024, x (ix2 r e) * w (ix2 e d) := by
  frame_out
  pointwise [k0_pay1]

section
variable (m : (ℓ : Loc nD τ sig) → Buf (Elt Ideal) ℓ) (c : Dev nD)

/-- The kernel's arguments, as arrays of extended reals. -/
abbrev argA : S8x4x4096x64.Idx → EReal := m ((c : Thread nD τ).loc main_arg0)
abbrev argB : S8x6x4096x64.Idx → EReal := m ((c : Thread nD τ).loc main_arg1)
abbrev argC : S8x6x4096x64.Idx → EReal := m ((c : Thread nD τ).loc main_arg2)
abbrev argG : S1024.Idx → EReal := m ((c : Thread nD τ).loc main_arg3)
abbrev argW : S1024x1024.Idx → EReal := m ((c : Thread nD τ).loc main_arg4)

/-- The first group of heads, scaled. -/
theorem part_a (r : Fin 32768) (f : Fin 256) :
    (StableHlo.upto hostOps0 (fun b => m (c, b)) 46 (Proc.tc.devRef main_v14) : S32768x256.Idx → EReal) (ix2 r f)
      = normed (Ideal.ofBits .f32 1132462080#32) (flat4 (argA m c) r) f := by
  after_reads_simp
  pointwise
  after_reads_simp
  have h : ∀ x : Fin 256, x.val / 64 < 4 := fun x => by omega
  simp only [h, ↓reduceDIte]
  rfl

/-- The second group of heads, scaled. -/
theorem part_b (r : Fin 32768) (f : Fin 384) :
    (StableHlo.upto hostOps0 (fun b => m (c, b)) 46 (Proc.tc.devRef main_v25) : S32768x384.Idx → EReal) (ix2 r f)
      = normed (Ideal.ofBits .f32 1136656384#32) (flat6 (argB m c) r) f := by
  after_reads_simp
  pointwise
  after_reads_simp
  have h : ∀ x : Fin 384, ¬ (256 + x.val) / 64 < 4 := fun x => by omega
  have h' : ∀ x : Fin 384, x.val / 64 < 6 := fun x => by omega
  have e : ∀ x : Fin 384, (256 + x.val) / 64 - 4 = x.val / 64 := fun x => by omega
  have e' : ∀ x : Fin 384, (256 + x.val) % 64 = x.val % 64 := fun x => by omega
  simp only [h, h', ↓reduceDIte, e, e']
  rfl

/-- The third group of heads, scaled. -/
theorem part_c (r : Fin 32768) (f : Fin 384) :
    (StableHlo.upto hostOps0 (fun b => m (c, b)) 46 (Proc.tc.devRef main_v36) : S32768x384.Idx → EReal) (ix2 r f)
      = normed (Ideal.ofBits .f32 1136656384#32) (flat6 (argC m c) r) f := by
  after_reads_simp
  pointwise
  after_reads_simp
  have h : ∀ x : Fin 384, ¬ (640 + x.val) / 64 < 4 := fun x => by omega
  have h' : ∀ x : Fin 384, ¬ (640 + x.val) / 64 - 4 < 6 := fun x => by omega
  have e : ∀ x : Fin 384, (640 + x.val) / 64 - 4 - 6 = x.val / 64 := fun x => by omega
  have e' : ∀ x : Fin 384, (640 + x.val) % 64 = x.val % 64 := fun x => by omega
  simp only [h, h', ↓reduceDIte, e, e']
  rfl

/-- The rows the region reads: the merged heads times the gain. -/
theorem entry_x (r : Fin 32768) (f : Fin 1024) :
    (V m c main_v40 : S32768x1024.Idx → EReal) (ix2 r f) = merged (argA m c) (argB m c) (argC m c) r f * argG m c (ix1 f) := by
  after_reads_simp
  pointwise
  refine congrArg (· * _) ?_
  unfold merged
  split
  · exact part_a m c r _
  · split
    · exact part_b m c r _
    · exact part_c m c r _

/-- The weight the region reads is the argument. -/
theorem entry_w (i : S1024x1024.Idx) : (V m c main_v3 : S1024x1024.Idx → EReal) i = argW m c i := by
  after_reads_simp
  rfl

end

end Cert.Merge

end
-- ==== Proof.MergeArray.lean ====
/- The array the merge kernel leaves, and what its reference computes: the merged rows times the output weight. -/
module

public import proofs.«01_k».proof.Proof.MergeBlock
public import proofs.«01_k».proof.Proof.Gen.Reference5Ideal.Read

@[expose] public section

set_option maxRecDepth 16384

noncomputable section

namespace Cert.Merge

open Idealize.ShloMosaic Idealize.ShloMosaic.TcCoe Idealize.SL.Sem Cert.Kernel5Ideal Cert.Kernel5Ideal.Gen

/-- The merge, row by row: the merged heads times the gain and the output weight. -/
def output (a : S8x4x4096x64.Idx → EReal) (b e : S8x6x4096x64.Idx → EReal) (g : S1024.Idx → EReal) (w : S1024x1024.Idx → EReal) (i : S32768x1024.Idx) : EReal :=
  ∑ f : Fin 1024, (merged a b e (i 0) f * g (ix1 f)) * w (ix2 f (i 1))

/-- Where a point's rows lie in their array. -/
theorem index_x : ∀ t : Fin grid0.N, win0_0.index t = ![t.val, 0] := by decide +kernel

/-- Every point reads the whole weight. -/
theorem index_w : ∀ t : Fin grid0.N, win0_1.index t = ![0, 0] := by decide +kernel

/-- Where a point's results lie in their array. -/
theorem index_o : ∀ t : Fin grid0.N, win0_2.index t = ![t.val, 0] := by decide +kernel

/-- There are thirty-two points. -/
theorem points : grid0.N = 32 := by decide

/-- Row `r` of a point's block, in the array. -/
abbrev rowAt (t : Fin grid0.N) (r : Fin 1024) : Fin 32768 := ⟨1024 * t.val + r.val, by have h : t.val < 32 := lt_of_lt_of_eq t.isLt points; omega⟩

/-- An element of a point's rows, in the array. -/
theorem emb_x (t : Fin cfg0.N) (r e : Fin 1024) : (win0_0.rect t).emb (ix2 r e) = ix2 (rowAt t r) e := by
  have h := index_x t
  refine funext fun a => Fin.ext ?_
  rw [win0_0.rect_emb_val, h]
  match a with
  | ⟨0, _⟩ => exact congrArg (· + r.val) (Nat.mul_comm _ _)
  | ⟨1, _⟩ => exact Nat.zero_add _

/-- An element of the weight, in the array. -/
theorem emb_w (t : Fin cfg0.N) (i : S1024x1024.Idx) : (win0_1.rect t).emb i = i := by
  have h := index_w t
  refine funext fun a => Fin.ext ?_
  match a with
  | ⟨0, _⟩ => exact win0_1.rect_emb_val_of_index_zero t 0 (by rw [h]; rfl) _
  | ⟨1, _⟩ => exact win0_1.rect_emb_val_of_index_zero t 1 (by rw [h]; rfl) _

/-- An element of a point's results, in the array. -/
theorem emb_o (t : Fin cfg0.N) (r d : Fin 1024) : (win0_2.rect t).emb (ix2 r d) = ix2 (rowAt t r) d := by
  have h := index_o t
  refine funext fun a => Fin.ext ?_
  rw [win0_2.rect_emb_val, h]
  match a with
  | ⟨0, _⟩ => exact congrArg (· + r.val) (Nat.mul_comm _ _)
  | ⟨1, _⟩ => exact Nat.zero_add _

section
variable (m : (ℓ : Loc nD τ sig) → Buf (Elt Ideal) ℓ) (c : Dev nD)

/-- The kernel's result, index by index. -/
def result : S32768x1024.Idx → EReal := output (argA m c) (argB m c) (argC m c) (argG m c) (argW m c)

/-- A point's rows. -/
theorem block_x (t : Fin cfg0.N) (r f : Fin 1024) :
    (iblk m c 0 t : S1024x1024.Idx → EReal) (ix2 r f) = merged (argA m c) (argB m c) (argC m c) (rowAt t r) f * argG m c (ix1 f) := by
  unfold iblk
  exact (congrArg (V m c main_v40 : S32768x1024.Idx → EReal) (emb_x t r f)).trans (entry_x m c _ _)

/-- A point's weight. -/
theorem block_w (t : Fin cfg0.N) (i : S1024x1024.Idx) : (iblk m c 1 t : S1024x1024.Idx → EReal) i = argW m c i := by
  unfold iblk
  exact (congrArg (V m c main_v3 : S1024x1024.Idx → EReal) (emb_w t i)).trans (entry_w m c _)

/-- What point `t` writes back is its block of the result. -/
theorem flushed_eq (t : Fin cfg0.N) : (dats m 0 c).flushed 2 t = ((cfg0.win 2).blk t).view.read (Elt Ideal) (result m c) := by
  rw [Value.flushed2]
  refine funext fun (y : S1024x1024.Idx) => ?_
  obtain ⟨r, d, rfl⟩ : ∃ (r d : Fin 1024), y = ix2 r d := ⟨y 0, y 1, funext fun a => match a with | ⟨0, _⟩ => rfl | ⟨1, _⟩ => rfl⟩
  refine (out_apply _ _ r d).trans ?_
  refine Eq.trans ?_ (congrArg (result m c) (emb_o t r d)).symm
  show _ = output (argA m c) (argB m c) (argC m c) (argG m c) (argW m c) (ix2 (rowAt t r) d)
  unfold output
  exact Finset.sum_congr rfl fun f _ => congrArg₂ (· * ·) (block_x m c t r f) (block_w m c t _)

/-- Every index of the result lies in a point's block. -/
theorem covered (i : S32768x1024.Idx) : ∃ t : Fin cfg0.N, (cfg0.win 2).flush t = true ∧ i ∈ ((cfg0.win 2).blk t).view.set := by
  have h0 : (i 0).val < 32768 := (i 0).isLt
  have h1 : (i 1).val < 1024 := (i 1).isLt
  have hN : (i 0).val / 1024 < grid0.N := by rw [points]; omega
  refine ⟨⟨(i 0).val / 1024, hN⟩, flush0_2 _, ?_⟩
  show i ∈ ((View.whole main_v41).slice (win0_2.rect ⟨(i 0).val / 1024, hN⟩)).set
  rw [View.set_slice_whole, Rect.mem_set_unit]
  intro a
  show win0_2.index ⟨(i 0).val / 1024, hN⟩ a * win0_2.size a ≤ (i a).val ∧ (i a).val < win0_2.index ⟨(i 0).val / 1024, hN⟩ a * win0_2.size a + win0_2.xsize (grid0.coords ⟨(i 0).val / 1024, hN⟩) a
  rw [index_o]
  match a with
  | ⟨0, _⟩ => show (i 0).val / 1024 * 1024 ≤ (i 0).val ∧ (i 0).val < (i 0).val / 1024 * 1024 + 1024; omega
  | ⟨1, _⟩ => show 0 * 1024 ≤ (i 1).val ∧ (i 1).val < 0 * 1024 + 1024; omega

/-- The array the kernel leaves is the merge of its arguments. -/
theorem final_eq : (dats m 0 c).arrAt 2 cfg0.N = result m c :=
  (dats m 0 c).arrAt_eq_of_cover 2 (result m c) (fun t _ => flushed_eq m c t) covered

end

/-- The reference's result is the merge of its arguments. -/
theorem reference_eq (a : S8x4x4096x64.Idx → EReal) (b e : S8x6x4096x64.Idx → EReal) (g : S1024.Idx → EReal) (w : S1024x1024.Idx → EReal) :
    Reference5Ideal.Read.val_main_v41 (F := Ideal) a b e g w = output a b e g w := by
  refine funext fun (i : Reference5Ideal.S32768x1024.Idx) => ?_
  obtain ⟨r, d, rfl⟩ : ∃ (r : Fin 32768) (d : Fin 1024), i = ix2 r d := ⟨i 0, i 1, funext fun a => match a with | ⟨0, _⟩ => rfl | ⟨1, _⟩ => rfl⟩
  rw [← Reference5Ideal.Read.val_main_v41_eq]
  pointwise
  rfl

end Cert.Merge

end
-- ==== Proof.ProjectArray.lean ====
/- The projection of the rows to queries, keys, values and gates: the product the kernel's region leaves. -/
module

public import proofs.«01_k».proof.Proof.Gen.Kernel4Ideal.Frame
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

namespace Cert.Project

open Idealize.ShloMosaic Idealize.ShloMosaic.TcCoe Idealize.SL.Sem Cert.Kernel4Ideal Cert.Kernel4Ideal.Gen

/-- What a point writes: its rows times its columns of the weight. -/
theorem out_apply (x : Vec Ideal S1024x1024 .f32) (w : Vec Ideal S1024x640 .bf16) (r : Fin 1024) (d : Fin 640) :
    out0_2 x w (ix2 r d) = ∑ e : Fin 1024, x (ix2 r e) * w (ix2 e d) := by
  frame_out
  pointwise [k0_pay1]

/-- Where a point's rows lie in their array. -/
theorem index_x : ∀ t : Fin grid0.N, win0_0.index t = ![t.val / 5, 0] := by decide +kernel

/-- Where a point's columns of the weight lie. -/
theorem index_w : ∀ t : Fin grid0.N, win0_1.index t = ![0, t.val % 5] := by decide +kernel

/-- Where a point's results lie in their array. -/
theorem index_o : ∀ t : Fin grid0.N, win0_2.index t = ![t.val / 5, t.val % 5] := by decide +kernel

/-- Row `r` of a point's block, in the array. -/
abbrev rowAt (t : Fin grid0.N) (r : Fin 1024) : Fin 32768 := ⟨1024 * (t.val / 5) + r.val, by have h : t.val < 160 := lt_of_lt_of_eq t.isLt N_0; omega⟩

/-- Column `d` of a point's block, in the array. -/
abbrev colAt (t : Fin grid0.N) (d : Fin 640) : Fin 3200 := ⟨640 * (t.val % 5) + d.val, by omega⟩

/-- An element of a point's rows, in the array. -/
theorem emb_x (t : Fin cfg0.N) (r e : Fin 1024) : (win0_0.rect t).emb (ix2 r e) = ix2 (rowAt t r) e := by
  have h := index_x t
  refine funext fun a => Fin.ext ?_
  rw [win0_0.rect_emb_val, h]
  match a with
  | ⟨0, _⟩ => exact congrArg (· + r.val) (Nat.mul_comm _ _)
  | ⟨1, _⟩ => exact Nat.zero_add _

/-- An element of a point's columns of the weight, in the array. -/
theorem emb_w (t : Fin cfg0.N) (e : Fin 1024) (d : Fin 640) : (win0_1.rect t).emb (ix2 e d) = ix2 e (colAt t d) := by
  have h := index_w t
  refine funext fun a => Fin.ext ?_
  rw [win0_1.rect_emb_val, h]
  match a with
  | ⟨0, _⟩ => exact Nat.zero_add _
  | ⟨1, _⟩ => exact congrArg (· + d.val) (Nat.mul_comm _ _)

/-- An element of a point's results, in the array. -/
theorem emb_o (t : Fin cfg0.N) (r : Fin 1024) (d : Fin 640) : (win0_2.rect t).emb (ix2 r d) = ix2 (rowAt t r) (colAt t d) := by
  have h := index_o t
  refine funext fun a => Fin.ext ?_
  rw [win0_2.rect_emb_val, h]
  match a with
  | ⟨0, _⟩ => exact congrArg (· + r.val) (Nat.mul_comm _ _)
  | ⟨1, _⟩ => exact congrArg (· + d.val) (Nat.mul_comm _ _)

section
variable (m : (ℓ : Loc nD τ sig) → Buf (Elt Ideal) ℓ) (c : Dev nD)

/-- The rows and the weight the region reads. -/
abbrev rows : S32768x1024.Idx → EReal := V m c main_v2
abbrev weight : S1024x3200.Idx → EReal := V m c main_v1

/-- The product the region leaves. -/
def product : S32768x3200.Idx → EReal := fun i => ∑ e : Fin 1024, rows m c (ix2 (i 0) e) * weight m c (ix2 e (i 1))

/-- What point `t` writes back is its block of the product. -/
theorem flushed_eq (t : Fin cfg0.N) : (dats m 0 c).flushed 2 t = ((cfg0.win 2).blk t).view.read (Elt Ideal) (product m c) := by
  show (cfg0.win 2).cut (grid0.coords t) ((dats m 0 c).after 2 t) = _
  rw [after0_2]
  refine funext fun (y : S1024x640.Idx) => ?_
  obtain ⟨r, d, rfl⟩ : ∃ (r : Fin 1024) (d : Fin 640), y = ix2 r d := ⟨y 0, y 1, funext fun a => match a with | ⟨0, _⟩ => rfl | ⟨1, _⟩ => rfl⟩
  refine (out_apply _ _ r d).trans ?_
  refine Eq.trans ?_ (congrArg (product m c) (emb_o t r d)).symm
  show _ = ∑ e : Fin 1024, rows m c (ix2 (rowAt t r) e) * weight m c (ix2 e (colAt t d))
  refine Finset.sum_congr rfl fun e _ => congrArg₂ (· * ·) ?_ ?_
  · exact congrArg (rows m c) (emb_x t r e)
  · exact congrArg (weight m c) (emb_w t e d)

/-- Every index of the product lies in a point's block. -/
theorem covered (i : S32768x3200.Idx) : ∃ t : Fin cfg0.N, (cfg0.win 2).flush t = true ∧ i ∈ ((cfg0.win 2).blk t).view.set := by
  have h0 : (i 0).val < 32768 := (i 0).isLt
  have h1 : (i 1).val < 3200 := (i 1).isLt
  have hN : (i 0).val / 1024 * 5 + (i 1).val / 640 < grid0.N := by rw [N_0]; omega
  have e0 : ((i 0).val / 1024 * 5 + (i 1).val / 640) / 5 = (i 0).val / 1024 := by omega
  have e1 : ((i 0).val / 1024 * 5 + (i 1).val / 640) % 5 = (i 1).val / 640 := by omega
  refine ⟨⟨(i 0).val / 1024 * 5 + (i 1).val / 640, hN⟩, flush0_2 _, ?_⟩
  show i ∈ ((View.whole main_v3).slice (win0_2.rect ⟨(i 0).val / 1024 * 5 + (i 1).val / 640, hN⟩)).set
  rw [View.set_slice_whole, Rect.mem_set_unit]
  intro a
  show win0_2.index ⟨(i 0).val / 1024 * 5 + (i 1).val / 640, hN⟩ a * win0_2.size a ≤ (i a).val ∧ (i a).val < win0_2.index ⟨(i 0).val / 1024 * 5 + (i 1).val / 640, hN⟩ a * win0_2.size a + win0_2.xsize (grid0.coords ⟨(i 0).val / 1024 * 5 + (i 1).val / 640, hN⟩) a
  rw [index_o]
  match a with
  | ⟨0, _⟩ =>
    show ((i 0).val / 1024 * 5 + (i 1).val / 640) / 5 * 1024 ≤ (i 0).val ∧ (i 0).val < ((i 0).val / 1024 * 5 + (i 1).val / 640) / 5 * 1024 + 1024
    rw [e0]; omega
  | ⟨1, _⟩ =>
    show ((i 0).val / 1024 * 5 + (i 1).val / 640) % 5 * 640 ≤ (i 1).val ∧ (i 1).val < ((i 0).val / 1024 * 5 + (i 1).val / 640) % 5 * 640 + 640
    rw [e1]; omega

/-- The array the region leaves is the product. -/
theorem final_eq : (dats m 0 c).arrAt 2 cfg0.N = product m c :=
  (dats m 0 c).arrAt_eq_of_cover 2 (product m c) (fun t _ => flushed_eq m c t) covered

/-- The kernel's arguments, as arrays of extended reals. -/
abbrev argX : S8x4096x1024.Idx → EReal := m ((c : Thread nD τ).loc main_arg0)
abbrev argW : S1024x3078.Idx → EReal := m ((c : Thread nD τ).loc main_arg1)
abbrev argB : S6.Idx → EReal := m ((c : Thread nD τ).loc main_arg2)

/-- The rows are the argument's. -/
theorem rows_apply (r : Fin 32768) (e : Fin 1024) : rows m c (ix2 r e) = argX m c (ix3 ⟨r.val / 4096, by omega⟩ ⟨r.val % 4096, by omega⟩ e) := by
  unfold rows
  after_reads_simp
  pointwise

/-- The weight's columns before its padding are the argument's. -/
theorem weight_apply (e : Fin 1024) (f : Fin 3078) : weight m c (ix2 e ⟨f.val, by omega⟩) = argW m c (ix2 e f) := by
  unfold weight
  after_reads_simp
  simp -implicitDefEqProofs only [StableHlo.TRef.toBuf, StableHlo.TRef.ofBuf, cast_cast, cast_eq]
  pointwise

end

end Cert.Project

end
-- ==== Proof.ProjectTurn.lean ====
module

public import Idealize.ShloMosaic.Lib.Pointwise

/-!
# The turning of the last six heads

The last six of the sixteen heads carry a rotary position: the first eight channels of a head and the
eight after them are turned against each other by an angle that depends on the position and the
channel; the other forty-eight channels stay. `turned` says that channel by channel. The kernel works
on the six heads laid side by side as one row of 384 channels: the row times a table of cosines, plus
the row rolled by eight to the right times a table of sines, plus the row rolled by eight to the left
times a table of negated sines, the tables holding one or zero where nothing turns. `rolled` is that
row, and `rolled_eq` shows that it is the turned heads.
-/

@[expose] public section

namespace Cert.Project

open Idealize.ShloMosaic

/-- The angle by which channel `j` is turned at position `t`. -/
noncomputable def angle (t j : ℕ) : EReal :=
  FloatOps.sitofp (F := Ideal) FTy.f32 (BitVec.ofNat 32 t) *
    Ideal.pow (Ideal.ofBits FTy.f32 1223959552#32)
      (Ideal.div (-FloatOps.sitofp (F := Ideal) FTy.f32 (BitVec.ofNat 32 j))
        (Ideal.ofBits FTy.f32 1090519040#32))

/-- One part of a projected row — its queries or its keys — with the last six heads turned: the value
at position `t`, head `h`, channel `d`. -/
noncomputable def turned (y : Fin 1024 → EReal) (t : ℕ) (h : Fin 16) (d : Fin 64) : EReal :=
  if (h : ℕ) < 10 then y ⟨h * 64 + d, by omega⟩
  else if h8 : (d : ℕ) < 8 then
    y ⟨h * 64 + d, by omega⟩ * Ideal.cos (angle t d)
      - y ⟨h * 64 + (d + 8), by omega⟩ * Ideal.sin (angle t d)
  else if (d : ℕ) < 16 then
    y ⟨h * 64 + d, by omega⟩ * Ideal.cos (angle t (d - 8))
      + y ⟨h * 64 + (d - 8), by omega⟩ * Ideal.sin (angle t (d - 8))
  else y ⟨h * 64 + d, by omega⟩

/-- The turned row of 384 channels as the kernel forms it, from two rolled copies and three tables. -/
noncomputable def rolled (z : Fin 384 → EReal) (t : ℕ) (f : Fin 384) : EReal :=
  z f * (if (f : ℕ) % 64 < 8 then Ideal.cos (angle t (f % 64))
      else if (f : ℕ) % 64 - 8 < 8 then Ideal.cos (angle t (f % 64 - 8)) else 1)
    + (if h : (f : ℕ) < 8 then z ⟨376 + f, by omega⟩ else z ⟨f - 8, by omega⟩) *
      (if (f : ℕ) % 64 < 8 then 0
        else if (f : ℕ) % 64 - 8 < 8 then Ideal.sin (angle t (f % 64 - 8)) else 0)
    + (if h : (f : ℕ) < 376 then z ⟨8 + f, by omega⟩ else z ⟨f - 376, by omega⟩) *
      (if (f : ℕ) % 64 < 8 then -Ideal.sin (angle t (f % 64))
        else if (f : ℕ) % 64 - 8 < 8 then 0 else 0)

/-- The rolled row holds the turned heads ten to fifteen. -/
theorem rolled_eq (y : Fin 1024 → EReal) (t : ℕ) (h : Fin 16) (d : Fin 64) (hh : ¬(h : ℕ) < 10) :
    rolled (fun f => y ⟨640 + f, by omega⟩) t ⟨h * 64 + d - 640, by omega⟩ = turned y t h d := by
  have hm : ((h : ℕ) * 64 + d - 640) % 64 = d := by omega
  have e0 : 640 + ((h : ℕ) * 64 + d - 640) = h * 64 + d := by omega
  unfold rolled turned
  rw [if_neg hh]
  simp only [hm, e0]
  by_cases h8 : (d : ℕ) < 8
  · have e1 : (h : ℕ) * 64 + d - 640 < 376 := by omega
    have e2 : 640 + (8 + ((h : ℕ) * 64 + d - 640)) = h * 64 + (d + 8) := by omega
    simp only [if_pos h8, dif_pos h8, dif_pos e1, e2, mul_zero, add_zero]
    rw [mul_neg, sub_eq_add_neg]
  · by_cases h16 : (d : ℕ) < 16
    · have e1 : ¬((h : ℕ) * 64 + d - 640 < 8) := by omega
      have e2 : 640 + ((h : ℕ) * 64 + d - 640 - 8) = h * 64 + (d - 8) := by omega
      have e3 : (d : ℕ) - 8 < 8 := by omega
      simp only [if_neg h8, dif_neg h8, if_pos h16, if_pos e3, dif_neg e1, e2, mul_zero, add_zero]
    · have e3 : ¬((d : ℕ) - 8 < 8) := by omega
      simp only [if_neg h8, dif_neg h8, if_neg h16, if_neg e3, mul_zero, add_zero, mul_one]

/-- The logarithm of the sigmoid of `s`, as both programs write it: the negated soft plus of `-s`. -/
noncomputable def logSigmoid (s : EReal) : EReal :=
  -if -s ≠ -s then -s
    else max (-s) 0 + Ideal.log1p (Ideal.exp (-FloatOps.absf (F := Ideal) (φ := FTy.f32) (-s)))

end Cert.Project
-- ==== Proof.ProjectTail.lean ====
/- The projection of the rows: what the host's text after the region makes of the product. -/
module

public import proofs.«01_k».proof.Proof.ProjectArray
public import proofs.«01_k».proof.Proof.ProjectTurn

@[expose] public section

set_option maxRecDepth 16384

noncomputable section

namespace Cert.Project

open Idealize.ShloMosaic Idealize.ShloMosaic.TcCoe Idealize.SL.Sem Cert.Kernel4Ideal Cert.Kernel4Ideal.Gen

/-- The host's operations after the region. -/
abbrev tail : List (List (HloOp τ sig (Elt Ideal))) :=
  [hostOps1, hostOps1_1, hostOps1_2, hostOps1_3, hostOps1_4, hostOps1_5, hostOps1_6, hostOps1_7, hostOps1_8,
    hostOps1_9, hostOps1_10]

/-- The row of the region's product that belongs to position `t` of sequence `b`. -/
def productRow (U : Valuation τ sig (Elt Ideal)) (b : Fin 8) (t : Fin 4096) (f : Fin 3078) : EReal :=
  (U (Proc.tc.devRef main_v3) : S32768x3200.Idx → EReal) (ix2 ⟨b * 4096 + t, by omega⟩ ⟨f, by omega⟩)

/-- The values are columns of the product, head by head. -/
theorem tail_v (U : Valuation τ sig (Elt Ideal)) (b : Fin 8) (t : Fin 4096) (h : Fin 16) (d : Fin 64) :
    (StableHlo.after (List.flatten tail) U (Proc.tc.devRef main_v81) : S8x4096x16x64.Idx → EReal) (ix4 b t h d)
      = productRow U b t ⟨2048 + (h * 64 + d), by omega⟩ := by
  unfold productRow
  after_reads_simp
  pointwise

/-- The forget gates are the log sigmoid of the product's last columns plus the bias. -/
theorem tail_f (U : Valuation τ sig (Elt Ideal)) (b : Fin 8) (t : Fin 4096) (h : Fin 6) :
    (StableHlo.after (List.flatten tail) U (Proc.tc.devRef main_v82) : S8x4096x6.Idx → EReal) (ix3 b t h)
      = logSigmoid (productRow U b t ⟨3072 + h, by omega⟩
          + (U (Proc.tc.devRef main_arg2) : S6.Idx → EReal) (ix1 h)) := by
  unfold productRow logSigmoid
  after_reads_simp
  simp -implicitDefEqProofs only [StableHlo.TRef.toBuf, StableHlo.TRef.ofBuf, cast_cast, cast_eq]
  pointwise

/-- The queries' first ten heads, before the two parts are joined: columns of the product. -/
theorem plain_q (U : Valuation τ sig (Elt Ideal)) (b : Fin 8) (t : Fin 4096) (f : Fin 640) :
    (StableHlo.upto (List.flatten tail) U 80 (Proc.tc.devRef main_v43) : S32768x640.Idx → EReal)
        (ix2 ⟨b * 4096 + t, by omega⟩ f)
      = productRow U b t ⟨f, by omega⟩ := by
  unfold productRow
  after_reads_simp
  pointwise

set_option maxHeartbeats 2000000 in
/-- The queries' last six heads, before the two parts are joined: the rolled row. -/
theorem rolled_q (U : Valuation τ sig (Elt Ideal)) (b : Fin 8) (t : Fin 4096) (f : Fin 384) :
    (StableHlo.upto (List.flatten tail) U 80 (Proc.tc.devRef main_v59) : S32768x384.Idx → EReal)
        (ix2 ⟨b * 4096 + t, by omega⟩ f)
      = rolled (fun g => productRow U b t ⟨640 + g, by omega⟩) t f := by
  unfold rolled productRow angle
  after_reads_simp
  simp -implicitDefEqProofs only [StableHlo.TRef.toBuf, StableHlo.TRef.ofBuf, cast_cast, cast_eq]
  pointwise
  after_reads_simp
  simp -implicitDefEqProofs only [StableHlo.TRef.toBuf, StableHlo.TRef.ofBuf, cast_cast, cast_eq]
  pointwise
  simp only [dite_eq_ite]

/-- The queries: the first 1024 columns of the product, the last six heads turned. -/
theorem tail_q (U : Valuation τ sig (Elt Ideal)) (b : Fin 8) (t : Fin 4096) (h : Fin 16) (d : Fin 64) :
    (StableHlo.after (List.flatten tail) U (Proc.tc.devRef main_v79) : S8x4096x16x64.Idx → EReal) (ix4 b t h d)
      = turned (fun f => productRow U b t ⟨f, by omega⟩) t h d := by
  after_reads_simp
  by_cases hh : (h : ℕ) < 10
  · have hl : (h : ℕ) * 64 + d < 640 := by omega
    rw [turned, if_pos hh]
    pointwise [dif_pos hl]
    exact plain_q U b t ⟨h * 64 + d, hl⟩
  · have hl : ¬((h : ℕ) * 64 + d < 640) := by omega
    rw [← rolled_eq _ _ _ _ hh]
    pointwise [dif_neg hl]
    exact rolled_q U b t ⟨h * 64 + d - 640, by omega⟩

/-- The keys' first ten heads, before the two parts are joined: columns of the product. -/
theorem plain_k (U : Valuation τ sig (Elt Ideal)) (b : Fin 8) (t : Fin 4096) (f : Fin 640) :
    (StableHlo.upto (List.flatten tail) U 102 (Proc.tc.devRef main_v61) : S32768x640.Idx → EReal)
        (ix2 ⟨b * 4096 + t, by omega⟩ f)
      = productRow U b t ⟨1024 + f, by omega⟩ := by
  unfold productRow
  after_reads_simp
  pointwise

set_option maxHeartbeats 2000000 in
/-- The keys' last six heads, before the two parts are joined: the rolled row. -/
theorem rolled_k (U : Valuation τ sig (Elt Ideal)) (b : Fin 8) (t : Fin 4096) (f : Fin 384) :
    (StableHlo.upto (List.flatten tail) U 102 (Proc.tc.devRef main_v77) : S32768x384.Idx → EReal)
        (ix2 ⟨b * 4096 + t, by omega⟩ f)
      = rolled (fun g => productRow U b t ⟨1024 + (640 + g), by omega⟩) t f := by
  unfold rolled productRow angle
  after_reads_simp
  simp -implicitDefEqProofs only [StableHlo.TRef.toBuf, StableHlo.TRef.ofBuf, cast_cast, cast_eq]
  pointwise
  after_reads_simp
  simp -implicitDefEqProofs only [StableHlo.TRef.toBuf, StableHlo.TRef.ofBuf, cast_cast, cast_eq]
  pointwise
  simp only [dite_eq_ite]

/-- The keys: the second 1024 columns of the product, the last six heads turned. -/
theorem tail_k (U : Valuation τ sig (Elt Ideal)) (b : Fin 8) (t : Fin 4096) (h : Fin 16) (d : Fin 64) :
    (StableHlo.after (List.flatten tail) U (Proc.tc.devRef main_v80) : S8x4096x16x64.Idx → EReal) (ix4 b t h d)
      = turned (fun f => productRow U b t ⟨1024 + f, by omega⟩) t h d := by
  after_reads_simp
  by_cases hh : (h : ℕ) < 10
  · have hl : (h : ℕ) * 64 + d < 640 := by omega
    rw [turned, if_pos hh]
    pointwise [dif_pos hl]
    exact plain_k U b t ⟨h * 64 + d, hl⟩
  · have hl : ¬((h : ℕ) * 64 + d < 640) := by omega
    rw [← rolled_eq _ _ _ _ hh]
    pointwise [dif_neg hl]
    exact rolled_k U b t ⟨h * 64 + d - 640, by omega⟩

end Cert.Project
-- ==== Proof.ProjectReference.lean ====
/- The projection of the rows: what the reference computes. -/
module

public import proofs.«01_k».proof.Proof.Gen.Reference4Ideal.Read
public import proofs.«01_k».proof.Proof.ProjectTurn

@[expose] public section

set_option maxRecDepth 16384

noncomputable section

namespace Cert.Project

open Idealize.ShloMosaic Idealize.ShloMosaic.TcCoe Cert.Reference4Ideal

/-- Row `t` of sequence `b` times the weight: its queries, keys, values and gates in one row. -/
def projected (x : S8x4096x1024.Idx → EReal) (w : S1024x3078.Idx → EReal) (b : Fin 8) (t : Fin 4096)
    (f : Fin 3078) : EReal :=
  ∑ e : Fin 1024, x (ix3 b t e) * w (ix2 e f)

/-- The reference's queries: the first 1024 channels, the last six heads turned. -/
theorem ref_q (x : S8x4096x1024.Idx → EReal) (w : S1024x3078.Idx → EReal) (b : Fin 8) (t : Fin 4096)
    (h : Fin 16) (d : Fin 64) :
    Read.val_main_v46 (F := Ideal) x w (ix4 b t h d)
      = turned (fun f => projected x w b t ⟨f, by omega⟩) t h d := by
  unfold turned projected angle
  by_cases hh : (h : ℕ) < 10
  · rw [if_pos hh]
    pointwise [Read.val_main_v0, Read.val_main_v1,
    Read.val_main_v2, Read.val_main_v3,
    Read.val_main_v4, Read.val_main_v5,
    Read.val_main_v6, Read.val_main_v7,
    Read.val_main_v8, Read.val_main_v9,
    Read.val_main_v10, Read.val_main_call0_v0,
    Read.val_main_call0_call0_cst, Read.val_main_call0_call0_v0,
    Read.val_main_call0_call0_v1, Read.val_main_call0_call0_v2,
    Read.val_main_call0_call0_v3, Read.val_main_call0_call0_v4,
    Read.val_main_call0_call0_v5, Read.val_main_call0_call0_v6,
    Read.val_main_call0_call0_v7, Read.val_main_call0_call0_v8,
    Read.val_main_call0_call0_v9, Read.val_main_call0_call0_v10,
    Read.val_main_call0_call0_v11, Read.val_main_call0_v1,
    Read.val_main_v11, Read.val_main_v12,
    Read.val_main_v13, Read.val_main_v14,
    Read.val_main_v15, Read.val_main_v16,
    Read.val_main_cst, Read.val_main_v17,
    Read.val_main_v18, Read.val_main_cst_0,
    Read.val_main_v19, Read.val_main_v20,
    Read.val_main_v21, Read.val_main_v22,
    Read.val_main_v23, Read.val_main_v24,
    Read.val_main_v25, Read.val_main_v26,
    Read.val_main_v27, Read.val_main_v28,
    Read.val_main_v29, Read.val_main_v30,
    Read.val_main_v31, Read.val_main_v32,
    Read.val_main_v33, Read.val_main_v34,
    Read.val_main_v35, Read.val_main_v36,
    Read.val_main_v37, Read.val_main_v38,
    Read.val_main_v39, Read.val_main_v40,
    Read.val_main_v41, Read.val_main_v42,
    Read.val_main_v43, Read.val_main_v44,
    Read.val_main_v45, Read.val_main_v46,
    Read.val_main_v47, Read.val_main_v48,
    Read.val_main_v49, Read.val_main_v50,
    Read.val_main_cst_1, Read.val_main_v51,
    Read.val_main_v52, Read.val_main_cst_2,
    Read.val_main_v53, Read.val_main_v54,
    Read.val_main_v55, Read.val_main_v56,
    Read.val_main_v57, Read.val_main_v58,
    Read.val_main_v59, Read.val_main_v60,
    Read.val_main_v61, Read.val_main_v62,
    Read.val_main_v63, Read.val_main_v64,
    Read.val_main_v65, Read.val_main_v66,
    Read.val_main_v67, Read.val_main_v68,
    Read.val_main_v69, Read.val_main_v70,
    Read.val_main_v71, Read.val_main_v72,
    Read.val_main_v73, Read.val_main_v74,
    Read.val_main_v75, Read.val_main_v76,
    Read.val_main_v77, Read.val_main_v78,
    Read.val_main_v79, Read.val_main_v80, dif_pos hh]
  · have e1 : 10 + ((h : ℕ) - 10) = h := by omega
    rw [if_neg hh]
    by_cases h8 : (d : ℕ) < 8
    · have h16 : (d : ℕ) < 16 := by omega
      rw [dif_pos h8]
      pointwise [Read.val_main_v0, Read.val_main_v1,
    Read.val_main_v2, Read.val_main_v3,
    Read.val_main_v4, Read.val_main_v5,
    Read.val_main_v6, Read.val_main_v7,
    Read.val_main_v8, Read.val_main_v9,
    Read.val_main_v10, Read.val_main_call0_v0,
    Read.val_main_call0_call0_cst, Read.val_main_call0_call0_v0,
    Read.val_main_call0_call0_v1, Read.val_main_call0_call0_v2,
    Read.val_main_call0_call0_v3, Read.val_main_call0_call0_v4,
    Read.val_main_call0_call0_v5, Read.val_main_call0_call0_v6,
    Read.val_main_call0_call0_v7, Read.val_main_call0_call0_v8,
    Read.val_main_call0_call0_v9, Read.val_main_call0_call0_v10,
    Read.val_main_call0_call0_v11, Read.val_main_call0_v1,
    Read.val_main_v11, Read.val_main_v12,
    Read.val_main_v13, Read.val_main_v14,
    Read.val_main_v15, Read.val_main_v16,
    Read.val_main_cst, Read.val_main_v17,
    Read.val_main_v18, Read.val_main_cst_0,
    Read.val_main_v19, Read.val_main_v20,
    Read.val_main_v21, Read.val_main_v22,
    Read.val_main_v23, Read.val_main_v24,
    Read.val_main_v25, Read.val_main_v26,
    Read.val_main_v27, Read.val_main_v28,
    Read.val_main_v29, Read.val_main_v30,
    Read.val_main_v31, Read.val_main_v32,
    Read.val_main_v33, Read.val_main_v34,
    Read.val_main_v35, Read.val_main_v36,
    Read.val_main_v37, Read.val_main_v38,
    Read.val_main_v39, Read.val_main_v40,
    Read.val_main_v41, Read.val_main_v42,
    Read.val_main_v43, Read.val_main_v44,
    Read.val_main_v45, Read.val_main_v46,
    Read.val_main_v47, Read.val_main_v48,
    Read.val_main_v49, Read.val_main_v50,
    Read.val_main_cst_1, Read.val_main_v51,
    Read.val_main_v52, Read.val_main_cst_2,
    Read.val_main_v53, Read.val_main_v54,
    Read.val_main_v55, Read.val_main_v56,
    Read.val_main_v57, Read.val_main_v58,
    Read.val_main_v59, Read.val_main_v60,
    Read.val_main_v61, Read.val_main_v62,
    Read.val_main_v63, Read.val_main_v64,
    Read.val_main_v65, Read.val_main_v66,
    Read.val_main_v67, Read.val_main_v68,
    Read.val_main_v69, Read.val_main_v70,
    Read.val_main_v71, Read.val_main_v72,
    Read.val_main_v73, Read.val_main_v74,
    Read.val_main_v75, Read.val_main_v76,
    Read.val_main_v77, Read.val_main_v78,
    Read.val_main_v79, Read.val_main_v80, dif_neg hh, dif_pos h16, dif_pos h8]
      simp only [e1, Nat.add_comm 8]
    · rw [dif_neg h8]
      by_cases h16 : (d : ℕ) < 16
      · have e2 : 8 + ((d : ℕ) - 8) = d := by omega
        rw [if_pos h16]
        pointwise [Read.val_main_v0, Read.val_main_v1,
    Read.val_main_v2, Read.val_main_v3,
    Read.val_main_v4, Read.val_main_v5,
    Read.val_main_v6, Read.val_main_v7,
    Read.val_main_v8, Read.val_main_v9,
    Read.val_main_v10, Read.val_main_call0_v0,
    Read.val_main_call0_call0_cst, Read.val_main_call0_call0_v0,
    Read.val_main_call0_call0_v1, Read.val_main_call0_call0_v2,
    Read.val_main_call0_call0_v3, Read.val_main_call0_call0_v4,
    Read.val_main_call0_call0_v5, Read.val_main_call0_call0_v6,
    Read.val_main_call0_call0_v7, Read.val_main_call0_call0_v8,
    Read.val_main_call0_call0_v9, Read.val_main_call0_call0_v10,
    Read.val_main_call0_call0_v11, Read.val_main_call0_v1,
    Read.val_main_v11, Read.val_main_v12,
    Read.val_main_v13, Read.val_main_v14,
    Read.val_main_v15, Read.val_main_v16,
    Read.val_main_cst, Read.val_main_v17,
    Read.val_main_v18, Read.val_main_cst_0,
    Read.val_main_v19, Read.val_main_v20,
    Read.val_main_v21, Read.val_main_v22,
    Read.val_main_v23, Read.val_main_v24,
    Read.val_main_v25, Read.val_main_v26,
    Read.val_main_v27, Read.val_main_v28,
    Read.val_main_v29, Read.val_main_v30,
    Read.val_main_v31, Read.val_main_v32,
    Read.val_main_v33, Read.val_main_v34,
    Read.val_main_v35, Read.val_main_v36,
    Read.val_main_v37, Read.val_main_v38,
    Read.val_main_v39, Read.val_main_v40,
    Read.val_main_v41, Read.val_main_v42,
    Read.val_main_v43, Read.val_main_v44,
    Read.val_main_v45, Read.val_main_v46,
    Read.val_main_v47, Read.val_main_v48,
    Read.val_main_v49, Read.val_main_v50,
    Read.val_main_cst_1, Read.val_main_v51,
    Read.val_main_v52, Read.val_main_cst_2,
    Read.val_main_v53, Read.val_main_v54,
    Read.val_main_v55, Read.val_main_v56,
    Read.val_main_v57, Read.val_main_v58,
    Read.val_main_v59, Read.val_main_v60,
    Read.val_main_v61, Read.val_main_v62,
    Read.val_main_v63, Read.val_main_v64,
    Read.val_main_v65, Read.val_main_v66,
    Read.val_main_v67, Read.val_main_v68,
    Read.val_main_v69, Read.val_main_v70,
    Read.val_main_v71, Read.val_main_v72,
    Read.val_main_v73, Read.val_main_v74,
    Read.val_main_v75, Read.val_main_v76,
    Read.val_main_v77, Read.val_main_v78,
    Read.val_main_v79, Read.val_main_v80, dif_neg hh, dif_pos h16, dif_neg h8]
        simp only [e1, e2]
      · have e2 : 16 + ((d : ℕ) - 16) = d := by omega
        rw [if_neg h16]
        pointwise [Read.val_main_v0, Read.val_main_v1,
    Read.val_main_v2, Read.val_main_v3,
    Read.val_main_v4, Read.val_main_v5,
    Read.val_main_v6, Read.val_main_v7,
    Read.val_main_v8, Read.val_main_v9,
    Read.val_main_v10, Read.val_main_call0_v0,
    Read.val_main_call0_call0_cst, Read.val_main_call0_call0_v0,
    Read.val_main_call0_call0_v1, Read.val_main_call0_call0_v2,
    Read.val_main_call0_call0_v3, Read.val_main_call0_call0_v4,
    Read.val_main_call0_call0_v5, Read.val_main_call0_call0_v6,
    Read.val_main_call0_call0_v7, Read.val_main_call0_call0_v8,
    Read.val_main_call0_call0_v9, Read.val_main_call0_call0_v10,
    Read.val_main_call0_call0_v11, Read.val_main_call0_v1,
    Read.val_main_v11, Read.val_main_v12,
    Read.val_main_v13, Read.val_main_v14,
    Read.val_main_v15, Read.val_main_v16,
    Read.val_main_cst, Read.val_main_v17,
    Read.val_main_v18, Read.val_main_cst_0,
    Read.val_main_v19, Read.val_main_v20,
    Read.val_main_v21, Read.val_main_v22,
    Read.val_main_v23, Read.val_main_v24,
    Read.val_main_v25, Read.val_main_v26,
    Read.val_main_v27, Read.val_main_v28,
    Read.val_main_v29, Read.val_main_v30,
    Read.val_main_v31, Read.val_main_v32,
    Read.val_main_v33, Read.val_main_v34,
    Read.val_main_v35, Read.val_main_v36,
    Read.val_main_v37, Read.val_main_v38,
    Read.val_main_v39, Read.val_main_v40,
    Read.val_main_v41, Read.val_main_v42,
    Read.val_main_v43, Read.val_main_v44,
    Read.val_main_v45, Read.val_main_v46,
    Read.val_main_v47, Read.val_main_v48,
    Read.val_main_v49, Read.val_main_v50,
    Read.val_main_cst_1, Read.val_main_v51,
    Read.val_main_v52, Read.val_main_cst_2,
    Read.val_main_v53, Read.val_main_v54,
    Read.val_main_v55, Read.val_main_v56,
    Read.val_main_v57, Read.val_main_v58,
    Read.val_main_v59, Read.val_main_v60,
    Read.val_main_v61, Read.val_main_v62,
    Read.val_main_v63, Read.val_main_v64,
    Read.val_main_v65, Read.val_main_v66,
    Read.val_main_v67, Read.val_main_v68,
    Read.val_main_v69, Read.val_main_v70,
    Read.val_main_v71, Read.val_main_v72,
    Read.val_main_v73, Read.val_main_v74,
    Read.val_main_v75, Read.val_main_v76,
    Read.val_main_v77, Read.val_main_v78,
    Read.val_main_v79, Read.val_main_v80, dif_neg hh, dif_neg h16]
        simp only [e1, e2]

/-- The reference's keys: the second 1024 channels, the last six heads turned. -/
theorem ref_k (x : S8x4096x1024.Idx → EReal) (w : S1024x3078.Idx → EReal) (b : Fin 8) (t : Fin 4096)
    (h : Fin 16) (d : Fin 64) :
    Read.val_main_v80 (F := Ideal) x w (ix4 b t h d)
      = turned (fun f => projected x w b t ⟨1024 + f, by omega⟩) t h d := by
  unfold turned projected angle
  by_cases hh : (h : ℕ) < 10
  · rw [if_pos hh]
    pointwise [Read.val_main_v0, Read.val_main_v1,
    Read.val_main_v2, Read.val_main_v3,
    Read.val_main_v4, Read.val_main_v5,
    Read.val_main_v6, Read.val_main_v7,
    Read.val_main_v8, Read.val_main_v9,
    Read.val_main_v10, Read.val_main_call0_v0,
    Read.val_main_call0_call0_cst, Read.val_main_call0_call0_v0,
    Read.val_main_call0_call0_v1, Read.val_main_call0_call0_v2,
    Read.val_main_call0_call0_v3, Read.val_main_call0_call0_v4,
    Read.val_main_call0_call0_v5, Read.val_main_call0_call0_v6,
    Read.val_main_call0_call0_v7, Read.val_main_call0_call0_v8,
    Read.val_main_call0_call0_v9, Read.val_main_call0_call0_v10,
    Read.val_main_call0_call0_v11, Read.val_main_call0_v1,
    Read.val_main_v11, Read.val_main_v12,
    Read.val_main_v13, Read.val_main_v14,
    Read.val_main_v15, Read.val_main_v16,
    Read.val_main_cst, Read.val_main_v17,
    Read.val_main_v18, Read.val_main_cst_0,
    Read.val_main_v19, Read.val_main_v20,
    Read.val_main_v21, Read.val_main_v22,
    Read.val_main_v23, Read.val_main_v24,
    Read.val_main_v25, Read.val_main_v26,
    Read.val_main_v27, Read.val_main_v28,
    Read.val_main_v29, Read.val_main_v30,
    Read.val_main_v31, Read.val_main_v32,
    Read.val_main_v33, Read.val_main_v34,
    Read.val_main_v35, Read.val_main_v36,
    Read.val_main_v37, Read.val_main_v38,
    Read.val_main_v39, Read.val_main_v40,
    Read.val_main_v41, Read.val_main_v42,
    Read.val_main_v43, Read.val_main_v44,
    Read.val_main_v45, Read.val_main_v46,
    Read.val_main_v47, Read.val_main_v48,
    Read.val_main_v49, Read.val_main_v50,
    Read.val_main_cst_1, Read.val_main_v51,
    Read.val_main_v52, Read.val_main_cst_2,
    Read.val_main_v53, Read.val_main_v54,
    Read.val_main_v55, Read.val_main_v56,
    Read.val_main_v57, Read.val_main_v58,
    Read.val_main_v59, Read.val_main_v60,
    Read.val_main_v61, Read.val_main_v62,
    Read.val_main_v63, Read.val_main_v64,
    Read.val_main_v65, Read.val_main_v66,
    Read.val_main_v67, Read.val_main_v68,
    Read.val_main_v69, Read.val_main_v70,
    Read.val_main_v71, Read.val_main_v72,
    Read.val_main_v73, Read.val_main_v74,
    Read.val_main_v75, Read.val_main_v76,
    Read.val_main_v77, Read.val_main_v78,
    Read.val_main_v79, Read.val_main_v80, dif_pos hh]
  · have e1 : 10 + ((h : ℕ) - 10) = h := by omega
    rw [if_neg hh]
    by_cases h8 : (d : ℕ) < 8
    · have h16 : (d : ℕ) < 16 := by omega
      rw [dif_pos h8]
      pointwise [Read.val_main_v0, Read.val_main_v1,
    Read.val_main_v2, Read.val_main_v3,
    Read.val_main_v4, Read.val_main_v5,
    Read.val_main_v6, Read.val_main_v7,
    Read.val_main_v8, Read.val_main_v9,
    Read.val_main_v10, Read.val_main_call0_v0,
    Read.val_main_call0_call0_cst, Read.val_main_call0_call0_v0,
    Read.val_main_call0_call0_v1, Read.val_main_call0_call0_v2,
    Read.val_main_call0_call0_v3, Read.val_main_call0_call0_v4,
    Read.val_main_call0_call0_v5, Read.val_main_call0_call0_v6,
    Read.val_main_call0_call0_v7, Read.val_main_call0_call0_v8,
    Read.val_main_call0_call0_v9, Read.val_main_call0_call0_v10,
    Read.val_main_call0_call0_v11, Read.val_main_call0_v1,
    Read.val_main_v11, Read.val_main_v12,
    Read.val_main_v13, Read.val_main_v14,
    Read.val_main_v15, Read.val_main_v16,
    Read.val_main_cst, Read.val_main_v17,
    Read.val_main_v18, Read.val_main_cst_0,
    Read.val_main_v19, Read.val_main_v20,
    Read.val_main_v21, Read.val_main_v22,
    Read.val_main_v23, Read.val_main_v24,
    Read.val_main_v25, Read.val_main_v26,
    Read.val_main_v27, Read.val_main_v28,
    Read.val_main_v29, Read.val_main_v30,
    Read.val_main_v31, Read.val_main_v32,
    Read.val_main_v33, Read.val_main_v34,
    Read.val_main_v35, Read.val_main_v36,
    Read.val_main_v37, Read.val_main_v38,
    Read.val_main_v39, Read.val_main_v40,
    Read.val_main_v41, Read.val_main_v42,
    Read.val_main_v43, Read.val_main_v44,
    Read.val_main_v45, Read.val_main_v46,
    Read.val_main_v47, Read.val_main_v48,
    Read.val_main_v49, Read.val_main_v50,
    Read.val_main_cst_1, Read.val_main_v51,
    Read.val_main_v52, Read.val_main_cst_2,
    Read.val_main_v53, Read.val_main_v54,
    Read.val_main_v55, Read.val_main_v56,
    Read.val_main_v57, Read.val_main_v58,
    Read.val_main_v59, Read.val_main_v60,
    Read.val_main_v61, Read.val_main_v62,
    Read.val_main_v63, Read.val_main_v64,
    Read.val_main_v65, Read.val_main_v66,
    Read.val_main_v67, Read.val_main_v68,
    Read.val_main_v69, Read.val_main_v70,
    Read.val_main_v71, Read.val_main_v72,
    Read.val_main_v73, Read.val_main_v74,
    Read.val_main_v75, Read.val_main_v76,
    Read.val_main_v77, Read.val_main_v78,
    Read.val_main_v79, Read.val_main_v80, dif_neg hh, dif_pos h16, dif_pos h8]
      simp only [e1, Nat.add_comm 8]
    · rw [dif_neg h8]
      by_cases h16 : (d : ℕ) < 16
      · have e2 : 8 + ((d : ℕ) - 8) = d := by omega
        rw [if_pos h16]
        pointwise [Read.val_main_v0, Read.val_main_v1,
    Read.val_main_v2, Read.val_main_v3,
    Read.val_main_v4, Read.val_main_v5,
    Read.val_main_v6, Read.val_main_v7,
    Read.val_main_v8, Read.val_main_v9,
    Read.val_main_v10, Read.val_main_call0_v0,
    Read.val_main_call0_call0_cst, Read.val_main_call0_call0_v0,
    Read.val_main_call0_call0_v1, Read.val_main_call0_call0_v2,
    Read.val_main_call0_call0_v3, Read.val_main_call0_call0_v4,
    Read.val_main_call0_call0_v5, Read.val_main_call0_call0_v6,
    Read.val_main_call0_call0_v7, Read.val_main_call0_call0_v8,
    Read.val_main_call0_call0_v9, Read.val_main_call0_call0_v10,
    Read.val_main_call0_call0_v11, Read.val_main_call0_v1,
    Read.val_main_v11, Read.val_main_v12,
    Read.val_main_v13, Read.val_main_v14,
    Read.val_main_v15, Read.val_main_v16,
    Read.val_main_cst, Read.val_main_v17,
    Read.val_main_v18, Read.val_main_cst_0,
    Read.val_main_v19, Read.val_main_v20,
    Read.val_main_v21, Read.val_main_v22,
    Read.val_main_v23, Read.val_main_v24,
    Read.val_main_v25, Read.val_main_v26,
    Read.val_main_v27, Read.val_main_v28,
    Read.val_main_v29, Read.val_main_v30,
    Read.val_main_v31, Read.val_main_v32,
    Read.val_main_v33, Read.val_main_v34,
    Read.val_main_v35, Read.val_main_v36,
    Read.val_main_v37, Read.val_main_v38,
    Read.val_main_v39, Read.val_main_v40,
    Read.val_main_v41, Read.val_main_v42,
    Read.val_main_v43, Read.val_main_v44,
    Read.val_main_v45, Read.val_main_v46,
    Read.val_main_v47, Read.val_main_v48,
    Read.val_main_v49, Read.val_main_v50,
    Read.val_main_cst_1, Read.val_main_v51,
    Read.val_main_v52, Read.val_main_cst_2,
    Read.val_main_v53, Read.val_main_v54,
    Read.val_main_v55, Read.val_main_v56,
    Read.val_main_v57, Read.val_main_v58,
    Read.val_main_v59, Read.val_main_v60,
    Read.val_main_v61, Read.val_main_v62,
    Read.val_main_v63, Read.val_main_v64,
    Read.val_main_v65, Read.val_main_v66,
    Read.val_main_v67, Read.val_main_v68,
    Read.val_main_v69, Read.val_main_v70,
    Read.val_main_v71, Read.val_main_v72,
    Read.val_main_v73, Read.val_main_v74,
    Read.val_main_v75, Read.val_main_v76,
    Read.val_main_v77, Read.val_main_v78,
    Read.val_main_v79, Read.val_main_v80, dif_neg hh, dif_pos h16, dif_neg h8]
        simp only [e1, e2]
      · have e2 : 16 + ((d : ℕ) - 16) = d := by omega
        rw [if_neg h16]
        pointwise [Read.val_main_v0, Read.val_main_v1,
    Read.val_main_v2, Read.val_main_v3,
    Read.val_main_v4, Read.val_main_v5,
    Read.val_main_v6, Read.val_main_v7,
    Read.val_main_v8, Read.val_main_v9,
    Read.val_main_v10, Read.val_main_call0_v0,
    Read.val_main_call0_call0_cst, Read.val_main_call0_call0_v0,
    Read.val_main_call0_call0_v1, Read.val_main_call0_call0_v2,
    Read.val_main_call0_call0_v3, Read.val_main_call0_call0_v4,
    Read.val_main_call0_call0_v5, Read.val_main_call0_call0_v6,
    Read.val_main_call0_call0_v7, Read.val_main_call0_call0_v8,
    Read.val_main_call0_call0_v9, Read.val_main_call0_call0_v10,
    Read.val_main_call0_call0_v11, Read.val_main_call0_v1,
    Read.val_main_v11, Read.val_main_v12,
    Read.val_main_v13, Read.val_main_v14,
    Read.val_main_v15, Read.val_main_v16,
    Read.val_main_cst, Read.val_main_v17,
    Read.val_main_v18, Read.val_main_cst_0,
    Read.val_main_v19, Read.val_main_v20,
    Read.val_main_v21, Read.val_main_v22,
    Read.val_main_v23, Read.val_main_v24,
    Read.val_main_v25, Read.val_main_v26,
    Read.val_main_v27, Read.val_main_v28,
    Read.val_main_v29, Read.val_main_v30,
    Read.val_main_v31, Read.val_main_v32,
    Read.val_main_v33, Read.val_main_v34,
    Read.val_main_v35, Read.val_main_v36,
    Read.val_main_v37, Read.val_main_v38,
    Read.val_main_v39, Read.val_main_v40,
    Read.val_main_v41, Read.val_main_v42,
    Read.val_main_v43, Read.val_main_v44,
    Read.val_main_v45, Read.val_main_v46,
    Read.val_main_v47, Read.val_main_v48,
    Read.val_main_v49, Read.val_main_v50,
    Read.val_main_cst_1, Read.val_main_v51,
    Read.val_main_v52, Read.val_main_cst_2,
    Read.val_main_v53, Read.val_main_v54,
    Read.val_main_v55, Read.val_main_v56,
    Read.val_main_v57, Read.val_main_v58,
    Read.val_main_v59, Read.val_main_v60,
    Read.val_main_v61, Read.val_main_v62,
    Read.val_main_v63, Read.val_main_v64,
    Read.val_main_v65, Read.val_main_v66,
    Read.val_main_v67, Read.val_main_v68,
    Read.val_main_v69, Read.val_main_v70,
    Read.val_main_v71, Read.val_main_v72,
    Read.val_main_v73, Read.val_main_v74,
    Read.val_main_v75, Read.val_main_v76,
    Read.val_main_v77, Read.val_main_v78,
    Read.val_main_v79, Read.val_main_v80, dif_neg hh, dif_neg h16]
        simp only [e1, e2]

/-- The reference's values: the last 1024 channels before the gates. -/
theorem ref_v (x : S8x4096x1024.Idx → EReal) (w : S1024x3078.Idx → EReal) (b : Fin 8) (t : Fin 4096)
    (h : Fin 16) (d : Fin 64) :
    Read.val_main_v6 (F := Ideal) x w (ix4 b t h d)
      = projected x w b t ⟨2048 + (h * 64 + d), by omega⟩ := by
  unfold projected
  pointwise [Read.val_main_v0, Read.val_main_v1,
    Read.val_main_v2, Read.val_main_v3,
    Read.val_main_v4, Read.val_main_v5,
    Read.val_main_v6, Read.val_main_v7,
    Read.val_main_v8, Read.val_main_v9,
    Read.val_main_v10, Read.val_main_call0_v0,
    Read.val_main_call0_call0_cst, Read.val_main_call0_call0_v0,
    Read.val_main_call0_call0_v1, Read.val_main_call0_call0_v2,
    Read.val_main_call0_call0_v3, Read.val_main_call0_call0_v4,
    Read.val_main_call0_call0_v5, Read.val_main_call0_call0_v6,
    Read.val_main_call0_call0_v7, Read.val_main_call0_call0_v8,
    Read.val_main_call0_call0_v9, Read.val_main_call0_call0_v10,
    Read.val_main_call0_call0_v11, Read.val_main_call0_v1,
    Read.val_main_v11, Read.val_main_v12,
    Read.val_main_v13, Read.val_main_v14,
    Read.val_main_v15, Read.val_main_v16,
    Read.val_main_cst, Read.val_main_v17,
    Read.val_main_v18, Read.val_main_cst_0,
    Read.val_main_v19, Read.val_main_v20,
    Read.val_main_v21, Read.val_main_v22,
    Read.val_main_v23, Read.val_main_v24,
    Read.val_main_v25, Read.val_main_v26,
    Read.val_main_v27, Read.val_main_v28,
    Read.val_main_v29, Read.val_main_v30,
    Read.val_main_v31, Read.val_main_v32,
    Read.val_main_v33, Read.val_main_v34,
    Read.val_main_v35, Read.val_main_v36,
    Read.val_main_v37, Read.val_main_v38,
    Read.val_main_v39, Read.val_main_v40,
    Read.val_main_v41, Read.val_main_v42,
    Read.val_main_v43, Read.val_main_v44,
    Read.val_main_v45, Read.val_main_v46,
    Read.val_main_v47, Read.val_main_v48,
    Read.val_main_v49, Read.val_main_v50,
    Read.val_main_cst_1, Read.val_main_v51,
    Read.val_main_v52, Read.val_main_cst_2,
    Read.val_main_v53, Read.val_main_v54,
    Read.val_main_v55, Read.val_main_v56,
    Read.val_main_v57, Read.val_main_v58,
    Read.val_main_v59, Read.val_main_v60,
    Read.val_main_v61, Read.val_main_v62,
    Read.val_main_v63, Read.val_main_v64,
    Read.val_main_v65, Read.val_main_v66,
    Read.val_main_v67, Read.val_main_v68,
    Read.val_main_v69, Read.val_main_v70,
    Read.val_main_v71, Read.val_main_v72,
    Read.val_main_v73, Read.val_main_v74,
    Read.val_main_v75, Read.val_main_v76,
    Read.val_main_v77, Read.val_main_v78,
    Read.val_main_v79, Read.val_main_v80]

/-- The reference's forget gates: the logarithm of the sigmoid of the last six channels plus a bias. -/
theorem ref_f (x : S8x4096x1024.Idx → EReal) (w : S1024x3078.Idx → EReal) (bf : S6.Idx → EReal)
    (b : Fin 8) (t : Fin 4096) (h : Fin 6) :
    Read.val_main_v11 (F := Ideal) x w bf (ix3 b t h)
      = logSigmoid (projected x w b t ⟨3072 + h, by omega⟩ + bf (ix1 h)) := by
  unfold projected logSigmoid
  pointwise [Read.val_main_v0, Read.val_main_v1,
    Read.val_main_v2, Read.val_main_v3,
    Read.val_main_v4, Read.val_main_v5,
    Read.val_main_v6, Read.val_main_v7,
    Read.val_main_v8, Read.val_main_v9,
    Read.val_main_v10, Read.val_main_call0_v0,
    Read.val_main_call0_call0_cst, Read.val_main_call0_call0_v0,
    Read.val_main_call0_call0_v1, Read.val_main_call0_call0_v2,
    Read.val_main_call0_call0_v3, Read.val_main_call0_call0_v4,
    Read.val_main_call0_call0_v5, Read.val_main_call0_call0_v6,
    Read.val_main_call0_call0_v7, Read.val_main_call0_call0_v8,
    Read.val_main_call0_call0_v9, Read.val_main_call0_call0_v10,
    Read.val_main_call0_call0_v11, Read.val_main_call0_v1,
    Read.val_main_v11, Read.val_main_v12,
    Read.val_main_v13, Read.val_main_v14,
    Read.val_main_v15, Read.val_main_v16,
    Read.val_main_cst, Read.val_main_v17,
    Read.val_main_v18, Read.val_main_cst_0,
    Read.val_main_v19, Read.val_main_v20,
    Read.val_main_v21, Read.val_main_v22,
    Read.val_main_v23, Read.val_main_v24,
    Read.val_main_v25, Read.val_main_v26,
    Read.val_main_v27, Read.val_main_v28,
    Read.val_main_v29, Read.val_main_v30,
    Read.val_main_v31, Read.val_main_v32,
    Read.val_main_v33, Read.val_main_v34,
    Read.val_main_v35, Read.val_main_v36,
    Read.val_main_v37, Read.val_main_v38,
    Read.val_main_v39, Read.val_main_v40,
    Read.val_main_v41, Read.val_main_v42,
    Read.val_main_v43, Read.val_main_v44,
    Read.val_main_v45, Read.val_main_v46,
    Read.val_main_v47, Read.val_main_v48,
    Read.val_main_v49, Read.val_main_v50,
    Read.val_main_cst_1, Read.val_main_v51,
    Read.val_main_v52, Read.val_main_cst_2,
    Read.val_main_v53, Read.val_main_v54,
    Read.val_main_v55, Read.val_main_v56,
    Read.val_main_v57, Read.val_main_v58,
    Read.val_main_v59, Read.val_main_v60,
    Read.val_main_v61, Read.val_main_v62,
    Read.val_main_v63, Read.val_main_v64,
    Read.val_main_v65, Read.val_main_v66,
    Read.val_main_v67, Read.val_main_v68,
    Read.val_main_v69, Read.val_main_v70,
    Read.val_main_v71, Read.val_main_v72,
    Read.val_main_v73, Read.val_main_v74,
    Read.val_main_v75, Read.val_main_v76,
    Read.val_main_v77, Read.val_main_v78,
    Read.val_main_v79, Read.val_main_v80]

end Cert.Project
-- ==== Proof.Project.lean ====
/- The projection of the rows: the kernel and the reference leave the same four arrays. -/
module

public import proofs.«01_k».proof.Proof.ProjectTail
public import proofs.«01_k».proof.Proof.ProjectReference

@[expose] public section

set_option maxRecDepth 16384

noncomputable section

namespace Cert.Project

open Idealize.ShloMosaic Idealize.ShloMosaic.TcCoe Idealize.SL.Sem Cert.Kernel4Ideal Cert.Kernel4Ideal.Gen

/-- The queries of rows `x` under weight `w`, head by head, the last six heads turned. -/
def queries (x : S8x4096x1024.Idx → EReal) (w : S1024x3078.Idx → EReal) : S8x4096x16x64.Idx → EReal := fun i =>
  turned (fun f => projected x w (i 0) (i 1) ⟨f, by omega⟩) ((i 1 : Fin 4096) : ℕ) (i 2) (i 3)

/-- The keys, likewise. -/
def keys (x : S8x4096x1024.Idx → EReal) (w : S1024x3078.Idx → EReal) : S8x4096x16x64.Idx → EReal := fun i =>
  turned (fun f => projected x w (i 0) (i 1) ⟨1024 + f, by omega⟩) ((i 1 : Fin 4096) : ℕ) (i 2) (i 3)

/-- The values, head by head. -/
def values (x : S8x4096x1024.Idx → EReal) (w : S1024x3078.Idx → EReal) : S8x4096x16x64.Idx → EReal := fun i =>
  projected x w (i 0) (i 1) ⟨2048 + (((i 2 : Fin 16) : ℕ) * 64 + ((i 3 : Fin 64) : ℕ)), by
    have h2 : ((i 2 : Fin 16) : ℕ) < 16 := (i 2).isLt
    have h3 : ((i 3 : Fin 64) : ℕ) < 64 := (i 3).isLt
    omega⟩

/-- The logarithms of the forget gates. -/
def gates (x : S8x4096x1024.Idx → EReal) (w : S1024x3078.Idx → EReal) (bf : S6.Idx → EReal) : S8x4096x6.Idx → EReal := fun i =>
  logSigmoid (projected x w (i 0) (i 1) ⟨3072 + ((i 2 : Fin 6) : ℕ), by
    have h2 : ((i 2 : Fin 6) : ℕ) < 6 := (i 2).isLt
    omega⟩ + bf (ix1 (i 2)))

/-- Every index of four axes is made of its coordinates. -/
theorem eq_ix4 (i : S8x4096x16x64.Idx) : ∃ (b : Fin 8) (t : Fin 4096) (h : Fin 16) (d : Fin 64), i = ix4 b t h d :=
  ⟨i 0, i 1, i 2, i 3, funext fun a => match a with | ⟨0, _⟩ => rfl | ⟨1, _⟩ => rfl | ⟨2, _⟩ => rfl | ⟨3, _⟩ => rfl⟩

/-- Every index of three axes is made of its coordinates. -/
theorem eq_ix3 (i : S8x4096x6.Idx) : ∃ (b : Fin 8) (t : Fin 4096) (h : Fin 6), i = ix3 b t h :=
  ⟨i 0, i 1, i 2, funext fun a => match a with | ⟨0, _⟩ => rfl | ⟨1, _⟩ => rfl | ⟨2, _⟩ => rfl⟩

/-- The reference's first result is the queries. -/
theorem ref_queries (x : S8x4096x1024.Idx → EReal) (w : S1024x3078.Idx → EReal) :
    Reference4Ideal.Read.val_main_v46 (F := Ideal) x w = queries x w := by
  refine funext fun (i : S8x4096x16x64.Idx) => ?_
  obtain ⟨b, t, h, d, rfl⟩ := eq_ix4 i
  exact ref_q x w b t h d

/-- The reference's second result is the keys. -/
theorem ref_keys (x : S8x4096x1024.Idx → EReal) (w : S1024x3078.Idx → EReal) :
    Reference4Ideal.Read.val_main_v80 (F := Ideal) x w = keys x w := by
  refine funext fun (i : S8x4096x16x64.Idx) => ?_
  obtain ⟨b, t, h, d, rfl⟩ := eq_ix4 i
  exact ref_k x w b t h d

/-- The reference's third result is the values. -/
theorem ref_values (x : S8x4096x1024.Idx → EReal) (w : S1024x3078.Idx → EReal) :
    Reference4Ideal.Read.val_main_v6 (F := Ideal) x w = values x w := by
  refine funext fun (i : S8x4096x16x64.Idx) => ?_
  obtain ⟨b, t, h, d, rfl⟩ := eq_ix4 i
  exact ref_v x w b t h d

/-- The reference's fourth result is the gates. -/
theorem ref_gates (x : S8x4096x1024.Idx → EReal) (w : S1024x3078.Idx → EReal) (bf : S6.Idx → EReal) :
    Reference4Ideal.Read.val_main_v11 (F := Ideal) x w bf = gates x w bf := by
  refine funext fun (i : S8x4096x6.Idx) => ?_
  obtain ⟨b, t, h, rfl⟩ := eq_ix3 i
  exact ref_f x w bf b t h

section
variable (m : (ℓ : Loc nD τ sig) → Buf (Elt Ideal) ℓ) (c : Dev nD)

/-- What the device's buffers hold when the region has ended. -/
def ended : Valuation τ sig (Elt Ideal) :=
  Pipeline.withArrays (cfgs 0).spec c (V0 m c) fun w => (dats m 0 c).arrAt w (cfgs 0).N

/-- The region's result then holds the product. -/
theorem ended_product : ended m c (Proc.tc.devRef main_v3) = product m c :=
  (Pipeline.withArrays_arr _ winFacts0.arr_inj c (V0 m c) _ 2).trans (final_eq m c)

/-- The gates' bias is still the argument's. -/
theorem ended_bias : ended m c (Proc.tc.devRef main_arg2) = argB m c :=
  (Pipeline.withArrays_of_ne _ c (V0 m c) _ main_arg2 (by exact (by decide : ∀ w, Pipeline.arrRef spec0 w ≠ main_arg2))).trans (V_main_arg2 m c)

/-- A row of the product is the projected row of the arguments. -/
theorem ended_row (b : Fin 8) (t : Fin 4096) : productRow (ended m c) b t = projected (argX m c) (argW m c) b t := by
  refine funext fun f => ?_
  unfold productRow
  rw [ended_product]
  refine Finset.sum_congr rfl fun e _ => congrArg₂ (· * ·) ?_ (weight_apply m c e f)
  refine (rows_apply m c _ e).trans (congrArg (argX m c) ?_)
  have h0 : ((b : ℕ) * 4096 + t) / 4096 = b := by omega
  have h1 : ((b : ℕ) * 4096 + t) % 4096 = t := by omega
  exact congrArg₂ (fun (u : Fin 8) (v : Fin 4096) => ix3 u v e) (Fin.ext h0) (Fin.ext h1)

/-- The kernel's queries. -/
theorem ker_queries : StableHlo.after (List.flatten tail) (ended m c) (Proc.tc.devRef main_v79) = queries (argX m c) (argW m c) := by
  refine funext fun (i : S8x4096x16x64.Idx) => ?_
  obtain ⟨b, t, h, d, rfl⟩ := eq_ix4 i
  refine (tail_q (ended m c) b t h d).trans ?_
  rw [ended_row]
  rfl

/-- The kernel's keys. -/
theorem ker_keys : StableHlo.after (List.flatten tail) (ended m c) (Proc.tc.devRef main_v80) = keys (argX m c) (argW m c) := by
  refine funext fun (i : S8x4096x16x64.Idx) => ?_
  obtain ⟨b, t, h, d, rfl⟩ := eq_ix4 i
  refine (tail_k (ended m c) b t h d).trans ?_
  rw [ended_row]
  rfl

/-- The kernel's values. -/
theorem ker_values : StableHlo.after (List.flatten tail) (ended m c) (Proc.tc.devRef main_v81) = values (argX m c) (argW m c) := by
  refine funext fun (i : S8x4096x16x64.Idx) => ?_
  obtain ⟨b, t, h, d, rfl⟩ := eq_ix4 i
  refine (tail_v (ended m c) b t h d).trans ?_
  rw [ended_row]
  rfl

/-- The kernel's gates. -/
theorem ker_gates : StableHlo.after (List.flatten tail) (ended m c) (Proc.tc.devRef main_v82) = gates (argX m c) (argW m c) (argB m c) := by
  refine funext fun (i : S8x4096x6.Idx) => ?_
  obtain ⟨b, t, h, rfl⟩ := eq_ix3 i
  refine (tail_f (ended m c) b t h).trans ?_
  rw [ended_row, ended_bias]
  rfl

/-- The kernel runs to the projection of its arguments, which it leaves as they were. -/
theorem run (ρ : Dev nD → PrngReg) : θ_run defs (onTc (τ := τ) (main (F := Ideal))) ⟨m, fun _ => 0, ρ⟩ fun r => ∀ c : Dev nD,
      r.2.mem ((c : Thread nD τ).loc main_v79) = queries (argX m c) (argW m c)
      ∧ r.2.mem ((c : Thread nD τ).loc main_v80) = keys (argX m c) (argW m c)
      ∧ r.2.mem ((c : Thread nD τ).loc main_v81) = values (argX m c) (argW m c)
      ∧ r.2.mem ((c : Thread nD τ).loc main_v82) = gates (argX m c) (argW m c) (argB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h.1 c).2 main_v79 (by decide)).trans (ker_queries m c),
      ((h.1 c).2 main_v80 (by decide)).trans (ker_keys m c), ((h.1 c).2 main_v81 (by decide)).trans (ker_values m c),
      ((h.1 c).2 main_v82 (by decide)).trans (ker_gates m c), h.2 c⟩)
    (θ_run_and (run_main m ρ) (unchanged m ρ))

end

end Cert.Project

end
-- ==== Proof.FoxPrefix.lean ====
/- A running sum from the left along the middle axis of an array of three axes, as jnp's `cumsum` prints it: a window
   of the whole axis, padded before its start. -/
module

public import proofs.«01_k».proof.Proof.Suffix
public import proofs.«01_k».proof.Proof.Tile

@[expose] public section

noncomputable section

namespace Cert.Forgetting

open Idealize.ShloMosaic

/-- Where the column of an array holds the reals `f`, the running sum at `t` is their sum up to `t`. -/
theorem prefix_sum {A C N : ℕ} (pad : ℕ) (hpad : pad + 1 = N) (x : (⟨3, ![A, N, C]⟩ : Shape).Idx → EReal) (f : ℕ → ℝ) (a : Fin A) (c : Fin C)
    (hx : ∀ s : Fin N, x (ix3 a s c) = ((f s.val : ℝ) : EReal)) (init : (⟨0, ![]⟩ : Shape).Idx → EReal) (hinit : ∀ i, init i = 0)
    (h : (⟨3, ![A, N, C]⟩ : Shape).ReduceWindows (![1, N, 1] : Fin 3 → ℕ) ![1, 1, 1] ![0, pad, 0] ![0, 0, 0] ⟨3, ![A, N, C]⟩)
    (hu : 0 < (⟨0, ![]⟩ : Shape).numel) (t : Fin N) :
    Host.reduceWindow (fun u w : EReal => u + w) ![1, N, 1] ![1, 1, 1] ![0, pad, 0] ![0, 0, 0] x init h hu (ix3 a t c)
      = ((∑ j ∈ Finset.range (t.val + 1), f j : ℝ) : EReal) := by
  have ht := t.isLt
  have lanes : ∀ n : Fin (⟨3, ![1, N, 1]⟩ : Shape).numel, ((⟨3, ![1, N, 1]⟩ : Shape).rowMajor.symm n 0).val = 0
      ∧ ((⟨3, ![1, N, 1]⟩ : Shape).rowMajor.symm n 1).val = n.val ∧ ((⟨3, ![1, N, 1]⟩ : Shape).rowMajor.symm n 2).val = 0 := fun n => by
    generalize hj : (⟨3, ![1, N, 1]⟩ : Shape).rowMajor.symm n = j
    have e := Shape.rowMajor_val_three j
    rw [← hj, Equiv.apply_symm_apply, hj] at e
    have h0 : (j 0).val < 1 := (j 0).isLt
    have h2 : (j 2).val < 1 := (j 2).isLt
    have e' : n.val = ((j 0).val * N + (j 1).val) * 1 + (j 2).val := e
    rw [show (j 0).val = 0 by omega, show (j 2).val = 0 by omega] at e'
    simp only [Nat.zero_mul, Nat.zero_add, Nat.mul_one, Nat.add_zero] at e'
    exact ⟨by omega, e'.symm, by omega⟩
  have size : (⟨3, ![1, N, 1]⟩ : Shape).numel = N := by simp [Shape.numel, Fin.prod_univ_succ]
  unfold Host.reduceWindow
  dsimp only
  refine (Cert.StickBreaking.foldl_sum _ _).trans ?_
  rw [hinit, zero_add]
  refine (Finset.sum_congr rfl (g := fun n => (fun n : ℕ => if pad ≤ t.val + n ∧ n < N then ((f (t.val + n - pad) : ℝ) : EReal) else 0) n.val) fun n _ => ?_).trans ?_
  · obtain ⟨l0, l1, l2⟩ := lanes n
    have hn : n.val < N := lt_of_lt_of_eq n.isLt size
    dsimp only
    split
    · next hin =>
      have h1 : pad ≤ t.val * 1 + ((⟨3, ![1, N, 1]⟩ : Shape).rowMajor.symm n 1).val ∧ t.val * 1 + ((⟨3, ![1, N, 1]⟩ : Shape).rowMajor.symm n 1).val - pad < N := hin 1
      rw [l1] at h1
      rw [if_pos (by omega)]
      refine (congrArg x (funext fun k => Fin.ext ?_)).trans (hx ⟨t.val + n.val - pad, by omega⟩)
      match k with
      | ⟨0, _⟩ => show a.val * 1 + ((⟨3, ![1, N, 1]⟩ : Shape).rowMajor.symm n 0).val - 0 = a.val; omega
      | ⟨1, _⟩ => show t.val * 1 + ((⟨3, ![1, N, 1]⟩ : Shape).rowMajor.symm n 1).val - pad = t.val + n.val - pad; omega
      | ⟨2, _⟩ => show c.val * 1 + ((⟨3, ![1, N, 1]⟩ : Shape).rowMajor.symm n 2).val - 0 = c.val; omega
    · next hin =>
      rw [if_neg fun hlt => hin fun k => ?_]
      match k with
      | ⟨0, _⟩ => have := a.isLt; show 0 ≤ a.val * 1 + ((⟨3, ![1, N, 1]⟩ : Shape).rowMajor.symm n 0).val ∧ a.val * 1 + ((⟨3, ![1, N, 1]⟩ : Shape).rowMajor.symm n 0).val - 0 < A; omega
      | ⟨1, _⟩ => show pad ≤ t.val * 1 + ((⟨3, ![1, N, 1]⟩ : Shape).rowMajor.symm n 1).val ∧ t.val * 1 + ((⟨3, ![1, N, 1]⟩ : Shape).rowMajor.symm n 1).val - pad < N; omega
      | ⟨2, _⟩ => have := c.isLt; show 0 ≤ c.val * 1 + ((⟨3, ![1, N, 1]⟩ : Shape).rowMajor.symm n 2).val ∧ c.val * 1 + ((⟨3, ![1, N, 1]⟩ : Shape).rowMajor.symm n 2).val - 0 < C; omega
  rw [Fin.sum_univ_eq_sum_range (fun n : ℕ => if pad ≤ t.val + n ∧ n < N then ((f (t.val + n - pad) : ℝ) : EReal) else 0), size,
    ← Finset.sum_filter]
  have inside : (Finset.range N).filter (fun n => pad ≤ t.val + n ∧ n < N) = Finset.Ico (pad - t.val) N := by
    ext n
    rw [Finset.mem_filter, Finset.mem_range, Finset.mem_Ico]
    omega
  rw [inside, Finset.sum_Ico_eq_sum_range, show N - (pad - t.val) = t.val + 1 by omega,
    Finset.sum_congr rfl fun j _ => by rw [show t.val + (pad - t.val + j) - pad = j by omega]]
  exact Cert.StickBreaking.sum_real _ _

end Cert.Forgetting
-- ==== Proof.FoxHost.lean ====
/- The arrays the host prepares for the forgetting attention: the queries scaled and followed by three ones, the keys
   followed by the three parts of their negated decay, the values as they are. -/
module

public import proofs.«01_k».proof.Proof.FoxPrefix
public import proofs.«01_k».proof.Proof.Array
public import proofs.«01_k».proof.Proof.Gen.Kernel6Ideal.Frame
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

namespace Cert.Forgetting

open Idealize.ShloMosaic Idealize.ShloMosaic.TcCoe Idealize.SL.Sem Cert.Kernel6Ideal Cert.Kernel6Ideal.Gen

/-- Position `s` of an argument's head, as a function of every natural number (zero past the end). -/
def headRow (x : S8x4096x6x64.Idx → ℝ) (b : Fin 8) (h : Fin 6) (s : ℕ) (d : Fin 64) : ℝ :=
  if hs : s < 4096 then x (ix4 b ⟨s, hs⟩ h d) else 0

/-- The log gate of a position (zero past the end). -/
def gateAt (f : S8x4096x6.Idx → ℝ) (b : Fin 8) (h : Fin 6) (s : ℕ) : ℝ := if hs : s < 4096 then f (ix3 b ⟨s, hs⟩ h) else 0

/-- The log decay up to a position: the sum of the log gates. -/
def decay (f : S8x4096x6.Idx → ℝ) (b : Fin 8) (h : Fin 6) (s : ℕ) : ℝ := ∑ j ∈ Finset.range (s + 1), gateAt f b h j

/-- A query's row of 128 channels. -/
def queryRow (q : S8x4096x6x64.Idx → ℝ) (b : Fin 8) (h : Fin 6) (t : Fin 4096) (d : Fin 128) : ℝ :=
  if hd : d.val < 64 then q (ix4 b t h ⟨d.val, hd⟩) * (1 / 8) else if d.val - 64 < 3 then 1 else 0

/-- A key's row of 128 channels. -/
def keyRow (k : S8x4096x6x64.Idx → ℝ) (f : S8x4096x6.Idx → ℝ) (b : Fin 8) (h : Fin 6) (s : ℕ) (d : Fin 128) : ℝ :=
  if hd : d.val < 64 then headRow k b h s ⟨d.val, hd⟩ else if d.val - 64 < 1 then -decay f b h s else 0

/-- The running sum of the log gates, as it prints, is the log decay. -/
theorem decay_apply (x : S8x4096x6.Idx → EReal) (f : S8x4096x6.Idx → ℝ) (hx : ∀ i, x i = ((f i : ℝ) : EReal)) (init : S_.Idx → EReal)
    (hinit : ∀ i, init i = 0) (hw : S8x4096x6.ReduceWindows (![1, 4096, 1] : Fin 3 → ℕ) ![1, 1, 1] ![0, 4095, 0] ![0, 0, 0] S8x4096x6) (hu : 0 < S_.numel)
    (b : Fin 8) (t : Fin 4096) (h : Fin 6) :
    (Host.reduceWindowAdd (F := Ideal) (φ := .f32) ![1, 4096, 1] ![1, 1, 1] ![0, 4095, 0] ![0, 0, 0] x init hw hu : S8x4096x6.Idx → EReal) (ix3 b t h)
      = ((decay f b h t.val : ℝ) : EReal) := by
  unfold Host.reduceWindowAdd
  rw [Ideal.hostReduceWindowAdd_def]
  refine prefix_sum 4095 rfl x (gateAt f b h) b h (fun s => ?_) init hinit hw hu t
  rw [hx, gateAt, dif_pos s.isLt]

/-- The word of zero. -/
theorem zero_word32 : (Ideal.ofBits .f32 0x00000000#32 : EReal) = 0 := by
  simp [Ideal.ofBits, Ideal.ieee, -EReal.coe_mul]

/-- A logit of the extended rows: the scaled product of the heads less the log decay at the key. -/
theorem rows_logit (q k : S8x4096x6x64.Idx → ℝ) (f : S8x4096x6.Idx → ℝ) (b : Fin 8) (h : Fin 6) (t : Fin 4096) (s : ℕ) :
    ∑ d, queryRow q b h t d * keyRow k f b h s d = (∑ e : Fin 64, q (ix4 b t h e) * (1 / 8) * headRow k b h s e) - decay f b h s := by
  rw [Fin.sum_univ_add (M := ℝ) (a := 64) (b := 64) fun d : Fin (64 + 64) => queryRow q b h t d * keyRow k f b h s d, sub_eq_add_neg]
  refine congrArg₂ (· + ·) ?_ ?_
  · refine Finset.sum_congr rfl fun e _ => ?_
    have he := e.isLt
    rw [queryRow, keyRow, dif_pos (show (Fin.castAdd 64 e).val < 64 from he), dif_pos (show (Fin.castAdd 64 e).val < 64 from he)]
    rfl
  · rw [Finset.sum_eq_single (0 : Fin 64)]
    · rw [queryRow, keyRow, dif_neg (by simp), dif_neg (by simp), if_pos (by simp), if_pos (by simp), one_mul]
    · intro e _ he
      have : e.val ≠ 0 := fun h0 => he (Fin.ext h0)
      rw [keyRow, dif_neg (by simp), if_neg (by simp; omega), mul_zero]
    · intro h0
      exact absurd (Finset.mem_univ _) h0

/-- The host operations before the call. -/
abbrev host : List (List (HloOp τ sig (Elt Ideal))) := [hostOps0, hostOps0_1, hostOps0_2]

section
variable (U : Valuation τ sig (Elt Ideal)) (q k v : S8x4096x6x64.Idx → ℝ) (f : S8x4096x6.Idx → ℝ)
  (hq : ∀ i, (U (Proc.tc.devRef main_arg0) : S8x4096x6x64.Idx → EReal) i = ((q i : ℝ) : EReal))
  (hk : ∀ i, (U (Proc.tc.devRef main_arg1) : S8x4096x6x64.Idx → EReal) i = ((k i : ℝ) : EReal))
  (hv : ∀ i, (U (Proc.tc.devRef main_arg2) : S8x4096x6x64.Idx → EReal) i = ((v i : ℝ) : EReal))
  (hf : ∀ i, (U (Proc.tc.devRef main_arg3) : S8x4096x6.Idx → EReal) i = ((f i : ℝ) : EReal))

include hv in
/-- The values the call reads. -/
theorem host_v (b : Fin 8) (h : Fin 6) (s : Fin 4096) (d : Fin 64) :
    (StableHlo.after (List.flatten host) U (Proc.tc.devRef main_v7) : S8x6x4096x64.Idx → EReal) (ix4 b h s d) = ((headRow v b h s.val d : ℝ) : EReal) := by
  after_reads_simp
  pointwise
  rw [headRow, dif_pos s.isLt]
  exact hv _

include hq in
/-- The queries the call reads. -/
theorem host_q (b : Fin 8) (h : Fin 6) (t : Fin 4096) (d : Fin 128) :
    (StableHlo.after (List.flatten host) U (Proc.tc.devRef main_v24) : S8x6x4096x128.Idx → EReal) (ix4 b h t d) = ((queryRow q b h t d : ℝ) : EReal) := by
  after_reads_simp
  by_cases h1 : d.val < 64
  · rw [queryRow, dif_pos h1]
    pointwise [dif_pos h1]
    after_reads_simp
    pointwise
    exact (congrArg₂ _ (hq _) Cert.StickBreaking.eighth_word).trans (EReal.coe_mul _ _).symm
  · by_cases h2 : d.val - 64 < 3
    · rw [queryRow, dif_neg h1, if_pos h2]
      pointwise [dif_neg h1, dif_pos h2]
      after_reads_simp
      pointwise
      exact EReal.coe_one.symm
    · rw [queryRow, dif_neg h1, if_neg h2]
      pointwise [dif_neg h1, dif_neg h2]
      after_reads_simp
      pointwise
      exact EReal.coe_zero.symm

include hf in
/-- The negated decay as the call's first extra channel reads it. -/
theorem negated (b : Fin 8) (h : Fin 6) (s : Fin 4096) (hw hu) :
    -(Host.reduceWindowAdd (F := Ideal) (φ := .f32) ![1, 4096, 1] ![1, 1, 1] ![0, 4095, 0] ![0, 0, 0] (U (Proc.tc.devRef main_arg3))
        (broadcastInDim S_ ![] bcast_S_S_ (constant (F := Ideal) S_ .f32 0x00000000#32)) hw hu : S8x4096x6.Idx → EReal) (ix3 b s h)
      = ((-decay f b h s.val : ℝ) : EReal) := by
  rw [decay_apply _ f hf (broadcastInDim S_ ![] bcast_S_S_ (constant (F := Ideal) S_ .f32 0x00000000#32)) (fun _ => zero_word32) hw hu b s h, EReal.coe_neg]

set_option maxHeartbeats 2000000 in
include hk hf in
/-- The keys the call reads: the second and third parts of the decay are nothing over the reals. -/
theorem host_k (b : Fin 8) (h : Fin 6) (s : Fin 4096) (d : Fin 128) :
    (StableHlo.after (List.flatten host) U (Proc.tc.devRef main_v22) : S8x6x4096x128.Idx → EReal) (ix4 b h s d) = ((keyRow k f b h s.val d : ℝ) : EReal) := by
  after_reads_simp
  have self : ∀ x : ℝ, (x : EReal) - (x : EReal) = ((0 : ℝ) : EReal) := fun x => by rw [← EReal.coe_sub, sub_self]
  by_cases h1 : d.val < 64
  · rw [keyRow, dif_pos h1, headRow, dif_pos s.isLt]
    pointwise [dif_pos h1]
    after_reads_simp
    pointwise
    exact hk _
  · by_cases h2 : d.val - 64 < 1
    · rw [keyRow, dif_neg h1, if_pos h2]
      pointwise [dif_neg h1, dif_pos h2]
      after_reads_simp
      simp -implicitDefEqProofs only [StableHlo.TRef.toBuf, StableHlo.TRef.ofBuf, cast_cast, cast_eq]
      pointwise
      exact negated U f hf b h s _ _
    · rw [keyRow, dif_neg h1, if_neg h2]
      by_cases h3 : d.val - 64 - 1 < 1
      · pointwise [dif_neg h1, dif_neg h2, dif_pos h3]
        after_reads_simp
        simp -implicitDefEqProofs only [StableHlo.TRef.toBuf, StableHlo.TRef.ofBuf, cast_cast, cast_eq]
        pointwise
        rw [negated U f hf b h s, self]
      · by_cases h4 : d.val - 64 - 1 - 1 < 1
        · pointwise [dif_neg h1, dif_neg h2, dif_neg h3, dif_pos h4]
          after_reads_simp
          simp -implicitDefEqProofs only [StableHlo.TRef.toBuf, StableHlo.TRef.ofBuf, cast_cast, cast_eq]
          pointwise
          rw [negated U f hf b h s, self, self]
        · pointwise [dif_neg h1, dif_neg h2, dif_neg h3, dif_neg h4]
          after_reads_simp
          pointwise
          exact EReal.coe_zero.symm

end

end Cert.Forgetting
-- ==== Proof.FoxTile.lean ====
/- One tile of the forgetting attention, as the kernel computes it on vectors: the logits of a block of queries
   against 512 keys, the greatest logit so far, the weights relative to it, their sum and the accumulated product. -/
module

public import proofs.«01_k».proof.Proof.Tile
public import proofs.«01_k».proof.Proof.Gen.Kernel6Ideal.Skeleton
public import Idealize.ShloMosaic.Lib.Pointwise

@[expose] public section

set_option maxRecDepth 16384

noncomputable section

namespace Cert.Forgetting

open Idealize.ShloMosaic Cert.Kernel6Ideal Cert.Kernel6Ideal.Gen

variable {F : FTy → Type} [FloatOps F] [Named F]

/-- The logits of the queries against one tile of keys. -/
def logits (q : FVec F S1024x128 .bf16) (k : Vec F S1x1x512x128 .bf16) : FVec F S1024x512 .f32 :=
  matmul dot_S1024x128_S512x128_S1024x512_1_1_0_0_n_n none q (shapeCast S512x128 k shapeCasts_S1x1x512x128_S512x128)
    (constant S1024x512 .f32 0x00000000#32)

/-- The mask of the tile `o` columns into the block of rows: the column does not lie after the row. -/
def upTo (o : BitVec 32) : IVec S1024x512 1 :=
  cmpi .sle (broadcastTo S1024x512 (addi (broadcast S1x512 o) (iota .tc S1x512 32 [1] iota_S1x512_d1_w32)) broadcasts_S1x512_S1024x512)
    (broadcastTo S1024x512 (iota .tc S1024x1 32 [0] iota_S1024x1_d0_w32) broadcasts_S1024x1_S1024x512)

/-- The logits under a mask: minus infinity outside it. -/
def masked (m : IVec S1024x512 1) (s : FVec F S1024x512 .f32) : FVec F S1024x512 .f32 :=
  select m s (broadcast S1024x512 (Named.named κ "mask" 0xF149F2CA#32))

/-- What a step carries: the accumulated rows, the greatest logits and the sums of the weights. -/
abbrev Carry (F : FTy → Type) : Type := FVec F S1024x64 .f32 × FVec F S1024x1 .f32 × FVec F S1024x1 .f32

/-- The greatest logits after a tile. -/
def greatest (s : FVec F S1024x512 .f32) (m : FVec F S1024x1 .f32) : FVec F S1024x1 .f32 :=
  maximumf m (shapeCast S1024x1 (multiReduction .maximumf [1] S1024 s 0xFF800000#32 reduces_S1024x512_S1024 (.inl rfl) rfl) shapeCasts_S1024_S1024x1)

/-- The factor that brings the earlier sums to the new greatest logits. -/
def rescale (s : FVec F S1024x512 .f32) (m : FVec F S1024x1 .f32) : FVec F S1024x1 .f32 := exp (subf m (greatest s m))

/-- The weights of a tile relative to the greatest logits. -/
def weights (s : FVec F S1024x512 .f32) (m : FVec F S1024x1 .f32) : FVec F S1024x512 .f32 :=
  exp (subf s (broadcastTo S1024x512 (greatest s m) broadcasts_S1024x1_S1024x512))

/-- One step on a tile with logits `s` and values `v`. -/
def step (s : FVec F S1024x512 .f32) (v : Vec F S1x1x512x64 .bf16) (c : Carry F) : Carry F :=
  (addf (mulf (broadcastTo S1024x64 (rescale s c.2.1) broadcasts_S1024x1_S1024x64) c.1)
      (matmul dot_S1024x512_S512x64_S1024x64_1_0_0_1_n_n none (truncf .bf16 (weights s c.2.1) bitsLt_bf16_f32)
        (shapeCast S512x64 v shapeCasts_S1x1x512x64_S512x64) (constant S1024x64 .f32 0x00000000#32)),
    greatest s c.2.1,
    addf (mulf (rescale s c.2.1) c.2.2)
      (shapeCast S1024x1 (multiReduction .add [1] S1024 (weights s c.2.1) 0x00000000#32 reduces_S1024x512_S1024 (.inl rfl) rfl) shapeCasts_S1024_S1024x1))

/-- The carry before the first tile. -/
def start : Carry F :=
  (broadcast S1024x64 (Scalar.ofBits .f32 0x00000000#32), broadcast S1024x1 (Named.named κ "mask" 0xF149F2CA#32),
    broadcast S1024x1 (Scalar.ofBits .f32 0x00000000#32))

/-! ## A step on real numbers -/

/-- A sum of reals under one factor. -/
theorem coe_sum_mul {ι : Type} (s : Finset ι) (f : ι → ℝ) : ∑ i ∈ s, ((f i : ℝ) : EReal) = ((∑ i ∈ s, f i : ℝ) : EReal) :=
  Cert.StickBreaking.sum_real s f

/-- The word the row maxima start from is minus infinity. -/
theorem lowest_word : (Ideal.ofBits .f32 0xFF800000#32 : EReal) = ⊥ := by
  simp [Ideal.ofBits, Ideal.ieee]

/-- The value that stands for the mask is minus infinity. -/
theorem mask_value : (Named.named κ "mask" 0xF149F2CA#32 : Ideal .f32) = (⊥ : EReal) := rfl

/-- Row `r` of a carry holds sums `L` of weights and `A` of weighted values, both relative to a real greatest logit. -/
def Live (c : Carry Ideal) (r : Fin 1024) (L : ℝ) (A : Fin 64 → ℝ) : Prop :=
  ∃ M : ℝ, c.2.1 (ix2 r 0) = (M : EReal) ∧ c.2.2 (ix2 r 0) = ((Real.exp (-M) * L : ℝ) : EReal)
    ∧ ∀ d, c.1 (ix2 r d) = ((Real.exp (-M) * A d : ℝ) : EReal)

/-- Row `r` of a carry is as before the first tile. -/
def Fresh (c : Carry Ideal) (r : Fin 1024) : Prop :=
  c.2.1 (ix2 r 0) = (⊥ : EReal) ∧ c.2.2 (ix2 r 0) = ((0 : ℝ) : EReal) ∧ ∀ d, c.1 (ix2 r d) = ((0 : ℝ) : EReal)

theorem start_fresh (r : Fin 1024) : Fresh start r := by
  refine ⟨?_, ?_, fun d => ?_⟩
  · pointwise [start]
    exact mask_value
  · pointwise [start]
    rfl
  · pointwise [start]
    rfl

/-- The weight a key brings: the exponential of its logit where the mask lets it through. -/
def weightOf (p : Prop) [Decidable p] (z : ℝ) : ℝ := if p then Real.exp z else 0

theorem greatest_apply (s : FVec Ideal S1024x512 .f32) (m : FVec Ideal S1024x1 .f32) (r : Fin 1024) :
    greatest s m (ix2 r 0) = max (m (ix2 r 0)) (Finset.univ.sup fun x : Fin 512 => (s (ix2 r x) : EReal)) := by
  pointwise [greatest]
  rw [lowest_word]
  rfl

/-- The greatest logit is real as soon as one logit is, or the one before was. -/
theorem greatest_real (s : FVec Ideal S1024x512 .f32) (m : FVec Ideal S1024x1 .f32) (r : Fin 1024) (p : Fin 512 → Prop) [DecidablePred p]
    (Z : Fin 512 → ℝ) (hs : ∀ e, s (ix2 r e) = if p e then ((Z e : ℝ) : EReal) else ⊥)
    (hm : (∃ M : ℝ, m (ix2 r 0) = (M : EReal)) ∨ (m (ix2 r 0) = (⊥ : EReal) ∧ ∃ e, p e)) :
    ∃ N : ℝ, greatest s m (ix2 r 0) = (N : EReal) := by
  rw [greatest_apply]
  have top : Finset.univ.sup (fun x : Fin 512 => (s (ix2 r x) : EReal)) < ⊤ := by
    rw [Finset.sup_lt_iff (by exact bot_lt_top)]
    intro e _
    rw [hs e]
    split
    · exact EReal.coe_lt_top _
    · exact bot_lt_top
  have hi : max (m (ix2 r 0)) (Finset.univ.sup fun x : Fin 512 => (s (ix2 r x) : EReal)) ≠ ⊤ := by
    refine ne_of_lt (max_lt ?_ top)
    rcases hm with ⟨M, hM⟩ | ⟨hM, _⟩ <;> rw [hM]
    · exact EReal.coe_lt_top _
    · exact bot_lt_top
  have lo : max (m (ix2 r 0)) (Finset.univ.sup fun x : Fin 512 => (s (ix2 r x) : EReal)) ≠ ⊥ := by
    rcases hm with ⟨M, hM⟩ | ⟨hM, e, he⟩
    · refine ne_of_gt (lt_of_lt_of_le (EReal.bot_lt_coe M) ?_)
      rw [hM]
      exact le_max_left _ _
    · refine ne_of_gt (lt_of_lt_of_le (EReal.bot_lt_coe (Z e)) (le_trans ?_ (le_max_right _ _)))
      have := hs e
      rw [if_pos he] at this
      rw [← this]
      exact Finset.le_sup (f := fun x : Fin 512 => (s (ix2 r x) : EReal)) (Finset.mem_univ e)
  exact ⟨_, (EReal.coe_toReal hi lo).symm⟩

/-- A weight relative to the greatest logit. -/
theorem weight_rel (x : EReal) (p : Prop) [Decidable p] (z N : ℝ) (hx : x = if p then ((z : ℝ) : EReal) else ⊥) :
    Ideal.exp (x - (N : EReal)) = ((Real.exp (-N) * weightOf p z : ℝ) : EReal) := by
  rw [hx]
  unfold weightOf
  split
  · rw [← EReal.coe_sub, Ideal.exp_coe, ← Real.exp_add]
    congr 2
    ring
  · rw [EReal.bot_sub, Ideal.exp_bot, mul_zero]
    rfl

/-- A step adds the tile's weights and weighted values to a row. -/
theorem step_live (s : FVec Ideal S1024x512 .f32) (v : Vec Ideal S1x1x512x64 .bf16) (c : Carry Ideal) (r : Fin 1024)
    (p : Fin 512 → Prop) [DecidablePred p] (Z : Fin 512 → ℝ) (V : Fin 512 → Fin 64 → ℝ) (L : ℝ) (A : Fin 64 → ℝ)
    (hs : ∀ e, s (ix2 r e) = if p e then ((Z e : ℝ) : EReal) else ⊥) (hv : ∀ e d, v (ix4 0 0 e d) = ((V e d : ℝ) : EReal))
    (hc : Live c r L A ∨ (Fresh c r ∧ (∃ e, p e) ∧ L = 0 ∧ A = fun _ => 0)) :
    Live (step s v c) r (L + ∑ e, weightOf (p e) (Z e)) (fun d => A d + ∑ e, weightOf (p e) (Z e) * V e d) := by
  obtain ⟨N, hN⟩ := greatest_real s c.2.1 r p Z hs (by
    rcases hc with ⟨M, hM, _⟩ | ⟨⟨hM, _⟩, he, _⟩
    · exact .inl ⟨M, hM⟩
    · exact .inr ⟨hM, he⟩)
  obtain ⟨a, ha, hl, hA⟩ : ∃ a : ℝ, Ideal.exp ((c.2.1 (ix2 r 0) : EReal) - (N : EReal)) = (a : EReal)
      ∧ (a : EReal) * c.2.2 (ix2 r 0) = ((Real.exp (-N) * L : ℝ) : EReal)
      ∧ ∀ d, (a : EReal) * c.1 (ix2 r d) = ((Real.exp (-N) * A d : ℝ) : EReal) := by
    rcases hc with ⟨M, hM, hl, hA⟩ | ⟨⟨hM, hl, hA⟩, _, rfl, rfl⟩
    · have e : ∀ x : ℝ, Real.exp (M - N) * (Real.exp (-M) * x) = Real.exp (-N) * x := fun x => by
        rw [← mul_assoc, ← Real.exp_add]
        congr 2
        ring
      refine ⟨Real.exp (M - N), ?_, ?_, fun d => ?_⟩
      · rw [hM, ← EReal.coe_sub, Ideal.exp_coe]
      · rw [hl, ← EReal.coe_mul, e]
      · rw [hA, ← EReal.coe_mul, e]
    · refine ⟨0, ?_, ?_, fun d => ?_⟩
      · rw [hM, EReal.bot_sub, Ideal.exp_bot]
        rfl
      · rw [hl, ← EReal.coe_mul, mul_zero, mul_zero]
      · rw [hA, ← EReal.coe_mul, mul_zero, mul_zero]
  refine ⟨N, hN, ?_, fun d => ?_⟩
  · pointwise [step, rescale, weights]
    rw [hN, ha, hl, Finset.sum_congr rfl fun e _ => weight_rel _ (p e) (Z e) N (hs e), coe_sum_mul, ← EReal.coe_add]
    congr 1
    rw [mul_add, Finset.mul_sum]
  · pointwise [step, rescale, weights]
    have t : ∀ e, Ideal.exp ((s (ix2 r e) : EReal) - (N : EReal)) * (v (ix4 0 0 e d) : EReal)
        = ((Real.exp (-N) * (weightOf (p e) (Z e) * V e d) : ℝ) : EReal) := fun e => by
      rw [weight_rel _ (p e) (Z e) N (hs e), hv, ← EReal.coe_mul, mul_assoc]
    rw [hN, ha, hA, Finset.sum_congr rfl fun e _ => t e, coe_sum_mul, ← EReal.coe_add]
    congr 1
    rw [mul_add, Finset.mul_sum]

/-- The logits of row `r`, in real numbers. -/
theorem logits_apply (q : FVec Ideal S1024x128 .bf16) (k : Vec Ideal S1x1x512x128 .bf16) (r : Fin 1024) (Q : Fin 128 → ℝ) (K : Fin 512 → Fin 128 → ℝ)
    (hq : ∀ d, q (ix2 r d) = ((Q d : ℝ) : EReal)) (hk : ∀ e d, k (ix4 0 0 e d) = ((K e d : ℝ) : EReal)) (e : Fin 512) :
    logits q k (ix2 r e) = ((∑ d, Q d * K e d : ℝ) : EReal) := by
  pointwise [logits]
  rw [← coe_sum_mul]
  refine Finset.sum_congr rfl fun d _ => ?_
  rw [hq, hk, EReal.coe_mul]

/-- Masked logits: minus infinity outside the mask. -/
theorem masked_apply (m : IVec S1024x512 1) (s : FVec Ideal S1024x512 .f32) (r : Fin 1024) (e : Fin 512) (p : Prop) [Decidable p] (z : ℝ)
    (hm : m (ix2 r e) = BitVec.ofBool (decide p)) (hs : s (ix2 r e) = ((z : ℝ) : EReal)) :
    masked m s (ix2 r e) = if p then ((z : ℝ) : EReal) else ⊥ := by
  pointwise [masked]
  rw [hm, mask_value, hs]
  by_cases h : p
  · rw [if_pos h, decide_eq_true h]
    rfl
  · rw [if_neg h, decide_eq_false h]
    rfl

/-- The mask at a column: not after the row. -/
theorem upTo_apply (o : ℕ) (ho : o < 1024) (r : Fin 1024) (e : Fin 512) :
    upTo (BitVec.ofNat 32 o) (ix2 r e) = BitVec.ofBool (decide (o + e.val ≤ r.val)) := by
  pointwise [upTo]
  have hr := r.isLt
  have he := e.isLt
  show BitVec.ofBool (BitVec.sle (BitVec.ofNat 32 o + BitVec.ofNat 32 e.val) (BitVec.ofNat 32 r.val)) = _
  congr 1
  rw [BitVec.sle_eq_decide, ← BitVec.ofNat_add, Cert.StickBreaking.toInt_small _ (by omega), Cert.StickBreaking.toInt_small _ (by omega)]
  exact decide_eq_decide.2 (by omega)

end Cert.Forgetting
-- ==== Proof.FoxBlock.lean ====
/- What one grid point of the forgetting attention writes: the steps over its tiles, first the two that meet the
   diagonal and then those before it from the left, on the point's blocks of queries, keys and values. -/
module

public import proofs.«01_k».proof.Proof.FoxTile
public import proofs.«01_k».proof.Proof.Gen.Kernel6Ideal.Value
public import Idealize.ShloMosaic.Lib.Pipeline.ValueKit

@[expose] public section

set_option maxRecDepth 16384

noncomputable section

namespace Cert.Forgetting

open Idealize.ShloMosaic Idealize.ShloMosaic.TcCoe Idealize.ShloMosaic.Tactic Cert.Kernel6Ideal Cert.Kernel6Ideal.Gen
open Idealize.ShloMosaic.Pipeline (Dat Cfg Window cellOf)

variable {F : FTy → Type} [FloatOps F] [Named F]

/-- The 512 keys of a block that start where `off` says. -/
def keysAt (x : Vec F S1x1x4096x128 .bf16) (off : Fin 4 → ℕ) (h : ∀ a, off a + S1x1x512x128.size a ≤ S1x1x4096x128.size a) :
    Vec F S1x1x512x128 .bf16 :=
  View.ld x (Rect.unit (s := S1x1x4096x128) off S1x1x512x128.size h)

/-- The 512 values of a block that start where `off` says. -/
def valuesAt (x : Vec F S1x1x4096x64 .bf16) (off : Fin 4 → ℕ) (h : ∀ a, off a + S1x1x512x64.size a ≤ S1x1x4096x64.size a) :
    Vec F S1x1x512x64 .bf16 :=
  View.ld x (Rect.unit (s := S1x1x4096x64) off S1x1x512x64.size h)

/-- The queries of the point as a matrix. -/
def queries (x : Vec F S1x1x1024x128 .bf16) : FVec F S1024x128 .bf16 := shapeCast S1024x128 x shapeCasts_S1x1x1024x128_S1024x128

/-- The tile `d` tiles into the point's own rows, under the diagonal mask. -/
def diagStep (i : grid0.Coords) (x0 : Vec F S1x1x1024x128 .bf16) (x1 : Vec F S1x1x4096x128 .bf16) (x2 : Vec F S1x1x4096x64 .bf16)
    (d : Fin 2) (o : BitVec 32) (c : Carry F) : Carry F :=
  step (masked (upTo o) (logits (queries x0) (keysAt x1 (k0_off1 i (BitVec.ofNat 32 d.val)) (k0_off1_inb i d))))
    (valuesAt x2 (k0_off2 i (BitVec.ofNat 32 d.val)) (k0_off2_inb i d)) c

/-- The carry after the two tiles that meet the diagonal. -/
def afterDiag (i : grid0.Coords) (x0 : Vec F S1x1x1024x128 .bf16) (x1 : Vec F S1x1x4096x128 .bf16) (x2 : Vec F S1x1x4096x64 .bf16) : Carry F :=
  diagStep i x0 x1 x2 1 512#32 (diagStep i x0 x1 x2 0 0#32 start)

/-- The tile of trip `n` of the loop, and the last carry past it. -/
def loopStep (i : grid0.Coords) (x0 : Vec F S1x1x1024x128 .bf16) (x1 : Vec F S1x1x4096x128 .bf16) (x2 : Vec F S1x1x4096x64 .bf16)
    (n : ℕ) (c : Carry F) : Carry F :=
  if h : n < (k0_t1_loop i).trips then
    step (logits (queries x0) (keysAt x1 (k0_off3 i ⟨n, h⟩) (k0_off3_inb i ⟨n, h⟩))) (valuesAt x2 (k0_off4 i ⟨n, h⟩) (k0_off4_inb i ⟨n, h⟩)) c
  else c

/-- The carry before trip `n` of the loop. -/
def afterLoop (i : grid0.Coords) (x0 : Vec F S1x1x1024x128 .bf16) (x1 : Vec F S1x1x4096x128 .bf16) (x2 : Vec F S1x1x4096x64 .bf16) :
    ℕ → Carry F
  | 0 => afterDiag i x0 x1 x2
  | n + 1 => loopStep i x0 x1 x2 n (afterLoop i x0 x1 x2 n)

/-- What a carry amounts to: the accumulated rows over the sums of the weights. -/
def quotient (c : Carry F) : FVec F S1024x64 .f32 :=
  divf c.1 (broadcastTo S1024x64 c.2.2 broadcasts_S1024x1_S1024x64)

/-- One trip of the generated run is one step. -/
theorem trip_eq (𝒱 : Variants) (c : Dev nD) (bd : Option 𝒱.V) (i : grid0.Coords) (arg3 : Memref sig .tc .vmem S1x1x1024x128 .bf16) (harg3 : arg3.IsWhole) (arg4 : Memref sig .tc .vmem S1x1x4096x128 .bf16) (harg4 : arg4.IsWhole) (arg5 : Memref sig .tc .vmem S1x1x4096x64 .bf16) (harg5 : arg5.IsWhole) (arg6 : Memref sig .tc .vmem S1x1x1024x64 .f32) (harg6 : arg6.IsWhole)
    (x0 : Vec F S1x1x1024x128 .bf16) (x1 : Vec F S1x1x4096x128 .bf16) (x2 : Vec F S1x1x4096x64 .bf16) (k : Fin (k0_t1_loop i).trips) (acc : Carry F) :
    tripR_k0_t1 (F := F) 𝒱 c bd i arg3 harg3 arg4 harg4 arg5 harg5 arg6 harg6 (queries x0) (harg4.unread x1) (harg5.unread x2) k acc
      = step (logits (queries x0) (keysAt x1 (k0_off3 i k) (k0_off3_inb i k))) (valuesAt x2 (k0_off4 i k) (k0_off4_inb i k)) acc := by
  unfold tripR_k0_t1 trip_k0_t1
  dsimp only
  sl_unfold_words
  simp only [View.readAt_eq_ld, Memref.IsWhole.read_unread]
  rfl

/-- The loop's carries of the generated run are the steps'. -/
theorem loop_eq (𝒱 : Variants) (c : Dev nD) (bd : Option 𝒱.V) (i : grid0.Coords) (arg3 : Memref sig .tc .vmem S1x1x1024x128 .bf16) (harg3 : arg3.IsWhole) (arg4 : Memref sig .tc .vmem S1x1x4096x128 .bf16) (harg4 : arg4.IsWhole) (arg5 : Memref sig .tc .vmem S1x1x4096x64 .bf16) (harg5 : arg5.IsWhole) (arg6 : Memref sig .tc .vmem S1x1x1024x64 .f32) (harg6 : arg6.IsWhole)
    (x0 : Vec F S1x1x1024x128 .bf16) (x1 : Vec F S1x1x4096x128 .bf16) (x2 : Vec F S1x1x4096x64 .bf16) (n : ℕ) (hn : n ≤ (k0_t1_loop i).trips) :
    st_k0_t1 (F := F) 𝒱 c bd i arg3 harg3 arg4 harg4 arg5 harg5 arg6 harg6 (queries x0) (harg4.unread x1) (harg5.unread x2)
      (afterDiag i x0 x1 x2) n = afterLoop i x0 x1 x2 n := by
  induction n with
  | zero => rfl
  | succ n ih =>
    have h : n < (k0_t1_loop i).trips := hn
    rw [st_k0_t1_succ (F := F) 𝒱 c bd i arg3 harg3 arg4 harg4 arg5 harg5 arg6 harg6 (queries x0) (harg4.unread x1) (harg5.unread x2)
      (afterDiag i x0 x1 x2) ⟨n, h⟩, trip_eq, ih (Nat.le_of_lt h), afterLoop, loopStep, dif_pos h]

/-- The second loop, which the printed program keeps for a remainder, has no trips. -/
theorem no_rest (i : grid0.Coords) : (k0_t2_loop i).trips = 0 := Nat.le_zero.1 (k0_t2_abs i).2.1

/-- What the point writes: the quotient of the carry after the loop. -/
theorem out_eq (c : Dev nD) (i : grid0.Coords) (arg3 : Memref sig .tc .vmem S1x1x1024x128 .bf16) (harg3 : arg3.IsWhole) (arg4 : Memref sig .tc .vmem S1x1x4096x128 .bf16) (harg4 : arg4.IsWhole) (arg5 : Memref sig .tc .vmem S1x1x4096x64 .bf16) (harg5 : arg5.IsWhole) (arg6 : Memref sig .tc .vmem S1x1x1024x64 .f32) (harg6 : arg6.IsWhole)
    (x0 : Vec F S1x1x1024x128 .bf16) (x1 : Vec F S1x1x4096x128 .bf16) (x2 : Vec F S1x1x4096x64 .bf16) :
    out0_A_3 c i arg3 harg3 arg4 harg4 arg5 harg5 arg6 harg6 x0 x1 x2
      = shapeCast S1x1x1024x64 (quotient (afterLoop i x0 x1 x2 (k0_t1_loop i).trips)) shapeCasts_S1024x64_S1x1x1024x64 := by
  have e : afterLoop i x0 x1 x2 (k0_t1_loop i).trips = st_k0_t2 (F := F) Variants.none c none i arg3 harg3 arg4 harg4 arg5 harg5 arg6 harg6 (queries x0)
      (harg4.unread x1) (harg5.unread x2)
      (st_k0_t1 (F := F) Variants.none c none i arg3 harg3 arg4 harg4 arg5 harg5 arg6 harg6 (queries x0) (harg4.unread x1) (harg5.unread x2)
        (afterDiag i x0 x1 x2) (k0_t1_loop i).trips) (k0_t2_loop i).trips := by
    rw [loop_eq _ _ _ _ _ _ _ _ _ _ _ _ _ _ _ _ le_rfl, no_rest, st_k0_t2_zero]
  rw [e]
  frame_out
  rfl

end Cert.Forgetting
-- ==== Proof.FoxValue.lean ====
/- What one grid point of the forgetting attention writes, as real numbers: every row of its block holds the values up
   to its query, averaged with the exponentials of the logits. -/
module

public import proofs.«01_k».proof.Proof.FoxBlock

@[expose] public section

set_option maxRecDepth 16384

noncomputable section

namespace Cert.Forgetting

open Idealize.ShloMosaic Idealize.ShloMosaic.TcCoe Cert.Kernel6Ideal Cert.Kernel6Ideal.Gen

/-- The number of tiles to the left of a point's diagonal. -/
theorem trips_eq : ∀ i : grid0.Coords, (k0_t1_loop i).trips = 2 * (i 2).val := by decide +kernel

/-- Where the tiles that meet the diagonal read their keys and values. -/
theorem off1_eq : ∀ (i : grid0.Coords) (d : Fin 2), k0_off1 i (BitVec.ofNat 32 d.val) = ![0, 0, 1024 * (i 2).val + 512 * d.val, 0] := by
  decide +kernel

theorem off2_eq : ∀ (i : grid0.Coords) (d : Fin 2), k0_off2 i (BitVec.ofNat 32 d.val) = ![0, 0, 1024 * (i 2).val + 512 * d.val, 0] := by
  decide +kernel

/-- Where trip `k` reads its keys and values: the tiles in turn from the left to the diagonal. -/
theorem off3_eq : ∀ (i : grid0.Coords) (k : Fin (k0_t1_loop i).trips), k0_off3 i k = ![0, 0, 512 * k.val, 0] := by decide +kernel

theorem off4_eq : ∀ (i : grid0.Coords) (k : Fin (k0_t1_loop i).trips), k0_off4 i k = ![0, 0, 512 * k.val, 0] := by decide +kernel

/-- A key of the tile that starts at key `o` is the key `o` further down of the block. -/
theorem keysAt_apply (x : Vec Ideal S1x1x4096x128 .bf16) (o : ℕ) (h) (e : Fin 512) (d : Fin 128) (ho : o + e.val < 4096) :
    keysAt x ![0, 0, o, 0] h (ix4 0 0 e d) = x (ix4 0 0 ⟨o + e.val, ho⟩ d) := by
  pointwise [keysAt]

/-- A value of the tile that starts at value `o` is the value `o` further down of the block. -/
theorem valuesAt_apply (x : Vec Ideal S1x1x4096x64 .bf16) (o : ℕ) (h) (e : Fin 512) (d : Fin 64) (ho : o + e.val < 4096) :
    valuesAt x ![0, 0, o, 0] h (ix4 0 0 e d) = x (ix4 0 0 ⟨o + e.val, ho⟩ d) := by
  pointwise [valuesAt]

/-- The logit of row `r` of the queries against key `s`. -/
def rowLogit (Q : Fin 1024 → Fin 128 → ℝ) (K : ℕ → Fin 128 → ℝ) (r : Fin 1024) (s : ℕ) : ℝ := ∑ d, Q r d * K s d

/-- The weight of key `s` for row `r` of the block that starts at row `b`: nothing past the row. -/
def rowWeight (b : ℕ) (Q : Fin 1024 → Fin 128 → ℝ) (K : ℕ → Fin 128 → ℝ) (r : Fin 1024) (s : ℕ) : ℝ :=
  weightOf (s ≤ b + r.val) (rowLogit Q K r s)

/-- The carry holds, for every row, the sums over the keys `S`. -/
def Holds (b : ℕ) (Q : Fin 1024 → Fin 128 → ℝ) (K : ℕ → Fin 128 → ℝ) (V : ℕ → Fin 64 → ℝ) (S : Finset ℕ) (cr : Carry Ideal) : Prop :=
  ∀ r : Fin 1024, Live cr r (∑ s ∈ S, rowWeight b Q K r s) (fun d => ∑ s ∈ S, rowWeight b Q K r s * V s d)

/-- A sum over a tile's lanes is the sum over its keys. -/
theorem tile_sum (f : ℕ → ℝ) (o : ℕ) : ∑ e : Fin 512, f (o + e.val) = ∑ s ∈ Finset.Ico o (o + 512), f s := by
  rw [Fin.sum_univ_eq_sum_range (fun n => f (o + n)) 512, Finset.sum_Ico_eq_sum_range, Nat.add_sub_cancel_left]

section
variable (i : grid0.Coords) (x0 : Vec Ideal S1x1x1024x128 .bf16) (x1 : Vec Ideal S1x1x4096x128 .bf16) (x2 : Vec Ideal S1x1x4096x64 .bf16)
  (Q : Fin 1024 → Fin 128 → ℝ) (K : ℕ → Fin 128 → ℝ) (V : ℕ → Fin 64 → ℝ)
  (hq : ∀ r d, x0 (ix4 0 0 r d) = ((Q r d : ℝ) : EReal))
  (hk : ∀ (s : Fin 4096) d, x1 (ix4 0 0 s d) = ((K s.val d : ℝ) : EReal))
  (hv : ∀ (s : Fin 4096) d, x2 (ix4 0 0 s d) = ((V s.val d : ℝ) : EReal))

include hq in
theorem queries_apply (r : Fin 1024) (d : Fin 128) : queries x0 (ix2 r d) = ((Q r d : ℝ) : EReal) := by
  pointwise [queries]
  exact hq r d

include hk in
/-- The keys of the tile at `o`. -/
theorem keys_tile (o : ℕ) (off : Fin 4 → ℕ) (e : off = ![0, 0, o, 0]) (h) (ho : o + 512 ≤ 4096) (s : Fin 512) (d : Fin 128) :
    keysAt x1 off h (ix4 0 0 s d) = ((K (o + s.val) d : ℝ) : EReal) := by
  subst e
  have hs := s.isLt
  exact (keysAt_apply x1 o h s d (by omega)).trans (hk _ _)

include hv in
/-- The values of the tile at `o`. -/
theorem values_tile (o : ℕ) (off : Fin 4 → ℕ) (e : off = ![0, 0, o, 0]) (h) (ho : o + 512 ≤ 4096) (s : Fin 512) (d : Fin 64) :
    valuesAt x2 off h (ix4 0 0 s d) = ((V (o + s.val) d : ℝ) : EReal) := by
  subst e
  have hs := s.isLt
  exact (valuesAt_apply x2 o h s d (by omega)).trans (hv _ _)

include hq hk hv in
/-- A step on the diagonal adds its tile to the sums. -/
theorem diagStep_live (d : Fin 2) (cr : Carry Ideal) (r : Fin 1024) (L : ℝ) (A : Fin 64 → ℝ)
    (h : Live cr r L A ∨ (Fresh cr r ∧ d = 0 ∧ L = 0 ∧ A = fun _ => 0)) :
    Live (diagStep i x0 x1 x2 d (BitVec.ofNat 32 (512 * d.val)) cr) r
      (L + ∑ s ∈ Finset.Ico (1024 * (i 2).val + 512 * d.val) (1024 * (i 2).val + 512 * d.val + 512), rowWeight (1024 * (i 2).val) Q K r s)
      (fun c => A c + ∑ s ∈ Finset.Ico (1024 * (i 2).val + 512 * d.val) (1024 * (i 2).val + 512 * d.val + 512), rowWeight (1024 * (i 2).val) Q K r s * V s c) := by
  have hi : (i 2).val < 4 := (i 2).isLt
  have hd := d.isLt
  have hle : 1024 * (i 2).val + 512 * d.val + 512 ≤ 4096 := by omega
  have step := step_live
    (masked (upTo (BitVec.ofNat 32 (512 * d.val))) (logits (queries x0) (keysAt x1 (k0_off1 i (BitVec.ofNat 32 d.val)) (k0_off1_inb i d))))
    (valuesAt x2 (k0_off2 i (BitVec.ofNat 32 d.val)) (k0_off2_inb i d)) cr r
    (fun e => 1024 * (i 2).val + 512 * d.val + e.val ≤ 1024 * (i 2).val + r.val)
    (fun e => rowLogit Q K r (1024 * (i 2).val + 512 * d.val + e.val)) (fun e c => V (1024 * (i 2).val + 512 * d.val + e.val) c) L A
    (fun e => masked_apply _ _ r e _ _
      ((upTo_apply (512 * d.val) (by omega) r e).trans (congrArg BitVec.ofBool (decide_eq_decide.2 (by omega))))
      (logits_apply _ _ r (Q r) _ (queries_apply x0 Q hq r) (keys_tile x1 K hk _ _ (off1_eq i d) _ hle) e))
    (values_tile x2 V hv _ _ (off2_eq i d) _ hle)
    (h.imp id fun ⟨f, d0, l, a⟩ => ⟨f, ⟨0, by subst d0; show 1024 * (i 2).val + 512 * 0 + 0 ≤ _; omega⟩, l, a⟩)
  rw [← tile_sum]
  simp only [← tile_sum]
  exact step

include hq hk hv in
/-- After the two tiles on the diagonal a row holds the sums over the point's own keys. -/
theorem afterDiag_holds : Holds (1024 * (i 2).val) Q K V (Finset.Ico (1024 * (i 2).val) (1024 * (i 2).val + 1024)) (afterDiag i x0 x1 x2) := by
  intro r
  have first := diagStep_live i x0 x1 x2 Q K V hq hk hv 0 start r 0 (fun _ => 0) (.inr ⟨start_fresh r, rfl, rfl, rfl⟩)
  have second := diagStep_live i x0 x1 x2 Q K V hq hk hv 1 _ r _ _ (.inl first)
  have join : ∀ f : ℕ → ℝ, 0 + ∑ s ∈ Finset.Ico (1024 * (i 2).val + 512 * (0 : Fin 2).val) (1024 * (i 2).val + 512 * (0 : Fin 2).val + 512), f s
      + ∑ s ∈ Finset.Ico (1024 * (i 2).val + 512 * (1 : Fin 2).val) (1024 * (i 2).val + 512 * (1 : Fin 2).val + 512), f s
      = ∑ s ∈ Finset.Ico (1024 * (i 2).val) (1024 * (i 2).val + 1024), f s := fun f => by
    rw [zero_add]
    exact Finset.sum_Ico_consecutive f (by simp) (by simp)
  rw [join] at second
  simp only [join] at second
  exact second

/-- The keys of the point's own rows, and those before trip `n`. -/
def seen (b n : ℕ) : Finset ℕ := Finset.Ico b (b + 1024) ∪ Finset.range (512 * n)

/-- A sum over the keys seen before trip `n + 1`. -/
theorem seen_succ (b n : ℕ) (hn : 512 * (n + 1) ≤ b) (f : ℕ → ℝ) :
    ∑ s ∈ seen b (n + 1), f s = ∑ s ∈ seen b n, f s + ∑ s ∈ Finset.Ico (512 * n) (512 * n + 512), f s := by
  have parts : seen b (n + 1) = seen b n ∪ Finset.Ico (512 * n) (512 * n + 512) := by
    ext s
    simp only [seen, Finset.mem_union, Finset.mem_Ico, Finset.mem_range]
    omega
  rw [parts, Finset.sum_union]
  rw [Finset.disjoint_left]
  intro s
  simp only [seen, Finset.mem_union, Finset.mem_Ico, Finset.mem_range]
  omega

include hq hk hv in
/-- Every trip of the loop adds its tile to the sums. -/
theorem afterLoop_holds (n : ℕ) (hn : n ≤ 2 * (i 2).val) :
    Holds (1024 * (i 2).val) Q K V (seen (1024 * (i 2).val) n) (afterLoop i x0 x1 x2 n) := by
  induction n with
  | zero =>
    have e : seen (1024 * (i 2).val) 0 = Finset.Ico (1024 * (i 2).val) (1024 * (i 2).val + 1024) := by simp [seen]
    rw [e]
    exact afterDiag_holds i x0 x1 x2 Q K V hq hk hv
  | succ n ih =>
    intro r
    have hi : (i 2).val < 4 := (i 2).isLt
    have h : n < (k0_t1_loop i).trips := by rw [trips_eq]; omega
    have hle : 512 * n + 512 ≤ 4096 := by omega
    rw [afterLoop, loopStep, dif_pos h]
    have step := step_live
      (logits (queries x0) (keysAt x1 (k0_off3 i ⟨n, h⟩) (k0_off3_inb i ⟨n, h⟩))) (valuesAt x2 (k0_off4 i ⟨n, h⟩) (k0_off4_inb i ⟨n, h⟩))
      (afterLoop i x0 x1 x2 n) r
      (fun e => 512 * n + e.val ≤ 1024 * (i 2).val + r.val)
      (fun e => rowLogit Q K r (512 * n + e.val)) (fun e c => V (512 * n + e.val) c) _ _
      (fun e => (logits_apply _ _ r (Q r) _ (queries_apply x0 Q hq r) (keys_tile x1 K hk _ _ (off3_eq i ⟨n, h⟩) _ hle) e).trans
        (if_pos (by have := e.isLt; show 512 * n + e.val ≤ _; omega)).symm)
      (values_tile x2 V hv _ _ (off4_eq i ⟨n, h⟩) _ hle)
      (.inl (ih (by omega) r))
    rw [seen_succ _ _ (by omega), ← tile_sum]
    simp only [seen_succ (1024 * (i 2).val) n (by omega), ← tile_sum]
    exact step

/-- The keys seen after the last trip are all those up to the point's last row. -/
theorem seen_all (b : ℕ) (n : ℕ) (hn : 512 * n = b) (hb : b + 1024 ≤ 4096) (r : Fin 1024) (f : ℕ → ℝ) (hf : ∀ s, b + r.val < s → f s = 0) :
    ∑ s ∈ seen b n, f s = ∑ s ∈ Finset.range 4096, f s := by
  have hr := r.isLt
  have e : seen b n = Finset.range (b + 1024) := by
    ext s
    simp only [seen, Finset.mem_union, Finset.mem_Ico, Finset.mem_range]
    omega
  rw [e]
  refine Finset.sum_subset (Finset.range_mono hb) fun s _ hs => hf s ?_
  rw [Finset.mem_range] at hs
  omega

/-- A quotient of reals by a positive real is the same among the extended reals. -/
theorem div_real (a b : ℝ) (hb : b ≠ 0) : Ideal.div (a : EReal) (b : EReal) = ((a / b : ℝ) : EReal) := by
  rw [Ideal.div_coe hb, ← EReal.coe_mul, mul_one_div]

/-- The sum of a row's weights is positive: the row's own key has one. -/
theorem weights_pos (t : ℕ) (ht : t < 4096) (Z : ℕ → ℝ) : 0 < ∑ s ∈ Finset.range 4096, weightOf (s ≤ t) (Z s) := by
  refine Finset.sum_pos' (fun s _ => ?_) ⟨t, Finset.mem_range.2 ht, ?_⟩
  · unfold weightOf
    split
    · exact (Real.exp_pos _).le
    · exact le_rfl
  · unfold weightOf
    rw [if_pos le_rfl]
    exact Real.exp_pos _

include hq hk hv in
/-- The block a point writes: row `r` averages the values up to `1024 i + r` with the exponentials of its logits. -/
theorem out_apply (c : Dev nD) (arg3 : Memref sig .tc .vmem S1x1x1024x128 .bf16) (harg3 : arg3.IsWhole) (arg4 : Memref sig .tc .vmem S1x1x4096x128 .bf16) (harg4 : arg4.IsWhole) (arg5 : Memref sig .tc .vmem S1x1x4096x64 .bf16) (harg5 : arg5.IsWhole) (arg6 : Memref sig .tc .vmem S1x1x1024x64 .f32) (harg6 : arg6.IsWhole)
    (r : Fin 1024) (d : Fin 64) :
    out0_A_3 c i arg3 harg3 arg4 harg4 arg5 harg5 arg6 harg6 x0 x1 x2 (ix4 0 0 r d)
      = (((∑ s ∈ Finset.range 4096, rowWeight (1024 * (i 2).val) Q K r s * V s d)
          / ∑ s ∈ Finset.range 4096, rowWeight (1024 * (i 2).val) Q K r s : ℝ) : EReal) := by
  rw [out_eq]
  pointwise [quotient]
  have hi : (i 2).val < 4 := (i 2).isLt
  have hr := r.isLt
  obtain ⟨M, _, hl, hA⟩ := afterLoop_holds i x0 x1 x2 Q K V hq hk hv (k0_t1_loop i).trips (by rw [trips_eq]) r
  have past : ∀ s, 1024 * (i 2).val + r.val < s → rowWeight (1024 * (i 2).val) Q K r s = 0 := fun s hs => if_neg (by omega)
  rw [trips_eq] at hl hA
  rw [seen_all _ _ (by omega) (by omega) r _ past] at hl
  have hA' := hA d
  dsimp only at hA'
  rw [seen_all _ _ (by omega) (by omega) r _ fun s hs => by rw [past s hs, zero_mul]] at hA'
  have pos : 0 < ∑ s ∈ Finset.range 4096, rowWeight (1024 * (i 2).val) Q K r s :=
    weights_pos (1024 * (i 2).val + r.val) (by omega) (rowLogit Q K r)
  rw [trips_eq, hl, hA', div_real _ _ (mul_ne_zero (Real.exp_ne_zero _) (ne_of_gt pos)), mul_div_mul_left _ _ (Real.exp_ne_zero _)]

end

end Cert.Forgetting
-- ==== Proof.FoxReference.lean ====
/- The reference of the forgetting attention, in real numbers: a softmax of the masked logits, and the values averaged
   with it. -/
module

public import proofs.«01_k».proof.Proof.FoxHost
public import proofs.«01_k».proof.Proof.FoxValue
public import proofs.«01_k».proof.Proof.Gen.Reference6Ideal.Run
public import proofs.«01_k».proof.Proof.Gen.Reference6Ideal.Read

@[expose] public section

set_option maxRecDepth 16384

noncomputable section

namespace Cert.Forgetting

open Idealize.ShloMosaic Cert.Reference6Ideal Cert.Reference6Ideal.Read

/-- A maximum along the last axis of an array of four axes. -/
theorem host_max {A B C N : ℕ} (x : (⟨4, ![A, B, C, N]⟩ : Shape).Idx → EReal) (init : (⟨0, ![]⟩ : Shape).Idx → EReal)
    (h : (⟨4, ![A, B, C, N]⟩ : Shape).ReducesTo [3] ⟨3, ![A, B, C]⟩) (hu : 0 < (⟨0, ![]⟩ : Shape).numel) (a : Fin A) (b : Fin B) (c : Fin C) :
    Host.reduce (FloatOps.maximumf (F := Ideal) (φ := .f32)) (x : (⟨⟨4, ![A, B, C, N]⟩, .f32⟩ : BufTy).Contents (Elt Ideal)) (init : (⟨⟨0, ![]⟩, .f32⟩ : BufTy).Contents (Elt Ideal)) h hu (ix3 a b c)
      = Finset.univ.fold max (init (Shape.Idx.first hu)) fun k : Fin N => x (ix4 a b c k) := by
  pointwise

/-- The logit of a query and a key: the scaled product of their heads less the log decay at the key. -/
def foxLogit (q k : Cert.Kernel6Ideal.S8x4096x6x64.Idx → ℝ) (f : Cert.Kernel6Ideal.S8x4096x6.Idx → ℝ) (b : Fin 8) (h : Fin 6) (t : Fin 4096) (s : ℕ) : ℝ :=
  (∑ e : Fin 64, q (ix4 b t h e) * (1 / 8) * headRow k b h s e) - decay f b h s

/-- Forgetting attention: the values up to a query, averaged with the exponentials of its logits. -/
def attention (q k v : Cert.Kernel6Ideal.S8x4096x6x64.Idx → ℝ) (f : Cert.Kernel6Ideal.S8x4096x6.Idx → ℝ) (b : Fin 8) (h : Fin 6) (t : Fin 4096) (d : Fin 64) : ℝ :=
  (∑ s ∈ Finset.range 4096, weightOf (s ≤ t.val) (foxLogit q k f b h t s) * headRow v b h s d)
    / ∑ s ∈ Finset.range 4096, weightOf (s ≤ t.val) (foxLogit q k f b h t s)

section
variable (x0 x1 x2 : S8x4096x6x64.Idx → EReal) (x3 : S8x4096x6.Idx → EReal) (q k v : Cert.Kernel6Ideal.S8x4096x6x64.Idx → ℝ) (f : Cert.Kernel6Ideal.S8x4096x6.Idx → ℝ)
  (hq : ∀ i, x0 i = ((q i : ℝ) : EReal)) (hk : ∀ i, x1 i = ((k i : ℝ) : EReal)) (hv : ∀ i, x2 i = ((v i : ℝ) : EReal)) (hf : ∀ i, x3 i = ((f i : ℝ) : EReal))
  (b : Fin 8) (h : Fin 6) (t : Fin 4096)

include hf in
/-- The reference's running sums of the log gates. -/
theorem ref_decay (s : Fin 4096) : (val_main_v1 (F := Ideal) x3 : S8x4096x6.Idx → EReal) (ix3 b s h) = ((decay f b h s.val : ℝ) : EReal) := by
  have h0 : ∀ i, (val_main_call0_call0_v0 (F := Ideal) : S_.Idx → EReal) i = 0 := fun i => by
    rw [val_main_call0_call0_v0_apply]
    exact zero_word32
  unfold val_main_v1
  generalize val_main_call0_call0_v0 (F := Ideal) = u at h0
  exact decay_apply x3 f hf u h0 _ _ b s h

include hq hk hf in
/-- The reference's masked logits: the kernel's plus the log decay at the query, minus infinity past the query. -/
theorem ref_logit (s : Fin 4096) : (val_main_v18 (F := Ideal) x0 x1 x3 : S8x6x4096x4096.Idx → EReal) (ix4 b h t s)
    = if s.val ≤ t.val then ((foxLogit q k f b h t s.val + decay f b h t.val : ℝ) : EReal) else ⊥ := by
  have ct := ref_decay x3 f hf b h t
  have cs := ref_decay x3 f hf b h s
  generalize hz : val_main_v1 (F := Ideal) x3 = z at ct cs
  pointwise [val_main_v18, val_main_call1_v1, val_main_call1_v2, val_main_call1_v0, val_main_v12, val_main_v17, val_main_cst_0, val_main_v0, val_main_v2, val_main_v3, val_main_v4, val_main_cst, val_main_v5, val_main_v6, val_main_v7, val_main_v8, val_main_v9, val_main_v10, val_main_v11, val_main_v13, val_main_v14, val_main_v15, val_main_v16, hz]
  have hs := s.isLt
  have ht := t.isLt
  have word : IntOp.cmpi CmpIPredicate.sle (BitVec.ofNat 32 s.val) (BitVec.ofNat 32 t.val) = BitVec.ofBool (decide (s.val ≤ t.val)) := by
    show BitVec.ofBool (BitVec.sle (BitVec.ofNat 32 s.val) (BitVec.ofNat 32 t.val)) = _
    rw [BitVec.sle_eq_decide, Cert.StickBreaking.toInt_small _ (by omega), Cert.StickBreaking.toInt_small _ (by omega)]
    exact congrArg BitVec.ofBool (decide_eq_decide.2 (by omega))
  have low : (id (constant (F := Ideal) S_ FTy.f32 4286578688#32) ix0 : EReal) = ⊥ := lowest_word
  have dot : (∑ e, x0 (ix4 b t h e) * x1 (ix4 b s h e)) = ((∑ e : Fin 64, q (ix4 b t h e) * k (ix4 b s h e) : ℝ) : EReal) := by
    rw [← coe_sum_mul]
    exact Finset.sum_congr rfl fun e _ => by rw [hq, hk, EReal.coe_mul]
  rw [word, low, dot, ct, cs, Cert.StickBreaking.eighth_word, ← EReal.coe_mul, ← EReal.coe_add, ← EReal.coe_sub]
  have value : (∑ e : Fin 64, q (ix4 b t h e) * k (ix4 b s h e)) * (1 / 8) + decay f b h t.val - decay f b h s.val
      = foxLogit q k f b h t s.val + decay f b h t.val := by
    have e : ∀ e : Fin 64, q (ix4 b t h e) * (1 / 8) * headRow k b h s.val e = q (ix4 b t h e) * k (ix4 b s h e) * (1 / 8) := fun e => by
      rw [headRow, dif_pos hs]
      ring
    rw [foxLogit, Finset.sum_congr rfl fun i _ => e i, ← Finset.sum_mul]
    ring
  rw [value]
  by_cases hp : s.val ≤ t.val
  · rw [if_pos hp, decide_eq_true hp]
    rfl
  · rw [if_neg hp, decide_eq_false hp]
    rfl

include hq hk hf in
/-- The greatest of a query's logits is real. -/
theorem ref_greatest : ∃ N : ℝ, (val_main_v21 (F := Ideal) x0 x1 x3 : S8x6x4096.Idx → EReal) (ix3 b h t) = (N : EReal) := by
  have logit := ref_logit x0 x1 x3 q k f hq hk hf b h t
  generalize hz : val_main_v18 (F := Ideal) x0 x1 x3 = z at logit
  have e19 : (val_main_v19 (F := Ideal) x0 x1 x3 : S8x6x4096.Idx → EReal) (ix3 b h t) = Finset.univ.sup fun s : Fin 4096 => (z (ix4 b h t s) : EReal) := by
    unfold val_main_v19
    rw [hz]
    refine (host_max z _ _ _ b h t).trans ?_
    have low : (val_main_cst_1 (F := Ideal) (Shape.Idx.first Cert.Reference6Ideal.Facts₀.h_S_) : EReal) = ⊥ := lowest_word
    rw [low]
    rfl
  have e20 : (val_main_v20 (F := Ideal) (ix3 b h t) : EReal) = ⊥ := by
    rw [val_main_v20_apply]
    exact lowest_word
  rw [val_main_v21_apply]
  show ∃ N : ℝ, max (val_main_v20 (F := Ideal) (ix3 b h t) : EReal) (val_main_v19 (F := Ideal) x0 x1 x3 (ix3 b h t) : EReal) = (N : EReal)
  rw [e19, e20, max_eq_right bot_le]
  have hi : (Finset.univ.sup fun s : Fin 4096 => (z (ix4 b h t s) : EReal)) ≠ ⊤ := by
    refine ne_of_lt ((Finset.sup_lt_iff (by exact bot_lt_top)).2 fun s _ => ?_)
    rw [logit s]
    split
    · exact EReal.coe_lt_top _
    · exact bot_lt_top
  have lo : (Finset.univ.sup fun s : Fin 4096 => (z (ix4 b h t s) : EReal)) ≠ ⊥ := by
    have own := logit t
    rw [if_pos le_rfl] at own
    refine ne_of_gt (lt_of_lt_of_le (EReal.bot_lt_coe (foxLogit q k f b h t t.val + decay f b h t.val)) ?_)
    rw [← own]
    exact Finset.le_sup (f := fun s : Fin 4096 => (z (ix4 b h t s) : EReal)) (Finset.mem_univ t)
  exact ⟨_, (EReal.coe_toReal hi lo).symm⟩

include hq hk hv hf in
/-- The reference's result, element by element. -/
theorem ref_apply (d : Fin 64) : (val_main_v30 (F := Ideal) x0 x1 x2 x3 : S8x6x4096x64.Idx → EReal) (ix4 b h t d)
    = ((attention q k v f b h t d : ℝ) : EReal) := by
  have logit := ref_logit x0 x1 x3 q k f hq hk hf b h t
  obtain ⟨N, hN⟩ := ref_greatest x0 x1 x3 q k f hq hk hf b h t
  generalize hz : val_main_v18 (F := Ideal) x0 x1 x3 = z at logit
  generalize hw : val_main_v21 (F := Ideal) x0 x1 x3 = w at hN
  pointwise [val_main_v30, val_main_v29, val_main_v28, val_main_v27, val_main_v26, val_main_v25, val_main_v24, val_main_v23, val_main_v22, val_main_cst_3, hz, hw]
  rw [hN]
  have weight : ∀ s : Fin 4096, Ideal.exp ((z (ix4 b h t s) : EReal) - (N : EReal))
      = ((Real.exp (-N + decay f b h t.val) * weightOf (s.val ≤ t.val) (foxLogit q k f b h t s.val) : ℝ) : EReal) := fun s => by
    rw [weight_rel _ (s.val ≤ t.val) _ N (logit s), Real.exp_add, mul_assoc]
    congr 2
    unfold weightOf
    split
    · rw [Real.exp_add, mul_comm]
    · rw [mul_zero]
  have sum : (∑ s : Fin 4096, Ideal.exp ((z (ix4 b h t s) : EReal) - (N : EReal)))
      = ((Real.exp (-N + decay f b h t.val) * ∑ s ∈ Finset.range 4096, weightOf (s ≤ t.val) (foxLogit q k f b h t s) : ℝ) : EReal) := by
    rw [Finset.sum_congr rfl fun s _ => weight s, coe_sum_mul, ← Finset.mul_sum,
      Fin.sum_univ_eq_sum_range (fun s => weightOf (s ≤ t.val) (foxLogit q k f b h t s)) 4096]
  have pos := weights_pos t.val t.isLt (foxLogit q k f b h t)
  rw [sum]
  have term : ∀ s : Fin 4096, Ideal.div (Ideal.exp ((z (ix4 b h t s) : EReal) - (N : EReal)))
        ((Real.exp (-N + decay f b h t.val) * ∑ s ∈ Finset.range 4096, weightOf (s ≤ t.val) (foxLogit q k f b h t s) : ℝ) : EReal) * x2 (ix4 b s h d)
      = ((weightOf (s.val ≤ t.val) (foxLogit q k f b h t s.val) * headRow v b h s.val d / ∑ s ∈ Finset.range 4096, weightOf (s ≤ t.val) (foxLogit q k f b h t s) : ℝ) : EReal) := fun s => by
    rw [weight s, div_real _ _ (mul_ne_zero (Real.exp_ne_zero _) (ne_of_gt pos)), mul_div_mul_left _ _ (Real.exp_ne_zero _), hv, ← EReal.coe_mul,
      headRow, dif_pos s.isLt, div_mul_eq_mul_div]
  rw [Finset.sum_congr rfl fun s _ => term s, coe_sum_mul, ← Finset.sum_div,
    Fin.sum_univ_eq_sum_range (fun s => weightOf (s ≤ t.val) (foxLogit q k f b h t s) * headRow v b h s d) 4096]
  rfl

end

end Cert.Forgetting
-- ==== Proof.FoxArray.lean ====
/- The array the forgetting attention's kernel leaves: every element is the attention of its query over the keys up
   to it, in real numbers of the arguments. -/
module

public import proofs.«01_k».proof.Proof.FoxReference

@[expose] public section

set_option maxRecDepth 16384

noncomputable section

namespace Cert.Forgetting

open Idealize.ShloMosaic Idealize.ShloMosaic.TcCoe Idealize.SL.Sem Cert.Kernel6Ideal Cert.Kernel6Ideal.Gen
open Cert.StickBreaking (ix4_of)

/-- Where a point's block of queries lies in its array. -/
theorem index_q : ∀ t : Fin grid0.N, win0_0.index t = ![(grid0.coords t 0).val, (grid0.coords t 1).val, (grid0.coords t 2).val, 0] := by
  decide +kernel

/-- Where a point's keys lie in their array: its batch element and head. -/
theorem index_k : ∀ t : Fin grid0.N, win0_1.index t = ![(grid0.coords t 0).val, (grid0.coords t 1).val, 0, 0] := by
  decide +kernel

/-- Where a point's values lie in their array: its batch element and head. -/
theorem index_v : ∀ t : Fin grid0.N, win0_2.index t = ![(grid0.coords t 0).val, (grid0.coords t 1).val, 0, 0] := by
  decide +kernel

/-- Where a point's block of results lies in its array. -/
theorem index_o : ∀ t : Fin grid0.N, win0_3.index t = ![(grid0.coords t 0).val, (grid0.coords t 1).val, (grid0.coords t 2).val, 0] := by
  decide +kernel

/-- The batch element, the head and the block of rows of a point. -/
abbrev batchOf (t : Fin cfg0.N) : Fin 8 := ⟨(grid0.coords t 0).val, (grid0.coords t 0).isLt⟩
abbrev headOf (t : Fin cfg0.N) : Fin 6 := ⟨(grid0.coords t 1).val, (grid0.coords t 1).isLt⟩
abbrev rowsOf (t : Fin cfg0.N) : Fin 4 := ⟨(grid0.coords t 2).val, (grid0.coords t 2).isLt⟩

/-- Row `r` of a point's block of rows. -/
abbrev rowOf (t : Fin cfg0.N) (r : Fin 1024) : Fin 4096 := ⟨1024 * (rowsOf t).val + r.val, by have := (rowsOf t).isLt; omega⟩

/-- An element of a point's block of queries, in the array. -/
theorem emb_q (t : Fin cfg0.N) (r : Fin 1024) (d : Fin 128) :
    (win0_0.rect t).emb (ix4 0 0 r d) = ix4 (batchOf t) (headOf t) (rowOf t r) d := by
  have e := index_q t
  refine ix4_of (n0 := 8) (n1 := 6) (n2 := 4096) (n3 := 128) _ _ _ _ _ ?_ ?_ ?_ ?_ <;> rw [win0_0.rect_emb_val, e]
  · exact Nat.mul_one _
  · exact Nat.mul_one _
  · exact congrArg (· + r.val) (Nat.mul_comm _ _)
  · exact Nat.zero_add _

/-- An element of a point's keys, in the array. -/
theorem emb_k (t : Fin cfg0.N) (s : Fin 4096) (d : Fin 128) :
    (win0_1.rect t).emb (ix4 0 0 s d) = ix4 (batchOf t) (headOf t) s d := by
  have e := index_k t
  refine ix4_of (n0 := 8) (n1 := 6) (n2 := 4096) (n3 := 128) _ _ _ _ _ ?_ ?_ ?_ ?_ <;> rw [win0_1.rect_emb_val, e]
  · exact Nat.mul_one _
  · exact Nat.mul_one _
  · exact Nat.zero_add _
  · exact Nat.zero_add _

/-- An element of a point's values, in the array. -/
theorem emb_v (t : Fin cfg0.N) (s : Fin 4096) (d : Fin 64) :
    (win0_2.rect t).emb (ix4 0 0 s d) = ix4 (batchOf t) (headOf t) s d := by
  have e := index_v t
  refine ix4_of (n0 := 8) (n1 := 6) (n2 := 4096) (n3 := 64) _ _ _ _ _ ?_ ?_ ?_ ?_ <;> rw [win0_2.rect_emb_val, e]
  · exact Nat.mul_one _
  · exact Nat.mul_one _
  · exact Nat.zero_add _
  · exact Nat.zero_add _

/-- An element of a point's block of results, in the array. -/
theorem emb_o (t : Fin cfg0.N) (r : Fin 1024) (d : Fin 64) :
    (win0_3.rect t).emb (ix4 0 0 r d) = ix4 (batchOf t) (headOf t) (rowOf t r) d := by
  have e := index_o t
  refine ix4_of (n0 := 8) (n1 := 6) (n2 := 4096) (n3 := 64) _ _ _ _ _ ?_ ?_ ?_ ?_ <;> rw [win0_3.rect_emb_val, e]
  · exact Nat.mul_one _
  · exact Nat.mul_one _
  · exact congrArg (· + r.val) (Nat.mul_comm _ _)
  · exact Nat.zero_add _

/-- A point's queries, read out of their array. -/
theorem read_q (t : Fin cfg0.N) (r : Fin 1024) (d : Fin 128) (x : S8x6x4096x128.Idx → EReal) :
    View.read (Elt Ideal) ((cfg0.win 0).blk t).view x (ix4 0 0 r d) = x (ix4 (batchOf t) (headOf t) (rowOf t r) d) :=
  congrArg x (emb_q t r d)

/-- A point's keys, read out of their array. -/
theorem read_k (t : Fin cfg0.N) (s : Fin 4096) (d : Fin 128) (x : S8x6x4096x128.Idx → EReal) :
    View.read (Elt Ideal) ((cfg0.win 1).blk t).view x (ix4 0 0 s d) = x (ix4 (batchOf t) (headOf t) s d) :=
  congrArg x (emb_k t s d)

/-- A point's values, read out of their array. -/
theorem read_v (t : Fin cfg0.N) (s : Fin 4096) (d : Fin 64) (x : S8x6x4096x64.Idx → EReal) :
    View.read (Elt Ideal) ((cfg0.win 2).blk t).view x (ix4 0 0 s d) = x (ix4 (batchOf t) (headOf t) s d) :=
  congrArg x (emb_v t s d)

section
variable (m : (ℓ : Loc nD τ sig) → Buf (Elt Ideal) ℓ) (c : Dev nD) (q k v : S8x4096x6x64.Idx → ℝ) (f : S8x4096x6.Idx → ℝ)
  (hq : ∀ i, (m ((c : Thread nD τ).loc main_arg0) : S8x4096x6x64.Idx → EReal) i = ((q i : ℝ) : EReal))
  (hk : ∀ i, (m ((c : Thread nD τ).loc main_arg1) : S8x4096x6x64.Idx → EReal) i = ((k i : ℝ) : EReal))
  (hv : ∀ i, (m ((c : Thread nD τ).loc main_arg2) : S8x4096x6x64.Idx → EReal) i = ((v i : ℝ) : EReal))
  (hf : ∀ i, (m ((c : Thread nD τ).loc main_arg3) : S8x4096x6.Idx → EReal) i = ((f i : ℝ) : EReal))

include hq in
/-- Point `t`'s queries. -/
theorem block_q (t : Fin cfg0.N) (r : Fin 1024) (d : Fin 128) :
    (iblk m c 0 t : S1x1x1024x128.Idx → EReal) (ix4 0 0 r d) = ((queryRow q (batchOf t) (headOf t) (rowOf t r) d : ℝ) : EReal) := by
  unfold iblk
  entry_read
  refine (read_q t r d _).trans ?_
  exact host_q (fun b => m (c, b)) q hq (batchOf t) (headOf t) (rowOf t r) d

include hk hf in
/-- Point `t`'s keys. -/
theorem block_k (t : Fin cfg0.N) (s : Fin 4096) (d : Fin 128) :
    (iblk m c 1 t : S1x1x4096x128.Idx → EReal) (ix4 0 0 s d) = ((keyRow k f (batchOf t) (headOf t) s.val d : ℝ) : EReal) := by
  unfold iblk
  entry_read
  refine (read_k t s d _).trans ?_
  exact host_k (fun b => m (c, b)) k f hk hf (batchOf t) (headOf t) s d

include hv in
/-- Point `t`'s values. -/
theorem block_v (t : Fin cfg0.N) (s : Fin 4096) (d : Fin 64) :
    (iblk m c 2 t : S1x1x4096x64.Idx → EReal) (ix4 0 0 s d) = ((headRow v (batchOf t) (headOf t) s.val d : ℝ) : EReal) := by
  unfold iblk
  entry_read
  refine (read_v t s d _).trans ?_
  exact host_v (fun b => m (c, b)) v hv (batchOf t) (headOf t) s d

/-- The kernel's result, index by index. -/
def result : S8x6x4096x64.Idx → EReal := fun i => ((attention q k v f (i 0) (i 1) (i 2) (i 3) : ℝ) : EReal)

/-- A row's weights in a point's block are those of the attention. -/
theorem weight_eq (t : Fin cfg0.N) (r : Fin 1024) (s : ℕ) :
    rowWeight (1024 * (rowsOf t).val) (fun r => queryRow q (batchOf t) (headOf t) (rowOf t r)) (keyRow k f (batchOf t) (headOf t)) r s
      = weightOf (s ≤ (rowOf t r).val) (foxLogit q k f (batchOf t) (headOf t) (rowOf t r) s) :=
  congrArg (weightOf (s ≤ (rowOf t r).val)) (rows_logit q k f (batchOf t) (headOf t) (rowOf t r) s)

include hq hk hv hf in
/-- What point `t` writes back is its block of the result. -/
theorem flushed_eq (t : Fin cfg0.N) : (dats m 0 c).flushed 3 t = ((cfg0.win 3).blk t).view.read (Elt Ideal) (result q k v f) := by
  rw [Value.flushed3_A]
  refine funext fun (y : S1x1x1024x64.Idx) => ?_
  obtain ⟨r, d, rfl⟩ : ∃ (r : Fin 1024) (d : Fin 64), y = ix4 0 0 r d :=
    ⟨y 2, y 3, ix4_of y _ _ _ _ (Nat.lt_one_iff.1 (y 0).isLt) (Nat.lt_one_iff.1 (y 1).isLt) rfl rfl⟩
  refine (out_apply (grid0.coords t) _ _ _ (fun r => queryRow q (batchOf t) (headOf t) (rowOf t r)) (keyRow k f (batchOf t) (headOf t)) (headRow v (batchOf t) (headOf t))
    (block_q m c q hq t) (block_k m c k f hk hf t) (block_v m c v hv t) c _ _ _ _ _ _ _ _ r d).trans ?_
  refine Eq.trans ?_ (congrArg (result q k v f) (emb_o t r d)).symm
  refine congrArg (fun x : ℝ => (x : EReal)) ?_
  exact congrArg₂ (· / ·) (Finset.sum_congr rfl fun s _ => congrArg (· * headRow v (batchOf t) (headOf t) s d) (weight_eq q k f t r s))
    (Finset.sum_congr rfl fun s _ => weight_eq q k f t r s)

/-- Every index of the result lies in a point's block. -/
theorem covered (i : S8x6x4096x64.Idx) : ∃ t : Fin cfg0.N, (cfg0.win 3).flush t = true ∧ i ∈ ((cfg0.win 3).blk t).view.set := by
  have all : ∀ (b : Fin 8) (h : Fin 6) (r : Fin 4), ∃ t : Fin grid0.N, win0_3.index t = ![b.val, h.val, r.val, 0] := by decide +kernel
  have h0 : (i 0).val < 8 := (i 0).isLt
  have h1 : (i 1).val < 6 := (i 1).isLt
  have h2 : (i 2).val < 4096 := (i 2).isLt
  have h3 : (i 3).val < 64 := (i 3).isLt
  obtain ⟨t, ht⟩ := all ⟨(i 0).val, h0⟩ ⟨(i 1).val, h1⟩ ⟨(i 2).val / 1024, by omega⟩
  refine ⟨t, flush0_3 t, ?_⟩
  show i ∈ ((View.whole main_v25).slice (win0_3.rect t)).set
  rw [View.set_slice_whole, Rect.mem_set_unit]
  intro a
  show win0_3.index t a * win0_3.size a ≤ (i a).val ∧ (i a).val < win0_3.index t a * win0_3.size a + win0_3.xsize (grid0.coords t) a
  rw [ht]
  match a with
  | ⟨0, _⟩ => show (i 0).val * 1 ≤ (i 0).val ∧ (i 0).val < (i 0).val * 1 + 1; omega
  | ⟨1, _⟩ => show (i 1).val * 1 ≤ (i 1).val ∧ (i 1).val < (i 1).val * 1 + 1; omega
  | ⟨2, _⟩ => show (i 2).val / 1024 * 1024 ≤ (i 2).val ∧ (i 2).val < (i 2).val / 1024 * 1024 + 1024; omega
  | ⟨3, _⟩ => show 0 * 64 ≤ (i 3).val ∧ (i 3).val < 0 * 64 + 64; omega

/-- The reference's result is the attention of its arguments. -/
theorem reference_eq (x0 x1 x2 : S8x4096x6x64.Idx → EReal) (x3 : S8x4096x6.Idx → EReal) (hq : ∀ i, x0 i = ((q i : ℝ) : EReal)) (hk : ∀ i, x1 i = ((k i : ℝ) : EReal))
    (hv : ∀ i, x2 i = ((v i : ℝ) : EReal)) (hf : ∀ i, x3 i = ((f i : ℝ) : EReal)) :
    (Cert.Reference6Ideal.Read.val_main_v30 (F := Ideal) x0 x1 x2 x3 : S8x6x4096x64.Idx → EReal) = result q k v f := by
  refine funext fun (y : S8x6x4096x64.Idx) => ?_
  obtain ⟨b, h, t, d, rfl⟩ : ∃ (b : Fin 8) (h : Fin 6) (t : Fin 4096) (d : Fin 64), y = ix4 b h t d :=
    ⟨y 0, y 1, y 2, y 3, ix4_of y _ _ _ _ rfl rfl rfl rfl⟩
  exact ref_apply x0 x1 x2 x3 q k v f hq hk hv hf b h t d

include hq hk hv hf in
/-- The array the kernel leaves is the attention of its arguments. -/
theorem final_eq : (dats m 0 c).arrAt 3 cfg0.N = result q k v f :=
  (dats m 0 c).arrAt_eq_of_cover 3 (result q k v f) (fun t _ => flushed_eq m c q k v f hq hk hv hf t) covered

end

end Cert.Forgetting
-- ==== Proof.FoxFinite.lean ====
/- What the forgetting attention's precondition says: every element of its four arguments is a real number. -/
module

public import proofs.«01_k».proof.Proof.Finite
public import proofs.«01_k».proof.Proof.Gen.Pre_finite6

@[expose] public section

noncomputable section

namespace Cert.Forgetting

open Idealize.ShloMosaic Cert.Pre_finite6

/-- Where `jnp.all` of `|x| < inf` holds, every element of `x` is a real number. -/
theorem real_of_all {s : Shape} {dims : List (Fin s.rank)} (x : s.Idx → EReal) (init : IVec S_ 1) (h : s.ReducesTo dims S_) (hu : 0 < S_.numel)
    (hb : S_.BroadcastsInDim s (![] : Fin 0 → Fin s.rank)) (j : S_.Idx)
    (e : Host.reduce IntOp.andi (cmpf (F := Ideal) (φ := .f32) .olt (Host.absf (F := Ideal) (φ := .f32) x) (broadcastInDim s ![] hb (constant (F := Ideal) S_ .f32 0x7F800000#32))) init h hu j = 1#1)
    (i : s.Idx) : x i = (((x i).toReal : ℝ) : EReal) :=
  haveI : Subsingleton S_.Idx := ⟨fun a b => funext fun k => k.elim0⟩
  Cert.StickBreaking.real_of_abs_lt (x i) (Host.reduce_andi_all _ init h hu j e i)

/-- The precondition, opened: all four arguments are real. -/
theorem real_of_pre (x0 x1 x2 : S8x4096x6x64.Idx → EReal) (x3 : S8x4096x6.Idx → EReal) (h : Cert.Pre_finite6.fn (F := Ideal) x0 x1 x2 x3 = fun _ => 1#1) :
    (∀ i, x0 i = (((x0 i).toReal : ℝ) : EReal)) ∧ (∀ i, x1 i = (((x1 i).toReal : ℝ) : EReal)) ∧ (∀ i, x2 i = (((x2 i).toReal : ℝ) : EReal))
      ∧ (∀ i, x3 i = (((x3 i).toReal : ℝ) : EReal)) := by
  have e := congrFun h ix0
  have both : ∀ a b : BitVec 1, IntOp.andi a b = 1#1 → a = 1#1 ∧ b = 1#1 := by decide
  obtain ⟨e012, e3⟩ := both _ _ e
  obtain ⟨e01, e2⟩ := both _ _ e012
  obtain ⟨e0, e1⟩ := both _ _ e01
  exact ⟨real_of_all x0 _ _ _ _ _ e0, real_of_all x1 _ _ _ _ _ e1, real_of_all x2 _ _ _ _ _ e2, real_of_all x3 _ _ _ _ _ e3⟩

end Cert.Forgetting
-- ==== Proof.RouterArray.lean ====
/- The router: the rows' logits for the eight experts, out of a product in split halves, and the two experts and their
   gates that the host takes from the logits. -/
module

public import proofs.«01_k».proof.Proof.FoxFinite
public import proofs.«01_k».proof.Proof.Gen.Kernel7Ideal.Frame
public import proofs.«01_k».proof.Proof.Gen.Reference7Ideal.Run
public import proofs.«01_k».proof.Proof.Gen.Reference7Ideal.Read
public import proofs.«01_k».proof.Proof.Gen.Pre_finite7
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

namespace Cert.Router

open Idealize.ShloMosaic Idealize.ShloMosaic.TcCoe Idealize.SL.Sem Cert.Kernel7Ideal Cert.Kernel7Ideal.Gen

/-- The product of a row and a column with each factor split in two: the second half is what the first leaves. -/
def splitSum (x w : Fin 1024 → EReal) : EReal := (∑ e, x e * w e) + ((∑ e, x e * (w e - w e)) + ∑ e, (x e - x e) * w e)

/-- Of real numbers, the second halves are nothing: the split product is the plain one. -/
theorem splitSum_real (x w : Fin 1024 → EReal) (hx : ∀ e, x e = (((x e).toReal : ℝ) : EReal)) (hw : ∀ e, w e = (((w e).toReal : ℝ) : EReal)) :
    splitSum x w = ∑ e, x e * w e := by
  have self : ∀ y : EReal, y = ((y.toReal : ℝ) : EReal) → y - y = 0 := fun y h => by
    rw [h, ← EReal.coe_sub, sub_self, EReal.coe_zero]
  have low : (∑ e, x e * (w e - w e)) = 0 := Finset.sum_eq_zero fun e _ => by rw [self _ (hw e), mul_zero]
  have high : (∑ e, (x e - x e) * w e) = 0 := Finset.sum_eq_zero fun e _ => by rw [self _ (hx e), zero_mul]
  rw [splitSum, low, high, add_zero, add_zero]

/-- What a point writes: its rows times the weight, split. -/
theorem out_apply (x : Vec Ideal S1024x1024 .f32) (w : Vec Ideal S1024x128 .f32) (r : Fin 1024) (d : Fin 128) :
    out0_2 x w (ix2 r d) = splitSum (fun e => x (ix2 r e)) (fun e => w (ix2 e d)) := by
  frame_out
  unfold splitSum
  pointwise [k0_pay1]

/-- Where a point's rows lie in their array. -/
theorem index_x : ∀ t : Fin grid0.N, win0_0.index t = ![t.val, 0] := by decide +kernel

/-- Every point reads the whole weight. -/
theorem index_w : ∀ t : Fin grid0.N, win0_1.index t = ![0, 0] := by decide +kernel

/-- Where a point's results lie in their array. -/
theorem index_o : ∀ t : Fin grid0.N, win0_2.index t = ![t.val, 0] := by decide +kernel

/-- There are thirty-two points. -/
theorem points : grid0.N = 32 := by decide

/-- Row `r` of a point's block, in the array. -/
abbrev rowAt (t : Fin grid0.N) (r : Fin 1024) : Fin 32768 := ⟨1024 * t.val + r.val, by have h : t.val < 32 := lt_of_lt_of_eq t.isLt points; omega⟩

/-- An element of a point's rows, in the array. -/
theorem emb_x (t : Fin cfg0.N) (r e : Fin 1024) : (win0_0.rect t).emb (ix2 r e) = ix2 (rowAt t r) e := by
  have h := index_x t
  refine funext fun a => Fin.ext ?_
  rw [win0_0.rect_emb_val, h]
  match a with
  | ⟨0, _⟩ => exact congrArg (· + r.val) (Nat.mul_comm _ _)
  | ⟨1, _⟩ => exact Nat.zero_add _

/-- An element of the weight, in the array. -/
theorem emb_w (t : Fin cfg0.N) (i : S1024x128.Idx) : (win0_1.rect t).emb i = i := by
  have h := index_w t
  refine funext fun a => Fin.ext ?_
  match a with
  | ⟨0, _⟩ => exact win0_1.rect_emb_val_of_index_zero t 0 (by rw [h]; rfl) _
  | ⟨1, _⟩ => exact win0_1.rect_emb_val_of_index_zero t 1 (by rw [h]; rfl) _

/-- An element of a point's results, in the array. -/
theorem emb_o (t : Fin cfg0.N) (r : Fin 1024) (d : Fin 128) : (win0_2.rect t).emb (ix2 r d) = ix2 (rowAt t r) d := by
  have h := index_o t
  refine funext fun a => Fin.ext ?_
  rw [win0_2.rect_emb_val, h]
  match a with
  | ⟨0, _⟩ => exact congrArg (· + r.val) (Nat.mul_comm _ _)
  | ⟨1, _⟩ => exact Nat.zero_add _

/-- The logits of rows `x` under weight `w` and bias `b`. -/
def logits (x : S32768x1024.Idx → EReal) (w : S1024x8.Idx → EReal) (b : S8.Idx → EReal) : S32768x8.Idx → EReal := fun i =>
  (∑ e : Fin 1024, x (ix2 (i 0) e) * w (ix2 e (i 1))) + b (ix1 (i 1))

/-- The two experts with the greatest logits, per row, -/
def chosen (z : S32768x8.Idx → EReal) : S32768x2.Idx → BitVec 32 :=
  (Host.topK S32768x2 1 (FloatOps.cmpfTotal (F := Ideal) (φ := .f32) .gt) z Facts₀.sliceFits_S32768x8_S32768x2).2

/-- their logits, -/
def best (z : S32768x8.Idx → EReal) : FVec Ideal S32768x2 .f32 :=
  (Host.topK S32768x2 1 (FloatOps.cmpfTotal (F := Ideal) (φ := .f32) .gt) z Facts₀.sliceFits_S32768x8_S32768x2).1

/-- the exponentials of them, relative to the greater, -/
def grown (z : S32768x8.Idx → EReal) : FVec Ideal S32768x2 .f32 :=
  Host.exp (subf (best z) (broadcastInDim S32768x2 ![0, 1] Facts₀.bcast_S32768x1_S32768x2_0_1 (broadcastInDim S32768x1 ![0] Facts₀.bcast_S32768_S32768x1_0
    (maximumf (broadcastInDim S32768 ![] Facts₀.bcast_S_S32768 (constant (F := Ideal) S_ .f32 0xFF800000#32))
      (Host.reduce FloatOps.maximumf (best z) (constant (F := Ideal) S_ .f32 0xFF800000#32) Facts₀.reducesTo_S32768x2_S32768_d1 Facts₀.h_S_)))))

/-- and their gates: the softmax of the two. -/
def gates (z : S32768x8.Idx → EReal) : FVec Ideal S32768x2 .f32 :=
  Host.divf (grown z) (broadcastInDim S32768x2 ![0, 1] Facts₀.bcast_S32768x1_S32768x2_0_1 (broadcastInDim S32768x1 ![0] Facts₀.bcast_S32768_S32768x1_0
    (Host.reduceAdd (grown z) (constant (F := Ideal) S_ .f32 0x00000000#32) Facts₀.reducesTo_S32768x2_S32768_d1 Facts₀.h_S_)))

/-- The host's operations after the region. -/
abbrev tail : List (List (HloOp τ sig (Elt Ideal))) := [hostOps1]

/-- The logits the host makes of the region's product. -/
def tailLogits (p : S32768x128.Idx → EReal) (b : S8.Idx → EReal) : S32768x8.Idx → EReal := fun i =>
  p (ix2 (i 0) ⟨((i 1 : Fin 8) : ℕ), by have h : ((i 1 : Fin 8) : ℕ) < 8 := (i 1).isLt; omega⟩) + b (ix1 (i 1))

/-- They are what the host's slice and sum print. -/
theorem tailLogits_eq (p : S32768x128.Idx → EReal) (b : S8.Idx → EReal) :
    (addf (F := Ideal) (φ := .f32) (extractStridedSlice S32768x8 ![0, 0] p Facts₀.slices_S32768x128_S32768x8_0_0)
      (broadcastInDim S32768x8 ![0, 1] Facts₀.bcast_S1x8_S32768x8_0_1 (broadcastInDim S1x8 ![1] Facts₀.bcast_S8_S1x8_1 b)) : S32768x8.Idx → EReal)
      = tailLogits p b := by
  refine funext fun (i : S32768x8.Idx) => ?_
  obtain ⟨r, d, rfl⟩ : ∃ (r : Fin 32768) (d : Fin 8), i = ix2 r d := ⟨i 0, i 1, funext fun a => match a with | ⟨0, _⟩ => rfl | ⟨1, _⟩ => rfl⟩
  unfold tailLogits
  pointwise

/-- The experts the host chooses. -/
theorem tail_chosen (U : Valuation τ sig (Elt Ideal)) :
    (StableHlo.after (List.flatten tail) U (Proc.tc.devRef main_indices) : S32768x2.Idx → BitVec 32) = chosen (tailLogits (U (Proc.tc.devRef main_v1)) (U (Proc.tc.devRef main_arg2))) := by
  rw [← tailLogits_eq]
  after_reads_simp
  rfl

/-- The gates the host gives them. -/
theorem tail_gates (U : Valuation τ sig (Elt Ideal)) :
    (StableHlo.after (List.flatten tail) U (Proc.tc.devRef main_v16) : S32768x2.Idx → EReal) = gates (tailLogits (U (Proc.tc.devRef main_v1)) (U (Proc.tc.devRef main_arg2))) := by
  rw [← tailLogits_eq]
  after_reads_simp
  rfl

section
variable (m : (ℓ : Loc nD τ sig) → Buf (Elt Ideal) ℓ) (c : Dev nD)

/-- The kernel's arguments, as arrays of extended reals. -/
abbrev argX : S32768x1024.Idx → EReal := m ((c : Thread nD τ).loc main_arg0)
abbrev argW : S1024x8.Idx → EReal := m ((c : Thread nD τ).loc main_arg1)
abbrev argB : S8.Idx → EReal := m ((c : Thread nD τ).loc main_arg2)

/-- The rows and the weight the region reads. -/
abbrev rows : S32768x1024.Idx → EReal := V m c main_arg0
abbrev weight : S1024x128.Idx → EReal := V m c main_v0

/-- The product the region leaves. -/
def product : S32768x128.Idx → EReal := fun i => splitSum (fun e => rows m c (ix2 (i 0) e)) (fun e => weight m c (ix2 e (i 1)))

/-- What point `t` writes back is its block of the product. -/
theorem flushed_eq (t : Fin cfg0.N) : (dats m 0 c).flushed 2 t = ((cfg0.win 2).blk t).view.read (Elt Ideal) (product m c) := by
  show (cfg0.win 2).cut (grid0.coords t) ((dats m 0 c).after 2 t) = _
  rw [after0_2]
  refine funext fun (y : S1024x128.Idx) => ?_
  obtain ⟨r, d, rfl⟩ : ∃ (r : Fin 1024) (d : Fin 128), y = ix2 r d := ⟨y 0, y 1, funext fun a => match a with | ⟨0, _⟩ => rfl | ⟨1, _⟩ => rfl⟩
  refine (out_apply _ _ r d).trans ?_
  refine Eq.trans ?_ (congrArg (product m c) (emb_o t r d)).symm
  show _ = splitSum (fun e => rows m c (ix2 (rowAt t r) e)) (fun e => weight m c (ix2 e d))
  refine congrArg₂ splitSum (funext fun e => ?_) (funext fun e => ?_)
  · exact congrArg (rows m c) (emb_x t r e)
  · exact congrArg (weight m c) (emb_w t _)

/-- Every index of the product lies in a point's block. -/
theorem covered (i : S32768x128.Idx) : ∃ t : Fin cfg0.N, (cfg0.win 2).flush t = true ∧ i ∈ ((cfg0.win 2).blk t).view.set := by
  have h0 : (i 0).val < 32768 := (i 0).isLt
  have h1 : (i 1).val < 128 := (i 1).isLt
  have hN : (i 0).val / 1024 < grid0.N := by rw [points]; omega
  refine ⟨⟨(i 0).val / 1024, hN⟩, flush0_2 _, ?_⟩
  show i ∈ ((View.whole main_v1).slice (win0_2.rect ⟨(i 0).val / 1024, hN⟩)).set
  rw [View.set_slice_whole, Rect.mem_set_unit]
  intro a
  show win0_2.index ⟨(i 0).val / 1024, hN⟩ a * win0_2.size a ≤ (i a).val ∧ (i a).val < win0_2.index ⟨(i 0).val / 1024, hN⟩ a * win0_2.size a + win0_2.xsize (grid0.coords ⟨(i 0).val / 1024, hN⟩) a
  rw [index_o]
  match a with
  | ⟨0, _⟩ => show (i 0).val / 1024 * 1024 ≤ (i 0).val ∧ (i 0).val < (i 0).val / 1024 * 1024 + 1024; omega
  | ⟨1, _⟩ => show 0 * 128 ≤ (i 1).val ∧ (i 1).val < 0 * 128 + 128; omega

/-- The array the region leaves is the product. -/
theorem final_eq : (dats m 0 c).arrAt 2 cfg0.N = product m c :=
  (dats m 0 c).arrAt_eq_of_cover 2 (product m c) (fun t _ => flushed_eq m c t) covered

/-- The weight's columns before its padding are the argument's. -/
theorem weight_apply (e : Fin 1024) (d : Fin 8) : weight m c (ix2 e ⟨d.val, by omega⟩) = argW m c (ix2 e d) := by
  unfold weight
  after_reads_simp
  simp -implicitDefEqProofs only [StableHlo.TRef.toBuf, StableHlo.TRef.ofBuf, cast_cast, cast_eq]
  pointwise

/-- What the device's buffers hold when the region has ended. -/
def ended : Valuation τ sig (Elt Ideal) :=
  Pipeline.withArrays (cfgs 0).spec c (V0 m c) fun w => (dats m 0 c).arrAt w (cfgs 0).N

/-- The region's result then holds the product. -/
theorem ended_product : ended m c (Proc.tc.devRef main_v1) = product m c :=
  (Pipeline.withArrays_arr _ winFacts0.arr_inj c (V0 m c) _ 2).trans (final_eq m c)

/-- The bias is still the argument's. -/
theorem ended_bias : ended m c (Proc.tc.devRef main_arg2) = argB m c :=
  (Pipeline.withArrays_of_ne _ c (V0 m c) _ main_arg2 (by exact (by decide : ∀ w, Pipeline.arrRef spec0 w ≠ main_arg2))).trans (V_main_arg2 m c)

/-- Of real rows and weights, the host's logits are the plain ones. -/
theorem ended_logits (hx : ∀ i, argX m c i = (((argX m c i).toReal : ℝ) : EReal)) (hw : ∀ i, argW m c i = (((argW m c i).toReal : ℝ) : EReal)) :
    tailLogits (ended m c (Proc.tc.devRef main_v1)) (ended m c (Proc.tc.devRef main_arg2)) = logits (argX m c) (argW m c) (argB m c) := by
  rw [ended_product, ended_bias]
  refine funext fun (i : S32768x8.Idx) => ?_
  obtain ⟨r, d, rfl⟩ : ∃ (r : Fin 32768) (d : Fin 8), i = ix2 r d := ⟨i 0, i 1, funext fun a => match a with | ⟨0, _⟩ => rfl | ⟨1, _⟩ => rfl⟩
  refine congrArg (· + argB m c (ix1 d)) ?_
  show splitSum (fun e => rows m c (ix2 r e)) (fun e => weight m c (ix2 e ⟨d.val, by omega⟩)) = ∑ e : Fin 1024, argX m c (ix2 r e) * argW m c (ix2 e d)
  rw [show (fun e => weight m c (ix2 e ⟨d.val, by omega⟩)) = fun e => argW m c (ix2 e d) from funext fun e => weight_apply m c e d,
    show (fun e => rows m c (ix2 r e)) = fun e => argX m c (ix2 r e) from funext fun e => congrFun (V_main_arg0 m c) (ix2 r e)]
  exact splitSum_real _ _ (fun e => hx _) (fun e => hw _)

end

/-- On real rows and weights, the kernel runs to the gates and the experts of its logits, and leaves its arguments as they were. -/
theorem run (m : (ℓ : Loc nD τ sig) → Buf (Elt Ideal) ℓ) (ρ : Dev nD → PrngReg)
    (hx : ∀ c i, argX m c i = (((argX m c i).toReal : ℝ) : EReal)) (hw : ∀ c i, argW m c i = (((argW m c i).toReal : ℝ) : EReal)) :
    θ_run defs (onTc (τ := τ) (main (F := Ideal))) ⟨m, fun _ => 0, ρ⟩ fun r => ∀ c : Dev nD,
      r.2.mem ((c : Thread nD τ).loc main_v16) = gates (logits (argX m c) (argW m c) (argB m c))
      ∧ r.2.mem ((c : Thread nD τ).loc main_indices) = chosen (logits (argX m c) (argW m c) (argB m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h.1 c).2 main_v16 (by decide)).trans ((tail_gates (ended m c)).trans (congrArg gates (ended_logits m c (hx c) (hw c)))),
      ((h.1 c).2 main_indices (by decide)).trans ((tail_chosen (ended m c)).trans (congrArg chosen (ended_logits m c (hx c) (hw c)))), h.2 c⟩)
    (θ_run_and (run_main m ρ) (unchanged m ρ))

/-- The reference's logits. -/
theorem ref_logits (x : S32768x1024.Idx → EReal) (w : S1024x8.Idx → EReal) (b : S8.Idx → EReal) :
    Reference7Ideal.Read.val_main_v3 (F := Ideal) x w b = logits x w b := by
  refine funext fun (i : Reference7Ideal.S32768x8.Idx) => ?_
  obtain ⟨r, d, rfl⟩ : ∃ (r : Fin 32768) (d : Fin 8), i = ix2 r d := ⟨i 0, i 1, funext fun a => match a with | ⟨0, _⟩ => rfl | ⟨1, _⟩ => rfl⟩
  unfold logits
  pointwise [Reference7Ideal.Read.val_main_v3, Reference7Ideal.Read.val_main_v0, Reference7Ideal.Read.val_main_v1, Reference7Ideal.Read.val_main_v2]

/-- The experts the reference chooses. -/
theorem ref_chosen (x : S32768x1024.Idx → EReal) (w : S1024x8.Idx → EReal) (b : S8.Idx → EReal) :
    Reference7Ideal.Read.val_main_indices (F := Ideal) x w b = chosen (logits x w b) := by
  rw [← ref_logits]
  rfl

/-- The gates the reference gives them. -/
theorem ref_gates (x : S32768x1024.Idx → EReal) (w : S1024x8.Idx → EReal) (b : S8.Idx → EReal) :
    Reference7Ideal.Read.val_main_v14 (F := Ideal) x w b = gates (logits x w b) := by
  rw [← ref_logits]
  rfl

/-- The precondition, opened: the rows and the weight are real. -/
theorem real_of_pre (x : S32768x1024.Idx → EReal) (w : S1024x8.Idx → EReal) (b : S8.Idx → EReal) (h : Cert.Pre_finite7.fn (F := Ideal) x w b = fun _ => 1#1) :
    (∀ i, x i = (((x i).toReal : ℝ) : EReal)) ∧ (∀ i, w i = (((w i).toReal : ℝ) : EReal)) := by
  have e := congrFun h ix0
  have both : ∀ a b : BitVec 1, IntOp.andi a b = 1#1 → a = 1#1 ∧ b = 1#1 := by decide
  obtain ⟨e0, e1⟩ := both _ _ e
  exact ⟨Forgetting.real_of_all x _ _ _ _ _ e0, Forgetting.real_of_all w _ _ _ _ _ e1⟩

end Cert.Router

end
-- ==== Proof.lean ====
/- The proof of the certificate: the frames of each kernel, its ideal reading and its reference; and that, over the
   real numbers, the tiled stick-breaking and forgetting attention, the dense feed-forward, the experts' feed-forward, the projection to
   queries, keys, values and gates, the merge of the heads and the router are the plain formulas of their references. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.RefValue
public import proofs.«01_k».proof.Proof.Finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.FfnTable
public import proofs.«01_k».proof.Proof.FfnArray
public import proofs.«01_k».proof.Proof.FfnReference
public import proofs.«01_k».proof.Proof.ExpertTable
public import proofs.«01_k».proof.Proof.ExpertArray
public import proofs.«01_k».proof.Proof.ExpertReference
public import proofs.«01_k».proof.Proof.MergeArray
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Project
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Pre_finite6
public import proofs.«01_k».proof.Proof.FoxArray
public import proofs.«01_k».proof.Proof.FoxFinite
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Pre_finite7
public import proofs.«01_k».proof.Proof.RouterArray
public import Idealize.ShloMosaic.Lib.Quiescent
public import Idealize.ShloMosaic.Adequacy
public import Idealize.ShloMosaic.Init

@[expose] public section

noncomputable section

namespace Cert.Proof

open Idealize.ShloMosaic Idealize.SL.Sem Cert.StickBreaking

/-- The reference runs, leaves its arguments as they were, and every counter at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On real arguments, the kernel and the reference both leave the stick-breaking attention of them. -/
theorem algebraic : Cert.algebraic_KernelIdeal_ReferenceIdeal_pre_finite := by
  intro m ρ m' ρ' pre agree
  have real := fun c => real_of_pre _ _ _ (pre c)
  refine ⟨fun c => result (fun i => ((m ((c.tc : Thread Cert.KernelIdeal.nD Cert.KernelIdeal.τ).loc Cert.KernelIdeal.main_arg0) : Cert.KernelIdeal.S8x4096x4x64.Idx → EReal) i).toReal)
    (fun i => ((m ((c.tc : Thread Cert.KernelIdeal.nD Cert.KernelIdeal.τ).loc Cert.KernelIdeal.main_arg1) : Cert.KernelIdeal.S8x4096x4x64.Idx → EReal) i).toReal)
    (fun i => ((m ((c.tc : Thread Cert.KernelIdeal.nD Cert.KernelIdeal.τ).loc Cert.KernelIdeal.main_arg2) : Cert.KernelIdeal.S8x4096x4x64.Idx → EReal) i).toReal), ?_, ?_⟩
  · exact (θ_run _ _ _).mono (fun _ h c => ⟨(h c).1.trans (final_eq m c _ _ _ (real c).1 (real c).2.1 (real c).2.2), (h c).2⟩)
      (Cert.KernelIdeal.Value.run_blocks m ρ)
  · refine (θ_run _ _ _).mono (fun _ h c => ⟨(h c).1.trans ?_, (h c).2⟩) (Cert.ReferenceIdeal.Value.run (F := Ideal) m' ρ')
    rw [Cert.ReferenceIdeal.Read.val_main_v18_eq, (agree c).1, (agree c).2.1, (agree c).2.2]
    exact reference_eq _ _ _ _ _ _ (real c).1 (real c).2.1 (real c).2.2

/-- The reference of the feed-forward runs and leaves its arguments as they were. -/
theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The kernel and the reference both leave the feed-forward of their arguments. -/
theorem algebraic2 : Cert.algebraic_Kernel2Ideal_Reference2Ideal := by
  intro m ρ m' ρ' _ agree
  refine ⟨fun c => FeedForward.result m c, FeedForward.run m ρ, ?_⟩
  refine (θ_run _ _ _).mono (fun _ h c => ⟨(h c).1.trans ?_, (h c).2⟩) (Cert.Reference2Ideal.Value.run (F := Ideal) m' ρ')
  rw [Cert.Reference2Ideal.Read.val_main_v7_eq, (agree c).1, (agree c).2.1, (agree c).2.2.1, (agree c).2.2.2]
  exact FeedForward.reference_eq _ _ _ _

/-- The reference of the experts' feed-forward runs and leaves its arguments as they were. -/
theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The kernel and the reference both leave the experts' feed-forward of their arguments. -/
theorem algebraic3 : Cert.algebraic_Kernel3Ideal_Reference3Ideal := by
  intro m ρ m' ρ' _ agree
  refine ⟨fun c => Experts.result m c, Experts.run m ρ, ?_⟩
  refine (θ_run _ _ _).mono (fun _ h c => ⟨(h c).1.trans ?_, (h c).2⟩) (Cert.Reference3Ideal.Value.run (F := Ideal) m' ρ')
  rw [Cert.Reference3Ideal.Read.val_main_v42_eq, (agree c).1, (agree c).2.1, (agree c).2.2.1, (agree c).2.2.2.1, (agree c).2.2.2.2]
  obtain rfl := Experts.dev_zero c
  exact Experts.reference_eq _ _ _ _ _

/-- The reference of the projection runs and leaves its arguments as they were. -/
theorem frame_reference4 : Cert.quiescent_Reference4Ideal := fun m ρ _ =>
  (θ_run Cert.Reference4Ideal.defs _ _).mono (fun r h => ⟨fun c => (h c).2.2.2.2, sem_eq_zero_of_no_sems (by decide) r.2⟩)
    (Cert.Reference4Ideal.Value.run (F := Ideal) m ρ)

/-- The kernel and the reference both leave the queries, keys, values and gates of their arguments. -/
theorem algebraic4 : Cert.algebraic_Kernel4Ideal_Reference4Ideal := by
  intro m ρ m' ρ' _ agree
  refine ⟨fun c => Project.queries (Project.argX m c) (Project.argW m c), fun c => Project.keys (Project.argX m c) (Project.argW m c),
    fun c => Project.values (Project.argX m c) (Project.argW m c), fun c => Project.gates (Project.argX m c) (Project.argW m c) (Project.argB m c),
    Project.run m ρ, ?_⟩
  refine (θ_run _ _ _).mono (fun _ h c => ⟨(h c).1.trans ?_, (h c).2.1.trans ?_, (h c).2.2.1.trans ?_, (h c).2.2.2.1.trans ?_, (h c).2.2.2.2⟩)
    (Cert.Reference4Ideal.Value.run (F := Ideal) m' ρ')
  · rw [Cert.Reference4Ideal.Read.val_main_v46_eq, (agree c).1, (agree c).2.1]
    exact Project.ref_queries _ _
  · rw [Cert.Reference4Ideal.Read.val_main_v80_eq, (agree c).1, (agree c).2.1]
    exact Project.ref_keys _ _
  · rw [Cert.Reference4Ideal.Read.val_main_v6_eq, (agree c).1, (agree c).2.1]
    exact Project.ref_values _ _
  · rw [Cert.Reference4Ideal.Read.val_main_v11_eq, (agree c).1, (agree c).2.1, (agree c).2.2]
    exact Project.ref_gates _ _ _

/-- The reference of the merge runs and leaves its arguments as they were. -/
theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The kernel and the reference both leave the merge of their arguments. -/
theorem algebraic5 : Cert.algebraic_Kernel5Ideal_Reference5Ideal := by
  intro m ρ m' ρ' _ agree
  refine ⟨fun c => Merge.result m c, ?_, ?_⟩
  · exact (θ_run _ _ _).mono (fun _ h c => ⟨(h c).1.trans (Merge.final_eq m c), (h c).2⟩)
      (Cert.Kernel5Ideal.Value.run_blocks m ρ)
  · refine (θ_run _ _ _).mono (fun _ h c => ⟨(h c).1.trans ?_, (h c).2⟩) (Cert.Reference5Ideal.Value.run (F := Ideal) m' ρ')
    rw [Cert.Reference5Ideal.Read.val_main_v41_eq, (agree c).1, (agree c).2.1, (agree c).2.2.1, (agree c).2.2.2.1, (agree c).2.2.2.2]
    exact Merge.reference_eq _ _ _ _ _

/-- The reference of the forgetting attention runs and leaves its arguments as they were. -/
theorem frame_reference6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The mask of the forgetting attention is named minus infinity. -/
theorem preserves6 : Cert.preserves_Kernel6_Kernel6Ideal :=
  IdealRules.named_const.statement _ _ _ _ _ rfl

/-- An array of extended reals as one of reals. -/
abbrev realPart {I : Type} (x : I → EReal) : I → ℝ := fun i => (x i).toReal

/-- On real arguments, the kernel and the reference both leave the forgetting attention of them. -/
theorem algebraic6 : Cert.algebraic_Kernel6Ideal_Reference6Ideal_pre_finite6 := by
  intro m ρ m' ρ' pre agree
  have real := fun c => Forgetting.real_of_pre _ _ _ _ (pre c)
  refine ⟨fun c => Forgetting.result
    (realPart (m ((c.tc : Thread Cert.Kernel6Ideal.nD Cert.Kernel6Ideal.τ).loc Cert.Kernel6Ideal.main_arg0) : Cert.Kernel6Ideal.S8x4096x6x64.Idx → EReal))
    (realPart (m ((c.tc : Thread Cert.Kernel6Ideal.nD Cert.Kernel6Ideal.τ).loc Cert.Kernel6Ideal.main_arg1) : Cert.Kernel6Ideal.S8x4096x6x64.Idx → EReal))
    (realPart (m ((c.tc : Thread Cert.Kernel6Ideal.nD Cert.Kernel6Ideal.τ).loc Cert.Kernel6Ideal.main_arg2) : Cert.Kernel6Ideal.S8x4096x6x64.Idx → EReal))
    (realPart (m ((c.tc : Thread Cert.Kernel6Ideal.nD Cert.Kernel6Ideal.τ).loc Cert.Kernel6Ideal.main_arg3) : Cert.Kernel6Ideal.S8x4096x6.Idx → EReal)), ?_, ?_⟩
  · exact (θ_run _ _ _).mono (fun _ h c => ⟨(h c).1.trans
      (Forgetting.final_eq m c _ _ _ _ (real c).1 (real c).2.1 (real c).2.2.1 (real c).2.2.2), (h c).2⟩) (Cert.Kernel6Ideal.Value.run_blocks m ρ)
  · refine (θ_run _ _ _).mono (fun _ h c => ⟨(h c).1.trans ?_, (h c).2⟩) (Cert.Reference6Ideal.Value.run (F := Ideal) m' ρ')
    rw [Cert.Reference6Ideal.Read.val_main_v30_eq, (agree c).1, (agree c).2.1, (agree c).2.2.1, (agree c).2.2.2]
    exact Forgetting.reference_eq _ _ _ _ _ _ _ _ (real c).1 (real c).2.1 (real c).2.2.1 (real c).2.2.2

/-- The reference of the router runs and leaves its arguments as they were. -/
theorem frame_reference7 : Cert.quiescent_Reference7Ideal := fun m ρ _ =>
  (θ_run Cert.Reference7Ideal.defs _ _).mono (fun r h => ⟨fun c => (h c).2.2, sem_eq_zero_of_no_sems (by decide) r.2⟩)
    (Cert.Reference7Ideal.Value.run (F := Ideal) m ρ)

/-- On real rows and weights, the kernel and the reference both leave the gates and the experts of the same logits. -/
theorem algebraic7 : Cert.algebraic_Kernel7Ideal_Reference7Ideal_pre_finite7 := by
  intro m ρ m' ρ' pre agree
  have real := fun c => Router.real_of_pre _ _ _ (pre c)
  refine ⟨fun c => Router.gates (Router.logits (Router.argX m c) (Router.argW m c) (Router.argB m c)),
    fun c => Router.chosen (Router.logits (Router.argX m c) (Router.argW m c) (Router.argB m c)),
    Router.run m ρ (fun c => (real c).1) (fun c => (real c).2), ?_⟩
  refine (θ_run _ _ _).mono (fun _ h c => ⟨(h c).1.trans ?_, (h c).2.1.trans ?_, (h c).2.2⟩) (Cert.Reference7Ideal.Value.run (F := Ideal) m' ρ')
  · rw [Cert.Reference7Ideal.Read.val_main_v14_eq, (agree c).1, (agree c).2.1, (agree c).2.2]
    exact Router.ref_gates _ _ _
  · rw [Cert.Reference7Ideal.Read.val_main_indices_eq, (agree c).1, (agree c).2.1, (agree c).2.2]
    exact Router.ref_chosen _ _ _

/-- Everything that is claimed of the seven calls. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Pre_finite.Gen.facts, Cert.Pre_finite6.Gen.facts, Cert.Pre_finite7.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Kernel2.Gen.frame m ρ (FeedForward.ok_kernel m), fun m ρ _ => Cert.Kernel2Ideal.Gen.frame m ρ (FeedForward.ok_ideal m), frame_reference2,
  fun m ρ _ => Cert.Kernel3.Gen.frame m ρ (Experts.ok_kernel m), fun m ρ _ => Cert.Kernel3Ideal.Gen.frame m ρ (Experts.ok_ideal m), frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, fun m ρ _ => Cert.Kernel6Ideal.Gen.frame m ρ,
  frame_reference6, fun m ρ _ => frame_reference6 m ρ trivial,
  fun m ρ _ => Cert.Kernel7.Gen.frame m ρ, fun m ρ _ => Cert.Kernel7Ideal.Gen.frame m ρ, fun m ρ _ => Cert.Kernel7Ideal.Gen.frame m ρ,
  frame_reference7, fun m ρ _ => frame_reference7 m ρ trivial,
  trivial, algebraic, trivial, algebraic2, trivial, algebraic3, trivial, algebraic4, trivial, algebraic5, preserves6, algebraic6, trivial, algebraic7⟩

end Cert.Proof

end
